-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_tables : Cert.Pre_tables.Facts] (m : (ℓ : Loc Cert.Kernel4.nD Cert.Kernel4.τ Cert.Kernel4.sig) → Buf (Elt Bits) ℓ) : Prop :=
  ∀ c : Dev Cert.Kernel4.nD,
    (Cert.Pre_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_tables : Cert.Pre_tables.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal [hPre_tables : Cert.Pre_tables.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_tables : Cert.Pre_tables.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_tables : Cert.Pre_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] [hPre_tables : Cert.Pre_tables.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] [hPre_tables : Cert.Pre_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables : Cert.Pre_tables.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_tables := hPre_tables)
    ∧ quiescent_Kernel4Ideal (hKernel4Ideal := hKernel4Ideal) (hPre_tables := hPre_tables)
    ∧ quiescent_Reference4Ideal (hReference4Ideal := hReference4Ideal) (hPre_tables := hPre_tables)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_tables := hPre_tables)
-- ==== Pre_tables.lean ====
abbrev S49152x2048 : Shape := ⟨2, ![49152, 2048]⟩
abbrev S416x1x256 : Shape := ⟨3, ![416, 1, 256]⟩
abbrev S416 : Shape := ⟨1, ![416]⟩
abbrev S32x2048x512 : Shape := ⟨3, ![32, 2048, 512]⟩
abbrev S32x512x2048 : Shape := ⟨3, ![32, 512, 2048]⟩
abbrev S_ : Shape := ⟨0, ![]⟩
abbrev S106496 : Shape := ⟨1, ![106496]⟩
abbrev S106496x1 : Shape := ⟨2, ![106496, 1]⟩

class Facts : Prop where
  bcast_S_S416x1x256 : S_.BroadcastsInDim S416x1x256 (![] : Fin 0 → Fin S416x1x256.rank)
  reducesTo_S416x1x256_S_d0_1_2 : S416x1x256.ReducesTo [0, 1, 2] S_
  h_S_ : 0 < S_.numel
  bcast_S_S416 : S_.BroadcastsInDim S416 (![] : Fin 0 → Fin S416.rank)
  reducesTo_S416_S_d0 : S416.ReducesTo [0] S_
  bcast_S_S106496 : S_.BroadcastsInDim S106496 (![] : Fin 0 → Fin S106496.rank)
  shapeCasts_S416x1x256_S106496 : S416x1x256.ShapeCasts S106496
  bcast_S106496_S106496x1_0 : S106496.BroadcastsInDim S106496x1 (![0] : Fin 1 → Fin S106496x1.rank)
  reducesTo_S106496_S_d0 : S106496.ReducesTo [0] S_
  scatter_S106496_S106496x1_S106496_n_0_0_1_wf : ScatterDims.WF S106496 S106496x1 S106496 [] [0] [0] 1

variable [Facts]

def scatter_S106496_S106496x1_S106496_n_0_0_1 : ScatterDims S106496 S106496x1 S106496 where
  updateWindowDims := []
  insertedWindowDims := [0]
  scatterDimsToOperandDims := [0]
  indexVectorDim := 1
  wf := scatter_S106496_S106496x1_S106496_n_0_0_1_wf
def fn_part2 {F : FTy → Type} [FloatOps F] (main_v19 : IVec S_ 1) (main_v32 : IVec S_ 1) : IVec S_ 1 :=
  let main_v33 : IVec S_ 1 := andi main_v19 main_v32
  main_v33

def fn_part1 {F : FTy → Type} [FloatOps F] (main_arg2 : IVec S416x1x256 32) (main_arg3 : IVec S416 32) (main_v12 : IVec S_ 1) (main_v14 : IVec S416 1) (main_v15 : IVec S416 32) : IVec S_ 1 :=
  let main_v16 : IVec S416 1 := cmpi .slt main_arg3 main_v15
  let main_v17 : IVec S416 1 := andi main_v14 main_v16
  let main_c_7 : IVec S_ 1 := constantI S_ 1 1#1
  let main_v18 : IVec S_ 1 := (fun x v => Host.reduce IntOp.andi x v reducesTo_S416_S_d0 h_S_) main_v17 main_c_7
  let main_v19 : IVec S_ 1 := andi main_v12 main_v18
  let main_c_8 : IVec S_ 32 := constantI S_ 32 0#32
  let main_v20 : IVec S106496 32 := broadcastInDim S106496 ![] bcast_S_S106496 main_c_8
  let main_v21 : IVec S106496 32 := shapeCast S106496 main_arg2 shapeCasts_S416x1x256_S106496
  let main_c_9 : IVec S_ 32 := constantI S_ 32 0#32
  let main_v22 : IVec S106496 32 := broadcastInDim S106496 ![] bcast_S_S106496 main_c_9
  let main_v23 : IVec S106496 1 := cmpi .slt main_v21 main_v22
  let main_c_10 : IVec S_ 32 := constantI S_ 32 106496#32
  let main_v24 : IVec S106496 32 := broadcastInDim S106496 ![] bcast_S_S106496 main_c_10
  let main_v25 : IVec S106496 32 := addi main_v21 main_v24
  let main_v26 : IVec S106496 32 := select main_v23 main_v25 main_v21
  let main_v27 : IVec S106496x1 32 := broadcastInDim S106496x1 ![0] bcast_S106496_S106496x1_0 main_v26
  let main_c_11 : IVec S_ 32 := constantI S_ 32 1#32
  let main_v28 : IVec S106496 32 := broadcastInDim S106496 ![] bcast_S_S106496 main_c_11
  let main_v29 : IVec S106496 32 := (fun x i u => Host.scatter scatter_S106496_S106496x1_S106496_n_0_0_1 IntOp.addi x i u) main_v20 main_v27 main_v28
  let main_c_12 : IVec S_ 32 := constantI S_ 32 1#32
  let main_v30 : IVec S106496 32 := broadcastInDim S106496 ![] bcast_S_S106496 main_c_12
  let main_v31 : IVec S106496 1 := cmpi .eq main_v29 main_v30
  let main_c_13 : IVec S_ 1 := constantI S_ 1 1#1
  let main_v32 : IVec S_ 1 := (fun x v => Host.reduce IntOp.andi x v reducesTo_S106496_S_d0 h_S_) main_v31 main_c_13
  fn_part2 (F := F) main_v19 main_v32

def fn {F : FTy → Type} [FloatOps F] (main_arg0 : FVec F S49152x2048 .f32) (main_arg1 : IVec S416x1x256 32) (main_arg2 : IVec S416x1x256 32) (main_arg3 : IVec S416 32) (main_arg4 : FVec F S32x2048x512 .f32) (main_arg5 : FVec F S32x2048x512 .f32) (main_arg6 : FVec F S32x512x2048 .f32) : IVec S_ 1 :=
  let main_c : IVec S_ 32 := constantI S_ 32 0#32
  let main_v0 : IVec S416x1x256 32 := broadcastInDim S416x1x256 ![] bcast_S_S416x1x256 main_c
  let main_v1 : IVec S416x1x256 1 := cmpi .sge main_arg1 main_v0
  let main_c_0 : IVec S_ 32 := constantI S_ 32 49152#32
  let main_v2 : IVec S416x1x256 32 := broadcastInDim S416x1x256 ![] bcast_S_S416x1x256 main_c_0
  let main_v3 : IVec S416x1x256 1 := cmpi .slt main_arg1 main_v2
  let main_v4 : IVec S416x1x256 1 := andi main_v1 main_v3
  let main_c_1 : IVec S_ 1 := constantI S_ 1 1#1
  let main_v5 : IVec S_ 1 := (fun x v => Host.reduce IntOp.andi x v reducesTo_S416x1x256_S_d0_1_2 h_S_) main_v4 main_c_1
  let main_c_2 : IVec S_ 32 := constantI S_ 32 0#32
  let main_v6 : IVec S416x1x256 32 := broadcastInDim S416x1x256 ![] bcast_S_S416x1x256 main_c_2
  let main_v7 : IVec S416x1x256 1 := cmpi .sge main_arg2 main_v6
  let main_c_3 : IVec S_ 32 := constantI S_ 32 106496#32
  let main_v8 : IVec S416x1x256 32 := broadcastInDim S416x1x256 ![] bcast_S_S416x1x256 main_c_3
  let main_v9 : IVec S416x1x256 1 := cmpi .slt main_arg2 main_v8
  let main_v10 : IVec S416x1x256 1 := andi main_v7 main_v9
  let main_c_4 : IVec S_ 1 := constantI S_ 1 1#1
  let main_v11 : IVec S_ 1 := (fun x v => Host.reduce IntOp.andi x v reducesTo_S416x1x256_S_d0_1_2 h_S_) main_v10 main_c_4
  let main_v12 : IVec S_ 1 := andi main_v5 main_v11
  let main_c_5 : IVec S_ 32 := constantI S_ 32 0#32
  let main_v13 : IVec S416 32 := broadcastInDim S416 ![] bcast_S_S416 main_c_5
  let main_v14 : IVec S416 1 := cmpi .sge main_arg3 main_v13
  let main_c_6 : IVec S_ 32 := constantI S_ 32 32#32
  let main_v15 : IVec S416 32 := broadcastInDim S416 ![] bcast_S_S416 main_c_6
  fn_part1 (F := F) main_arg2 main_arg3 main_v12 main_v14 main_v15
-- ==== Kernel.lean ====
abbrev S49152x2048 : Shape := ⟨2, ![49152, 2048]⟩
abbrev S790528x128 : Shape := ⟨2, ![790528, 128]⟩
abbrev S49152x128 : Shape := ⟨2, ![49152, 128]⟩
abbrev S2048 : Shape := ⟨1, ![2048]⟩
abbrev S1x2048 : Shape := ⟨2, ![1, 2048]⟩
abbrev S32768x2048 : Shape := ⟨2, ![32768, 2048]⟩
abbrev S512x2048 : Shape := ⟨2, ![512, 2048]⟩
abbrev S4096x128 : Shape := ⟨2, ![4096, 128]⟩
abbrev S512x128 : Shape := ⟨2, ![512, 128]⟩
abbrev S512x1 : Shape := ⟨2, ![512, 1]⟩
abbrev S512 : Shape := ⟨1, ![512]⟩
abbrev S1x128 : Shape := ⟨2, ![1, 128]⟩

abbrev nBuf : Space → Nat
  | .hbm => 6
  | .vmem => 11
  | .smem => 0
  | _ => 0

abbrev bufTy : (tb : Table) → Fin (tcTables nBuf tb) → BufTy
  | .hbm, ⟨0, _⟩ => ⟨S49152x2048, .f32⟩
  | .hbm, ⟨1, _⟩ => ⟨S790528x128, .i32⟩
  | .hbm, ⟨2, _⟩ => ⟨S49152x128, .f32⟩
  | .hbm, ⟨3, _⟩ => ⟨S2048, .f32⟩
  | .hbm, ⟨4, _⟩ => ⟨S1x2048, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S4096x128, .i32⟩
  | .local _ .vmem, ⟨3, _⟩ => ⟨S4096x128, .i32⟩
  | .local _ .vmem, ⟨4, _⟩ => ⟨S4096x128, .i32⟩
  | .local _ .vmem, ⟨5, _⟩ => ⟨S4096x128, .i32⟩
  | .local _ .vmem, ⟨6, _⟩ => ⟨S512x128, .f32⟩
  | .local _ .vmem, ⟨7, _⟩ => ⟨S512x128, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S49152x2048 : Shape := ⟨2, ![49152, 2048]⟩
abbrev S790528x128 : Shape := ⟨2, ![790528, 128]⟩
abbrev S49152x128 : Shape := ⟨2, ![49152, 128]⟩
abbrev S2048 : Shape := ⟨1, ![2048]⟩
abbrev S790528x128x2 : Shape := ⟨3, ![790528, 128, 2]⟩
abbrev S98816x8x128x2 : Shape := ⟨4, ![98816, 8, 128, 2]⟩
abbrev S98816x2x8x128 : Shape := ⟨4, ![98816, 2, 8, 128]⟩
abbrev S98816x2048 : Shape := ⟨2, ![98816, 2048]⟩
abbrev S32768x2048 : Shape := ⟨2, ![32768, 2048]⟩
abbrev S32768x1 : Shape := ⟨2, ![32768, 1]⟩
abbrev S_ : Shape := ⟨0, ![]⟩
abbrev S32768 : Shape := ⟨1, ![32768]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S790528x128, .i32⟩
  | .hbm, ⟨2, _⟩ => ⟨S49152x128, .f32⟩
  | .hbm, ⟨3, _⟩ => ⟨S2048, .f32⟩
  | .hbm, ⟨4, _⟩ => ⟨S790528x128x2, .bf16⟩
  | .hbm, ⟨5, _⟩ => ⟨S98816x8x128x2, .bf16⟩
  | .hbm, ⟨6, _⟩ => ⟨S98816x2x8x128, .bf16⟩
  | .hbm, ⟨7, _⟩ => ⟨S98816x2048, .bf16⟩
  | .hbm, ⟨8, _⟩ => ⟨S98816x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel2.lean ====
abbrev S49152x2048 : Shape := ⟨2, ![49152, 2048]⟩
abbrev S790528x128 : Shape := ⟨2, ![790528, 128]⟩
abbrev S49152x128 : Shape := ⟨2, ![49152, 128]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S4096x128 : Shape := ⟨2, ![4096, 128]⟩
abbrev S512x128 : Shape := ⟨2, ![512, 128]⟩
abbrev S512x1 : Shape := ⟨2, ![512, 1]⟩
abbrev S512 : Shape := ⟨1, ![512]⟩
abbrev S1x128 : Shape := ⟨2, ![1, 128]⟩

abbrev nBuf : Space → Nat
  | .hbm => 6
  | .vmem => 11
  | .smem => 0
  | _ => 0

abbrev bufTy : (tb : Table) → Fin (tcTables nBuf tb) → BufTy
  | .hbm, ⟨0, _⟩ => ⟨S49152x2048, .f32⟩
  | .hbm, ⟨1, _⟩ => ⟨S790528x128, .i32⟩
  | .hbm, ⟨2, _⟩ => ⟨S49152x128, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S4096x128, .i32⟩
  | .local _ .vmem, ⟨3, _⟩ => ⟨S4096x128, .i32⟩
  | .local _ .vmem, ⟨4, _⟩ => ⟨S4096x128, .i32⟩
  | .local _ .vmem, ⟨5, _⟩ => ⟨S4096x128, .i32⟩
  | .local _ .vmem, ⟨6, _⟩ => ⟨S512x128, .f32⟩
  | .local _ .vmem, ⟨7, _⟩ => ⟨S512x128, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S49152x2048 : Shape := ⟨2, ![49152, 2048]⟩
abbrev S790528x128 : Shape := ⟨2, ![790528, 128]⟩
abbrev S49152x128 : Shape := ⟨2, ![49152, 128]⟩
abbrev S2048 : Shape := ⟨1, ![2048]⟩
abbrev S790528x128x2 : Shape := ⟨3, ![790528, 128, 2]⟩
abbrev S98816x8x128x2 : Shape := ⟨4, ![98816, 8, 128, 2]⟩
abbrev S98816x2x8x128 : Shape := ⟨4, ![98816, 2, 8, 128]⟩
abbrev S98816x2048 : Shape := ⟨2, ![98816, 2048]⟩
abbrev S16384x2048 : Shape := ⟨2, ![16384, 2048]⟩
abbrev S16384x1 : Shape := ⟨2, ![16384, 1]⟩
abbrev S_ : Shape := ⟨0, ![]⟩
abbrev S16384 : Shape := ⟨1, ![16384]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S790528x128, .i32⟩
  | .hbm, ⟨2, _⟩ => ⟨S49152x128, .f32⟩
  | .hbm, ⟨3, _⟩ => ⟨S2048, .f32⟩
  | .hbm, ⟨4, _⟩ => ⟨S790528x128x2, .bf16⟩
  | .hbm, ⟨5, _⟩ => ⟨S98816x8x128x2, .bf16⟩
  | .hbm, ⟨6, _⟩ => ⟨S98816x2x8x128, .bf16⟩
  | .hbm, ⟨7, _⟩ => ⟨S98816x2048, .bf16⟩
  | .hbm, ⟨8, _⟩ => ⟨S98816x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel3.lean ====
abbrev S16x2048x2048 : Shape := ⟨3, ![16, 2048, 2048]⟩
abbrev S8x2048x2048 : Shape := ⟨3, ![8, 2048, 2048]⟩
abbrev S1x2048 : Shape := ⟨2, ![1, 2048]⟩
abbrev S1x2048x6656 : Shape := ⟨3, ![1, 2048, 6656]⟩
abbrev S32768x2048 : Shape := ⟨2, ![32768, 2048]⟩
abbrev S16384x2048 : Shape := ⟨2, ![16384, 2048]⟩
abbrev S2048x6656 : Shape := ⟨2, ![2048, 6656]⟩
abbrev S52x49152x128 : Shape := ⟨3, ![52, 49152, 128]⟩
abbrev S1024x2048 : Shape := ⟨2, ![1024, 2048]⟩
abbrev S2048x512 : Shape := ⟨2, ![2048, 512]⟩
abbrev S4x1024x128 : Shape := ⟨3, ![4, 1024, 128]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S8x2048x2048, .f32⟩
  | .hbm, ⟨2, _⟩ => ⟨S1x2048, .f32⟩
  | .hbm, ⟨3, _⟩ => ⟨S1x2048x6656, .f32⟩
  | .hbm, ⟨4, _⟩ => ⟨S32768x2048, .f32⟩
  | .hbm, ⟨5, _⟩ => ⟨S16384x2048, .f32⟩
  | .hbm, ⟨6, _⟩ => ⟨S2048x6656, .f32⟩
  | .hbm, ⟨7, _⟩ => ⟨S2048x6656, .bf16⟩
  | .hbm, ⟨8, _⟩ => ⟨S52x49152x128, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S4x1024x128, .bf16⟩
  | .local _ .vmem, ⟨8, _⟩ => ⟨S4x1024x128, .bf16⟩
  | .local _ .vmem, ⟨9, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 13], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16x2048x2048 : Shape := ⟨3, ![16, 2048, 2048]⟩
abbrev S8x2048x2048 : Shape := ⟨3, ![8, 2048, 2048]⟩
abbrev S1x2048 : Shape := ⟨2, ![1, 2048]⟩
abbrev S1x2048x6656 : Shape := ⟨3, ![1, 2048, 6656]⟩
abbrev S32768x2048 : Shape := ⟨2, ![32768, 2048]⟩
abbrev S16384x2048 : Shape := ⟨2, ![16384, 2048]⟩
abbrev S49152x2048 : Shape := ⟨2, ![49152, 2048]⟩
abbrev S2048 : Shape := ⟨1, ![2048]⟩
abbrev S_ : Shape := ⟨0, ![]⟩
abbrev S49152 : Shape := ⟨1, ![49152]⟩
abbrev S49152x1 : Shape := ⟨2, ![49152, 1]⟩
abbrev S2048x6656 : Shape := ⟨2, ![2048, 6656]⟩
abbrev S49152x6656 : Shape := ⟨2, ![49152, 6656]⟩
abbrev S49152x52x128 : Shape := ⟨3, ![49152, 52, 128]⟩
abbrev S52x49152x128 : Shape := ⟨3, ![52, 49152, 128]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S8x2048x2048, .f32⟩
  | .hbm, ⟨2, _⟩ => ⟨S1x2048, .f32⟩
  | .hbm, ⟨3, _⟩ => ⟨S1x2048x6656, .f32⟩
  | .hbm, ⟨4, _⟩ => ⟨S32768x2048, .f32⟩
  | .hbm, ⟨5, _⟩ => ⟨S16384x2048, .f32⟩
  | .hbm, ⟨6, _⟩ => ⟨S49152x2048, .f32⟩
  | .hbm, ⟨7, _⟩ => ⟨S2048, .f32⟩
  | .hbm, ⟨8, _⟩ => ⟨S49152x2048, .f32⟩
  | .hbm, ⟨9, _⟩ => ⟨S_, .f32⟩
  | .hbm, ⟨10, _⟩ => ⟨S49152, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S_, .f32⟩
  | .hbm, ⟨16, _⟩ => ⟨S49152x1, .f32⟩
  | .hbm, ⟨17, _⟩ => ⟨S49152x1, .f32⟩
  | .hbm, ⟨18, _⟩ => ⟨S49152x1, .f32⟩
  | .hbm, ⟨19, _⟩ => ⟨S49152x2048, .f32⟩
  | .hbm, ⟨20, _⟩ => ⟨S49152x2048, .f32⟩
  | .hbm, ⟨21, _⟩ => ⟨S1x2048, .f32⟩
  | .hbm, ⟨22, _⟩ => ⟨S49152x2048, .f32⟩
  | .hbm, ⟨23, _⟩ => ⟨S49152x2048, .f32⟩
  | .hbm, ⟨24, _⟩ => ⟨S2048x6656, .f32⟩
  | .hbm, ⟨25, _⟩ => ⟨S49152x6656, .f32⟩
  | .hbm, ⟨26, _⟩ => ⟨S49152x52x128, .f32⟩
  | .hbm, ⟨27, _⟩ => ⟨S52x49152x128, .f32⟩
  | .hbm, ⟨28, _⟩ => ⟨S52x49152x128, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel4.lean ====
abbrev S49152x2048 : Shape := ⟨2, ![49152, 2048]⟩
abbrev S416x1x256 : Shape := ⟨3, ![416, 1, 256]⟩
abbrev S416 : Shape := ⟨1, ![416]⟩
abbrev S32x2048x512 : Shape := ⟨3, ![32, 2048, 512]⟩
abbrev S32x512x2048 : Shape := ⟨3, ![32, 512, 2048]⟩
abbrev S106496x2048 : Shape := ⟨2, ![106496, 2048]⟩
abbrev S1x1x256 : Shape := ⟨3, ![1, 1, 256]⟩
abbrev S1x2048x512 : Shape := ⟨3, ![1, 2048, 512]⟩
abbrev S1 : Shape := ⟨1, ![1]⟩
abbrev S1x512x2048 : Shape := ⟨3, ![1, 512, 2048]⟩
abbrev S2x256x2048 : Shape := ⟨3, ![2, 256, 2048]⟩
abbrev S2048x512 : Shape := ⟨2, ![2048, 512]⟩
abbrev S512x2048 : Shape := ⟨2, ![512, 2048]⟩
abbrev S2x256 : Shape := ⟨2, ![2, 256]⟩
abbrev S1x1x1 : Shape := ⟨3, ![1, 1, 1]⟩
abbrev S1x1 : Shape := ⟨2, ![1, 1]⟩
abbrev S_ : Shape := ⟨0, ![]⟩
abbrev S1x1x2048 : Shape := ⟨3, ![1, 1, 2048]⟩
abbrev S1x2048 : Shape := ⟨2, ![1, 2048]⟩
abbrev S1x256x2048 : Shape := ⟨3, ![1, 256, 2048]⟩
abbrev S256x2048 : Shape := ⟨2, ![256, 2048]⟩
abbrev S256x512 : Shape := ⟨2, ![256, 512]⟩

abbrev nBuf : Space → Nat
  | .hbm => 7
  | .vmem => 11
  | .smem => 7
  | _ => 0

abbrev bufTy : (tb : Table) → Fin (tcTables nBuf tb) → BufTy
  | .hbm, ⟨0, _⟩ => ⟨S49152x2048, .f32⟩
  | .hbm, ⟨1, _⟩ => ⟨S416x1x256, .i32⟩
  | .hbm, ⟨2, _⟩ => ⟨S416x1x256, .i32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S106496x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S2x256x2048, .f32⟩
  | .local _ .vmem, ⟨7, _⟩ => ⟨S2x256x2048, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .smem, ⟨0, _⟩ => ⟨S416, .i32⟩
  | .local _ .smem, ⟨1, _⟩ => ⟨S1x1x256, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | .local _ .smem, ⟨6, _⟩ => ⟨S1x1x256, .i32⟩
  | _, _ => ⟨S49152x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_5 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_6 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_7 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_8 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | 5 => dmaSemScopedAt0_5 i
  | 6 => dmaSemScopedAt0_6 i
  | 7 => dmaSemScopedAt0_7 i
  | 8 => dmaSemScopedAt0_8 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 1036 → Bool
  | ⟨i, _⟩ => dmaSemScopedAt i

abbrev sig : RefSig :=
  ofTc nBuf bufTy 0 1036 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg3 : Ref sig .tc := ⟨.smem, 0, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg0_0 : Ref sig .tc := ⟨.smem, 1, rfl⟩
abbrev cc0_stg0_1 : Ref sig .tc := ⟨.smem, 2, rfl⟩
abbrev cc0_stg1_0 : Ref sig .tc := ⟨.smem, 3, rfl⟩
abbrev cc0_stg1_1 : Ref sig .tc := ⟨.smem, 4, rfl⟩
abbrev cc0_stg2_0 : Ref sig .tc := ⟨.smem, 5, rfl⟩
abbrev cc0_stg2_1 : Ref sig .tc := ⟨.smem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![416], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_35 : BitVec 32 := 0#32
  let c256_i32_36 : BitVec 32 := 256#32
  let v60 : BitVec 32 := Scalar.addi c0_i32_35 c256_i32_36
  let c1_i32_37 : BitVec 32 := 1#32
  ⟨c0_i32_35, v60, c1_i32_37⟩
def k0_off2 (k0_t1 : Fin k0_t1_loop.trips) : Fin 3 → Nat :=
  let c0_39 : Index := 0#32
  let c0_40 : Index := 0#32
  let c0_i32_35 : BitVec 32 := 0#32
  let c1_i32_37 : BitVec 32 := 1#32
  let arg17 : BitVec 32 := Scf.iv c0_i32_35 c1_i32_37 k0_t1
  let v61 : Index := Scalar.indexCast arg17
  ![0, 0, v61.toNat]
def k0_off3 (k0_t1 : Fin k0_t1_loop.trips) : Fin 2 → Nat :=
  let c0_i32_42 : BitVec 32 := 0#32
  let c0_i32_35 : BitVec 32 := 0#32
  let c1_i32_37 : BitVec 32 := 1#32
  let arg17 : BitVec 32 := Scf.iv c0_i32_35 c1_i32_37 k0_t1
  ![0, arg17.toNat]
def k0_off4 (k0_t1 : Fin k0_t1_loop.trips) : Fin 3 → Nat :=
  let c0_i32_41 : BitVec 32 := 0#32
  let c0_i32_35 : BitVec 32 := 0#32
  let c1_i32_37 : BitVec 32 := 1#32
  let arg17 : BitVec 32 := Scf.iv c0_i32_35 c1_i32_37 k0_t1
  let c0_i32_43 : BitVec 32 := 0#32
  ![0, arg17.toNat, 0]
def k0_off5 (v62 : BitVec 32) : Fin 2 → Nat :=
  let c0_i32_44 : BitVec 32 := 0#32
  ![v62.toNat, 0]

def k0_chk1 (i : grid0.Coords) (v62 : BitVec 32) : Prop :=
  (∀ (k0_h1 : k0_cond1 i = 1#1), ∀ a, (k0_off5 v62) a + S1x2048.size a ≤ S49152x2048.size a)
theorem k0_off5_inb : ∀ (i : grid0.Coords) (v62 : BitVec 32) (k0_hw1 : k0_chk1 i v62), ∀ (k0_h1 : k0_cond1 i = 1#1), ∀ a, (k0_off5 v62) a + S1x2048.size a ≤ S49152x2048.size a := fun i v62 k0_hw1 k0_h1 => k0_hw1 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c416_i32 : BitVec 32 := 416#32
  let v14 : BitVec 1 := Scalar.cmpi .slt v13 c416_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_36 : BitVec 32 := 0#32
  let c256_i32_37 : BitVec 32 := 256#32
  let v61 : BitVec 32 := Scalar.addi c0_i32_36 c256_i32_37
  let c1_i32_38 : BitVec 32 := 1#32
  ⟨c0_i32_36, v61, c1_i32_38⟩
def k0_off6 (k0_t2 : Fin k0_t2_loop.trips) : Fin 3 → Nat :=
  let c0_40 : Index := 0#32
  let c0_41 : Index := 0#32
  let c0_i32_36 : BitVec 32 := 0#32
  let c1_i32_38 : BitVec 32 := 1#32
  let arg17 : BitVec 32 := Scf.iv c0_i32_36 c1_i32_38 k0_t2
  let v62 : Index := Scalar.indexCast arg17
  ![0, 0, v62.toNat]
def k0_off7 (i : grid0.Coords) (k0_t2 : Fin k0_t2_loop.trips) : Fin 2 → Nat :=
  let c1_i32_35 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_35 v9
  let c0_i32_36 : BitVec 32 := 0#32
  let c1_i32_38 : BitVec 32 := 1#32
  let arg17 : BitVec 32 := Scf.iv c0_i32_36 c1_i32_38 k0_t2
  ![v60.toNat, arg17.toNat]
def k0_off8 (i : grid0.Coords) (k0_t2 : Fin k0_t2_loop.trips) : Fin 3 → Nat :=
  let c1_i32_35 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_35 v9
  let c0_i32_36 : BitVec 32 := 0#32
  let c1_i32_38 : BitVec 32 := 1#32
  let arg17 : BitVec 32 := Scf.iv c0_i32_36 c1_i32_38 k0_t2
  let c0_i32_42 : BitVec 32 := 0#32
  ![v60.toNat, arg17.toNat, 0]
def k0_off9 (v63 : BitVec 32) : Fin 2 → Nat :=
  let c0_i32_43 : BitVec 32 := 0#32
  ![v63.toNat, 0]

def k0_chk2 (i : grid0.Coords) (v63 : BitVec 32) : Prop :=
  (∀ (k0_h2 : k0_cond2 i = 1#1), ∀ a, (k0_off9 v63) a + S1x2048.size a ≤ S49152x2048.size a)
theorem k0_off9_inb : ∀ (i : grid0.Coords) (v63 : BitVec 32) (k0_hw2 : k0_chk2 i v63), ∀ (k0_h2 : k0_cond2 i = 1#1), ∀ a, (k0_off9 v63) a + S1x2048.size a ≤ S49152x2048.size a := fun i v63 k0_hw2 k0_h2 => k0_hw2 k0_h2

def k0_off10 (i : grid0.Coords) : Fin 1 → Nat :=
  let arg0 : BitVec 32 := BitVec.ofNat 32 (i 0).val
  let c1_i32_8 : BitVec 32 := 1#32
  let v20 : BitVec 32 := Scalar.subi arg0 c1_i32_8
  let c0_i32_9 : BitVec 32 := 0#32
  let v21 : BitVec 32 := Scalar.maxsi v20 c0_i32_9
  let v22 : Index := Scalar.indexCast v21
  ![v22.toNat]
@[reducible] def k0_t3_loop : Scf.Loop 32 :=
  let c0_i32_11 : BitVec 32 := 0#32
  let c256_i32 : BitVec 32 := 256#32
  let v28 : BitVec 32 := Scalar.addi c0_i32_11 c256_i32
  let c1_i32_12 : BitVec 32 := 1#32
  ⟨c0_i32_11, v28, c1_i32_12⟩
def k0_off11 (i : grid0.Coords) (k0_t3 : Fin k0_t3_loop.trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let c1_i32_12 : BitVec 32 := 1#32
  let arg17 : BitVec 32 := Scf.iv c0_i32_11 c1_i32_12 k0_t3
  ![v9.toNat, arg17.toNat]
def k0_off12 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let c1_i32_12 : BitVec 32 := 1#32
  let arg17 : BitVec 32 := Scf.iv c0_i32_11 c1_i32_12 k0_t3
  let c0_i32_35 : BitVec 32 := 0#32
  ![v9.toNat, arg17.toNat, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v29 : Index := Scalar.indexCast v9
  let c0 : Index := 0#32
  let c0_14 : Index := 0#32
  ![v29.toNat, 0, 0]
def k0_cond4 (i : grid0.Coords) : BitVec 1 :=
  let arg0 : BitVec 32 := BitVec.ofNat 32 (i 0).val
  let c2_i32_26 : BitVec 32 := 2#32
  let v49 : BitVec 1 := Scalar.cmpi .sge arg0 c2_i32_26
  let v50 : BitVec 32 := Scalar.extui v49
  let c0_i32_27 : BitVec 32 := 0#32
  let v51 : BitVec 1 := Scalar.cmpi .ne v50 c0_i32_27
  v51

@[reducible] def k0_t4_loop : Scf.Loop 32 :=
  let c0_i32_35 : BitVec 32 := 0#32
  let c256_i32_36 : BitVec 32 := 256#32
  let v60 : BitVec 32 := Scalar.addi c0_i32_35 c256_i32_36
  let c1_i32_37 : BitVec 32 := 1#32
  ⟨c0_i32_35, v60, c1_i32_37⟩
def k0_off14 (i : grid0.Coords) (k0_t4 : Fin k0_t4_loop.trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_35 : BitVec 32 := 0#32
  let c1_i32_37 : BitVec 32 := 1#32
  let arg17 : BitVec 32 := Scf.iv c0_i32_35 c1_i32_37 k0_t4
  ![v9.toNat, arg17.toNat]
def k0_off15 (i : grid0.Coords) (k0_t4 : Fin k0_t4_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_35 : BitVec 32 := 0#32
  let c1_i32_37 : BitVec 32 := 1#32
  let arg17 : BitVec 32 := Scf.iv c0_i32_35 c1_i32_37 k0_t4
  let c0_i32_41 : BitVec 32 := 0#32
  ![v9.toNat, arg17.toNat, 0]
@[reducible] def k0_t5_loop : Scf.Loop 32 :=
  let c0_i32_30 : BitVec 32 := 0#32
  let c256_i32_31 : BitVec 32 := 256#32
  let v56 : BitVec 32 := Scalar.addi c0_i32_30 c256_i32_31
  let c1_i32_32 : BitVec 32 := 1#32
  ⟨c0_i32_30, v56, c1_i32_32⟩
def k0_off16 (k0_t5 : Fin k0_t5_loop.trips) : Fin 3 → Nat :=
  let c0_35 : Index := 0#32
  let c0_36 : Index := 0#32
  let c0_i32_30 : BitVec 32 := 0#32
  let c1_i32_32 : BitVec 32 := 1#32
  let arg17 : BitVec 32 := Scf.iv c0_i32_30 c1_i32_32 k0_t5
  let v60 : Index := Scalar.indexCast arg17
  ![0, 0, v60.toNat]
def k0_off17 (i : grid0.Coords) (k0_t5 : Fin k0_t5_loop.trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_30 : BitVec 32 := 0#32
  let c1_i32_32 : BitVec 32 := 1#32
  let arg17 : BitVec 32 := Scf.iv c0_i32_30 c1_i32_32 k0_t5
  ![v9.toNat, arg17.toNat]
def k0_off18 (v61 : BitVec 32) : Fin 2 → Nat :=
  let c0_i32_37 : BitVec 32 := 0#32
  ![v61.toNat, 0]

def k0_chk3 (v61 : BitVec 32) : Prop :=
  (∀ a, (k0_off18 v61) a + S1x2048.size a ≤ S106496x2048.size a)
theorem k0_off18_inb : ∀ (v61 : BitVec 32) (k0_hw3 : k0_chk3 v61), ∀ a, (k0_off18 v61) a + S1x2048.size a ≤ S106496x2048.size a := fun v61 k0_hw3 => k0_hw3

def k0_off19 (i : grid0.Coords) (k0_t5 : Fin k0_t5_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_30 : BitVec 32 := 0#32
  let c1_i32_32 : BitVec 32 := 1#32
  let arg17 : BitVec 32 := Scf.iv c0_i32_30 c1_i32_32 k0_t5
  let c0_i32_38 : BitVec 32 := 0#32
  ![v9.toNat, arg17.toNat, 0]
def k0_cond5 (i : grid0.Coords) : BitVec 1 :=
  let arg0 : BitVec 32 := BitVec.ofNat 32 (i 0).val
  let c415_i32 : BitVec 32 := 415#32
  let v57 : BitVec 1 := Scalar.cmpi .eq arg0 c415_i32
  let v58 : BitVec 32 := Scalar.extui v57
  let c0_i32_34 : BitVec 32 := 0#32
  let v59 : BitVec 1 := Scalar.cmpi .ne v58 c0_i32_34
  v59

@[reducible] def k0_t6_loop : Scf.Loop 32 :=
  let c0_i32_35 : BitVec 32 := 0#32
  let c256_i32_36 : BitVec 32 := 256#32
  let v60 : BitVec 32 := Scalar.addi c0_i32_35 c256_i32_36
  let c1_i32_37 : BitVec 32 := 1#32
  ⟨c0_i32_35, v60, c1_i32_37⟩
def k0_off20 (i : grid0.Coords) (k0_t6 : Fin k0_t6_loop.trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_35 : BitVec 32 := 0#32
  let c1_i32_37 : BitVec 32 := 1#32
  let arg17 : BitVec 32 := Scf.iv c0_i32_35 c1_i32_37 k0_t6
  ![v9.toNat, arg17.toNat]
def k0_off21 (i : grid0.Coords) (k0_t6 : Fin k0_t6_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_35 : BitVec 32 := 0#32
  let c1_i32_37 : BitVec 32 := 1#32
  let arg17 : BitVec 32 := Scf.iv c0_i32_35 c1_i32_37 k0_t6
  let c0_i32_46 : BitVec 32 := 0#32
  ![v9.toNat, arg17.toNat, 0]
@[reducible] def k0_t7_loop : Scf.Loop 32 :=
  let c0_i32_40 : BitVec 32 := 0#32
  let c256_i32_41 : BitVec 32 := 256#32
  let v62 : BitVec 32 := Scalar.addi c0_i32_40 c256_i32_41
  let c1_i32_42 : BitVec 32 := 1#32
  ⟨c0_i32_40, v62, c1_i32_42⟩
def k0_off22 (i : grid0.Coords) (k0_t7 : Fin k0_t7_loop.trips) : Fin 2 → Nat :=
  let c1_i32_39 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : BitVec 32 := Scalar.subi c1_i32_39 v9
  let c0_i32_40 : BitVec 32 := 0#32
  let c1_i32_42 : BitVec 32 := 1#32
  let arg17 : BitVec 32 := Scf.iv c0_i32_40 c1_i32_42 k0_t7
  ![v61.toNat, arg17.toNat]
def k0_off23 (i : grid0.Coords) (k0_t7 : Fin k0_t7_loop.trips) : Fin 3 → Nat :=
  let c1_i32_39 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : BitVec 32 := Scalar.subi c1_i32_39 v9
  let c0_i32_40 : BitVec 32 := 0#32
  let c1_i32_42 : BitVec 32 := 1#32
  let arg17 : BitVec 32 := Scf.iv c0_i32_40 c1_i32_42 k0_t7
  let c0_i32_46 : BitVec 32 := 0#32
  ![v61.toNat, arg17.toNat, 0]
def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c415_i32 : BitVec 32 := 415#32
  let v1 : BitVec 32 := Scalar.minsi v0 c415_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c415_i32 : BitVec 32 := 415#32
  let v1 : BitVec 32 := Scalar.minsi v0 c415_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c415_i32 : BitVec 32 := 415#32
  let v1 : BitVec 32 := Scalar.minsi v0 c415_i32
  let c0_i32_0 : BitVec 32 := 0#32
  let c0_i32_1 : BitVec 32 := 0#32
  let c0_i32_2 : BitVec 32 := 0#32
  ![v1.toNat, c0_i32_0.toNat, c0_i32_1.toNat]

def cc0_transform_4 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S49152x2048 : Shape := ⟨2, ![49152, 2048]⟩
abbrev S416x1x256 : Shape := ⟨3, ![416, 1, 256]⟩
abbrev S416 : Shape := ⟨1, ![416]⟩
abbrev S32x2048x512 : Shape := ⟨3, ![32, 2048, 512]⟩
abbrev S32x512x2048 : Shape := ⟨3, ![32, 512, 2048]⟩
abbrev S106496 : Shape := ⟨1, ![106496]⟩
abbrev S_ : Shape := ⟨0, ![]⟩
abbrev S106496x1 : Shape := ⟨2, ![106496, 1]⟩
abbrev S106496x2048 : Shape := ⟨2, ![106496, 2048]⟩
abbrev S416x256 : Shape := ⟨2, ![416, 256]⟩
abbrev S106496x2048x512 : Shape := ⟨3, ![106496, 2048, 512]⟩
abbrev S106496x512 : Shape := ⟨2, ![106496, 512]⟩
abbrev S106496x512x2048 : Shape := ⟨3, ![106496, 512, 2048]⟩

abbrev nBuf : Space → Nat
  | .hbm => 71
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S416x1x256, .i32⟩
  | .hbm, ⟨2, _⟩ => ⟨S416x1x256, .i32⟩
  | .hbm, ⟨3, _⟩ => ⟨S416, .i32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S106496, .i32⟩
  | .hbm, ⟨8, _⟩ => ⟨S_, .i32⟩
  | .hbm, ⟨9, _⟩ => ⟨S106496, .i32⟩
  | .hbm, ⟨10, _⟩ => ⟨S106496, .i1⟩
  | .hbm, ⟨11, _⟩ => ⟨S_, .i32⟩
  | .hbm, ⟨12, _⟩ => ⟨S106496, .i32⟩
  | .hbm, ⟨13, _⟩ => ⟨S106496, .i32⟩
  | .hbm, ⟨14, _⟩ => ⟨S106496, .i32⟩
  | .hbm, ⟨15, _⟩ => ⟨S106496x1, .i32⟩
  | .hbm, ⟨16, _⟩ => ⟨S106496x2048, .f32⟩
  | .hbm, ⟨17, _⟩ => ⟨S416x256, .i32⟩
  | .hbm, ⟨18, _⟩ => ⟨S106496, .i32⟩
  | .hbm, ⟨19, _⟩ => ⟨S_, .i32⟩
  | .hbm, ⟨20, _⟩ => ⟨S106496, .i32⟩
  | .hbm, ⟨21, _⟩ => ⟨S106496, .i1⟩
  | .hbm, ⟨22, _⟩ => ⟨S_, .i32⟩
  | .hbm, ⟨23, _⟩ => ⟨S106496, .i32⟩
  | .hbm, ⟨24, _⟩ => ⟨S106496, .i32⟩
  | .hbm, ⟨25, _⟩ => ⟨S106496, .i32⟩
  | .hbm, ⟨26, _⟩ => ⟨S106496x1, .i32⟩
  | .hbm, ⟨27, _⟩ => ⟨S106496x2048x512, .f32⟩
  | .hbm, ⟨28, _⟩ => ⟨S106496x512, .f32⟩
  | .hbm, ⟨29, _⟩ => ⟨S_, .i32⟩
  | .hbm, ⟨30, _⟩ => ⟨S106496, .i32⟩
  | .hbm, ⟨31, _⟩ => ⟨S106496, .i1⟩
  | .hbm, ⟨32, _⟩ => ⟨S_, .i32⟩
  | .hbm, ⟨33, _⟩ => ⟨S106496, .i32⟩
  | .hbm, ⟨34, _⟩ => ⟨S106496, .i32⟩
  | .hbm, ⟨35, _⟩ => ⟨S106496, .i32⟩
  | .hbm, ⟨36, _⟩ => ⟨S106496x1, .i32⟩
  | .hbm, ⟨37, _⟩ => ⟨S106496x2048x512, .f32⟩
  | .hbm, ⟨38, _⟩ => ⟨S106496x512, .f32⟩
  | .hbm, ⟨39, _⟩ => ⟨S106496x512, .f32⟩
  | .hbm, ⟨40, _⟩ => ⟨S106496x512, .f32⟩
  | .hbm, ⟨41, _⟩ => ⟨S_, .f32⟩
  | .hbm, ⟨42, _⟩ => ⟨S106496x512, .f32⟩
  | .hbm, ⟨43, _⟩ => ⟨S106496x512, .f32⟩
  | .hbm, ⟨44, _⟩ => ⟨S_, .f32⟩
  | .hbm, ⟨45, _⟩ => ⟨S106496x512, .f32⟩
  | .hbm, ⟨46, _⟩ => ⟨S106496x512, .f32⟩
  | .hbm, ⟨47, _⟩ => ⟨S106496x512, .f32⟩
  | .hbm, ⟨48, _⟩ => ⟨S106496x512, .f32⟩
  | .hbm, ⟨49, _⟩ => ⟨S_, .i32⟩
  | .hbm, ⟨50, _⟩ => ⟨S106496, .i32⟩
  | .hbm, ⟨51, _⟩ => ⟨S106496, .i1⟩
  | .hbm, ⟨52, _⟩ => ⟨S_, .i32⟩
  | .hbm, ⟨53, _⟩ => ⟨S106496, .i32⟩
  | .hbm, ⟨54, _⟩ => ⟨S106496, .i32⟩
  | .hbm, ⟨55, _⟩ => ⟨S106496, .i32⟩
  | .hbm, ⟨56, _⟩ => ⟨S106496x1, .i32⟩
  | .hbm, ⟨57, _⟩ => ⟨S106496x512x2048, .f32⟩
  | .hbm, ⟨58, _⟩ => ⟨S106496x2048, .f32⟩
  | .hbm, ⟨59, _⟩ => ⟨S_, .f32⟩
  | .hbm, ⟨60, _⟩ => ⟨S106496x2048, .f32⟩
  | .hbm, ⟨61, _⟩ => ⟨S106496, .i32⟩
  | .hbm, ⟨62, _⟩ => ⟨S_, .i32⟩
  | .hbm, ⟨63, _⟩ => ⟨S106496, .i32⟩
  | .hbm, ⟨64, _⟩ => ⟨S106496, .i1⟩
  | .hbm, ⟨65, _⟩ => ⟨S_, .i32⟩
  | .hbm, ⟨66, _⟩ => ⟨S106496, .i32⟩
  | .hbm, ⟨67, _⟩ => ⟨S106496, .i32⟩
  | .hbm, ⟨68, _⟩ => ⟨S106496, .i32⟩
  | .hbm, ⟨69, _⟩ => ⟨S106496x1, .i32⟩
  | .hbm, ⟨70, _⟩ => ⟨S106496x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.FinalSpec.lean ====
/-
  The last step of the layer on one block of 512 tokens: what its rows are, as plain functions of the block's arrays,
  and that the sixteen column stores of the kernel, each 128 columns wide, leave exactly those rows.
-/
module

public import Idealize.ShloMosaic.Lib.Pipeline.Value
public import Idealize.ShloMosaic.Lib.Pointwise
public import Idealize.ShloMosaic.PureOps.Ideal

@[expose] public section

set_option maxRecDepth 16384

noncomputable section

namespace Cert.FinalSpec

open Idealize.ShloMosaic

/-- A block of token rows, 512 × 2048. -/
abbrev SX : Shape := ⟨2, ![512, 2048]⟩
/-- Packed expert rows of a block: eight rows of 128 words for each of 512 tokens. -/
abbrev SY : Shape := ⟨2, ![4096, 128]⟩
/-- One column store: 512 rows of 128 columns. -/
abbrev SP : Shape := ⟨2, ![512, 128]⟩
/-- The norm weight as one row. -/
abbrev SW : Shape := ⟨2, ![1, 2048]⟩
/-- One column of a block. -/
abbrev SC : Shape := ⟨2, ![512, 1]⟩
/-- 128 entries of the weight row. -/
abbrev SR : Shape := ⟨2, ![1, 128]⟩
/-- One number for each row. -/
abbrev SV : Shape := ⟨1, ![512]⟩

/-- The bf16 number in half `h` of a 32-bit word (half 0 is the low one), as an extended real. -/
def half (h : ℕ) (w : BitVec 32) : EReal := Ideal.ofBits .bf16 (w.extractLsb' (h * 16) 16)

/-- Column `c` of a packed expert row whose words are `word q l`: the word in row `(c mod 1024) / 128`, lane `c mod 128`;
    columns from 1024 on are the high halves. -/
def unpacked (word : Fin 8 → Fin 128 → BitVec 32) (c : Fin 2048) : EReal :=
  half (c.val / 1024) (word ⟨c.val % 1024 / 128, by omega⟩ ⟨c.val % 128, by omega⟩)

/-- A row divided by its root mean square, times the weight: the mean over 2048 entries is the sum times 2⁻¹¹ (the
    constant the kernel multiplies by), and the small constant under the root is the one both programs add. -/
def normed (h w : Fin 2048 → EReal) (c : Fin 2048) : EReal :=
  h c * Ideal.rsqrt ((∑ k : Fin 2048, h k * h k) * Ideal.ofBits .f32 0x3A000000#32 + Ideal.ofBits .f32 0x358637BD#32) * w c

/-- A token's row before the norm: what came in, plus the two chosen experts' rows by their weights. -/
def mixed (x : Fin 2048 → EReal) (c₁ c₂ : EReal) (u v : Fin 8 → Fin 128 → BitVec 32) (c : Fin 2048) : EReal :=
  x c + c₁ * unpacked u c + c₂ * unpacked v c

/-! ## One block, in the kernel's operations -/

section Block
variable (x : Vec Ideal SX .f32) (u v : Vec Ideal SY .i32) (c : Vec Ideal SP .f32) (w : Vec Ideal SW .f32)

/-- Row `r` of the block before the norm. -/
def rowOf (r : Fin 512) : Fin 2048 → EReal :=
  mixed (fun k => x (ix2 r k)) (c (ix2 r ⟨0, by omega⟩)) (c (ix2 r ⟨1, by omega⟩))
    (fun q l => u (ix2 ⟨q.val + 8 * r.val, by omega⟩ l)) (fun q l => v (ix2 ⟨q.val + 8 * r.val, by omega⟩ l))

/-- The block the kernel leaves. -/
def blockOf : Vec Ideal SX .f32 := fun j => normed (rowOf x u v c (j 0)) (fun k => w (ix2 ⟨0, by omega⟩ k)) (j 1)

theorem inX (p : Fin 16) : ∀ a : Fin 2, (![0, 128 * p.val] : Fin 2 → ℕ) a + (![512, 128] : Fin 2 → ℕ) a ≤ SX.size a := by
  revert p; decide
theorem inW (p : Fin 16) : ∀ a : Fin 2, (![0, 128 * p.val] : Fin 2 → ℕ) a + (![1, 128] : Fin 2 → ℕ) a ≤ SW.size a := by
  revert p; decide
theorem inY (p : Fin 16) : ∀ a : Fin 2, (![512, 128] : Fin 2 → ℕ) a = 0 ∨
    (![p.val % 8, 0] : Fin 2 → ℕ) a + (![8, 1] : Fin 2 → ℕ) a * ((![512, 128] : Fin 2 → ℕ) a - 1) < SY.size a := by
  revert p; decide
theorem inC : ∀ a : Fin 2, (![0, 0] : Fin 2 → ℕ) a + (![512, 128] : Fin 2 → ℕ) a ≤ SP.size a := by decide

/-- Columns `128 p` … of the incoming block. -/
def xs (p : Fin 16) : FVec Ideal SP .f32 := View.ld x (Rect.unit (s := SX) ![0, 128 * p.val] ![512, 128] (inX p))
/-- Columns `128 p` … of the weight. -/
def ws (p : Fin 16) : FVec Ideal SR .f32 := View.ld w (Rect.unit (s := SW) ![0, 128 * p.val] ![1, 128] (inW p))
/-- The words of every eighth row from row `p mod 8`. -/
def words (y : Vec Ideal SY .i32) (p : Fin 16) : IVec SP 32 :=
  fun j => y (LoadRect.idx (s := SY) ⟨![p.val % 8, 0], ![512, 128], ![8, 1], inY p⟩ j)
/-- The routing weights as the kernel loads them (the whole block). -/
def cs : FVec Ideal SP .f32 := View.ld c (Rect.unit (s := SP) ![0, 0] ![512, 128] inC)
/-- Column 0 of the routing weights … -/
def col0 : FVec Ideal SC .f32 := extractStridedSlice SC ![0, 0] (cs c) (by decide)
/-- … and column 1. -/
def col1 : FVec Ideal SC .f32 := extractStridedSlice SC ![0, 1] (cs c) (by decide)
/-- A column spread over 128 columns. -/
def wide (a : FVec Ideal SC .f32) : FVec Ideal SP .f32 := broadcastTo SP a (by decide)

/-- Columns `128 p` … of the block before the norm: the kernel unpacks the low halves for the first eight column stores
    and the high halves for the last eight. -/
def plane (p : Fin 16) : FVec Ideal SP .f32 :=
  addf (addf (xs x p) (mulf (wide (col0 c)) (unpackElementwise (p.val / 8) (words u p) (by omega))))
    (mulf (wide (col1 c)) (unpackElementwise (p.val / 8) (words v p) (by omega)))

/-- The square of `plane p`. -/
def sq (p : Fin 16) : FVec Ideal SP .f32 := mulf (plane x u v c p) (plane x u v c p)

/-- The sixteen squares added up, first to last. -/
def sqs : FVec Ideal SP .f32 :=
  let s := sq x u v c
  addf (addf (addf (addf (addf (addf (addf (addf (addf (addf (addf (addf (addf (addf (addf (s 0) (s 1)) (s 2)) (s 3)) (s 4))
    (s 5)) (s 6)) (s 7)) (s 8)) (s 9)) (s 10)) (s 11)) (s 12)) (s 13)) (s 14)) (s 15)

/-- The reciprocal root mean square of every row. -/
def scale : FVec Ideal SC .f32 :=
  rsqrt (addf (mulf (shapeCast SC (multiReduction .add [1] SV (sqs x u v c) 0x00000000#32 (by decide) (.inl rfl) rfl) (by decide))
    (broadcast SC (Scalar.ofBits .f32 0x3A000000#32))) (broadcast SC (Scalar.ofBits .f32 0x358637BD#32)))

/-- What column store `p` stores. -/
def stored (p : Fin 16) : FVec Ideal SP .f32 :=
  mulf (mulf (plane x u v c p) (wide (scale x u v c)))
    (broadcastTo SP (shapeCast SR (ws w p) (by decide)) (by decide))

/-- Column store `p`: where, and what. -/
def piece (p : Fin 16) : View.Piece (Elt Ideal) SX .f32 :=
  ⟨Rect.unit (s := SX) ![0, 128 * p.val] ![512, 128] (inX p), stored x u v c w p⟩

/-- The kernel's sixteen stores, last first. -/
def pieces : List (View.Piece (Elt Ideal) SX .f32) :=
  let q := piece x u v c w
  [q 15, q 14, q 13, q 12, q 11, q 10, q 9, q 8, q 7, q 6, q 5, q 4, q 3, q 2, q 1, q 0]

/-! ### Read at an index -/

theorem plane_apply (p : Fin 16) (r : Fin 512) (l : Fin 128) :
    plane x u v c p (ix2 r l) = rowOf x u v c r ⟨128 * p.val + l.val, by omega⟩ := by
  have e0 : (xs x p) (ix2 r l) = x (ix2 r ⟨128 * p.val + l.val, by omega⟩) := by
    unfold xs View.ld
    congr 1
    funext a
    apply Fin.ext
    match a with
    | ⟨0, _⟩ => show 0 + 1 * r.val = r.val; omega
    | ⟨1, _⟩ => show 128 * p.val + 1 * l.val = 128 * p.val + l.val; omega
  have ew : ∀ y : Vec Ideal SY .i32, (unpackElementwise (F := Ideal) (p.val / 8) (words y p) (by omega)) (ix2 r l)
      = unpacked (fun q l => y (ix2 ⟨q.val + 8 * r.val, by omega⟩ l)) ⟨128 * p.val + l.val, by omega⟩ := by
    intro y
    show half (p.val / 8) (words y p (ix2 r l)) = half _ _
    dsimp only
    have h1 : (128 * p.val + l.val) / 1024 = p.val / 8 := by omega
    rw [h1]
    congr 1
    unfold words
    congr 1
    funext a
    apply Fin.ext
    match a with
    | ⟨0, _⟩ => show p.val % 8 + 8 * r.val = (128 * p.val + l.val) % 1024 / 128 + 8 * r.val; omega
    | ⟨1, _⟩ => show 0 + 1 * l.val = (128 * p.val + l.val) % 128; omega
  have ec : ∀ (k : ℕ) (hk : k < 2) (h), (wide (extractStridedSlice SC ![0, k] (cs c) h)) (ix2 r l) = c (ix2 r ⟨k, by omega⟩) := by
    intro k hk h
    unfold wide cs View.ld
    pointwise
  unfold plane
  show xs x p (ix2 r l) + wide (col0 c) (ix2 r l) * _ + wide (col1 c) (ix2 r l) * _ = _
  rw [e0, ew u, ew v]
  unfold col0 col1
  rw [ec 0 (by omega), ec 1 (by omega)]
  rfl

/-- A sum over 2048 columns is the sum over 128 lanes of the sixteen entries in that lane. -/
theorem sum_columns (f : Fin 2048 → EReal) :
    ∑ k : Fin 2048, f k = ∑ l : Fin 128, ∑ p : Fin 16, f ⟨128 * p.val + l.val, by omega⟩ := by
  rw [Finset.sum_comm, ← Fintype.sum_prod_type', ← Equiv.sum_comp (finProdFinEquiv (m := 16) (n := 128))]
  refine Finset.sum_congr rfl fun q _ => congrArg f (Fin.ext ?_)
  show q.2.val + 128 * q.1.val = 128 * q.1.val + q.2.val
  omega

theorem sqs_apply (r : Fin 512) (l : Fin 128) : sqs x u v c (ix2 r l)
    = ∑ p : Fin 16, rowOf x u v c r ⟨128 * p.val + l.val, by omega⟩ * rowOf x u v c r ⟨128 * p.val + l.val, by omega⟩ := by
  have e : ∀ p, sq x u v c p (ix2 r l)
      = rowOf x u v c r ⟨128 * p.val + l.val, by omega⟩ * rowOf x u v c r ⟨128 * p.val + l.val, by omega⟩ := by
    intro p
    rw [← plane_apply]
    rfl
  rw [← Finset.sum_congr rfl fun p _ => e p]
  simp only [Fin.sum_univ_castSucc, Fin.sum_univ_zero, zero_add]
  rfl

theorem scale_apply (r : Fin 512) : scale x u v c (ix2 r ⟨0, by omega⟩)
    = Ideal.rsqrt ((∑ k : Fin 2048, rowOf x u v c r k * rowOf x u v c r k) * Ideal.ofBits .f32 0x3A000000#32
        + Ideal.ofBits .f32 0x358637BD#32) := by
  rw [sum_columns]
  simp only [← sqs_apply]
  unfold scale
  pointwise

theorem stored_apply (p : Fin 16) (r : Fin 512) (l : Fin 128) :
    stored x u v c w p (ix2 r l) = blockOf x u v c w (ix2 r ⟨128 * p.val + l.val, by omega⟩) := by
  have ew : (broadcastTo SP (shapeCast SR (ws w p) (by decide)) (by decide)) (ix2 r l)
      = w (ix2 ⟨0, by omega⟩ ⟨128 * p.val + l.val, by omega⟩) := by
    unfold ws View.ld
    pointwise
  have es : wide (scale x u v c) (ix2 r l) = scale x u v c (ix2 r ⟨0, by omega⟩) := by
    unfold wide
    pointwise
  show plane x u v c p (ix2 r l) * wide (scale x u v c) (ix2 r l) * _ = _
  rw [ew, es, plane_apply, scale_apply]
  rfl

/-- The block after the sixteen stores, wherever they were found to cover it. -/
theorem canon_pieces (hc : ∀ y : SX.Idx, ∃ p ∈ pieces x u v c w, y ∈ p.1.set) :
    View.canon (pieces x u v c w) = blockOf x u v c w := by
  funext y
  refine View.canon_apply_of_pieces (blockOf x u v c w) _ ?_ y (hc y)
  have key : ∀ p : Fin 16, ∀ j : (piece x u v c w p).1.shape.Idx,
      (piece x u v c w p).2 j = blockOf x u v c w ((piece x u v c w p).1.emb j) := by
    intro p j
    have hj : j = ix2 (n0 := 512) (n1 := 128) (j 0) (j 1) := by
      funext a; match a with | ⟨0, _⟩ => rfl | ⟨1, _⟩ => rfl
    have h := stored_apply x u v c w p (j 0) (j 1)
    rw [← hj] at h
    refine h.trans (congrArg _ ?_)
    funext a
    apply Fin.ext
    match a with
    | ⟨0, _⟩ => show (j 0).val = 0 + 1 * (j 0).val; omega
    | ⟨1, _⟩ => show 128 * p.val + (j 1).val = 128 * p.val + 1 * (j 1).val; omega
  intro q hq
  simp only [pieces, List.mem_cons, List.not_mem_nil, or_false] at hq
  rcases hq with rfl | rfl | rfl | rfl | rfl | rfl | rfl | rfl | rfl | rfl | rfl | rfl | rfl | rfl | rfl | rfl <;> exact key _

end Block

/-! ## The whole arrays -/

/-- All tokens' rows. -/
abbrev TX : Shape := ⟨2, ![49152, 2048]⟩
/-- All packed expert rows: every token's first expert, then every token's second, then padding. -/
abbrev TY : Shape := ⟨2, ![790528, 128]⟩
/-- All routing weights. -/
abbrev TC : Shape := ⟨2, ![49152, 128]⟩
/-- The norm weight. -/
abbrev TW : Shape := ⟨1, ![2048]⟩

section Arrays
variable (x : Vec Ideal TX .f32) (y : Vec Ideal TY .i32) (c : Vec Ideal TC .f32) (w : Vec Ideal TW .f32)

/-- Token `R`'s row before the norm. -/
def tokenRow (R : Fin 49152) : Fin 2048 → EReal :=
  mixed (fun k => x (ix2 R k)) (c (ix2 R ⟨0, by omega⟩)) (c (ix2 R ⟨1, by omega⟩))
    (fun q l => y (ix2 ⟨8 * R.val + q.val, by omega⟩ l)) (fun q l => y (ix2 ⟨8 * (49152 + R.val) + q.val, by omega⟩ l))

/-- The layer's last step for token `R`, column `k`. -/
def tokenOut (R : Fin 49152) (k : Fin 2048) : EReal := normed (tokenRow x y c R) (fun k => w (ix1 k)) k

/-- A block's rows are the rows of its tokens, when its arrays are the arrays' blocks at the block's first token `o`. -/
theorem blockOf_apply (o : ℕ) (ho : o + 512 ≤ 49152) (bx : Vec Ideal SX .f32) (bu bv : Vec Ideal SY .i32) (bc : Vec Ideal SP .f32)
    (bw : Vec Ideal SW .f32)
    (hx : ∀ (r : Fin 512) (k : Fin 2048), bx (ix2 r k) = x (ix2 ⟨o + r.val, by omega⟩ k))
    (hu : ∀ (r : Fin 4096) (l : Fin 128), bu (ix2 r l) = y (ix2 ⟨8 * o + r.val, by omega⟩ l))
    (hv : ∀ (r : Fin 4096) (l : Fin 128), bv (ix2 r l) = y (ix2 ⟨8 * (49152 + o) + r.val, by omega⟩ l))
    (hc : ∀ (r : Fin 512) (k : Fin 128), bc (ix2 r k) = c (ix2 ⟨o + r.val, by omega⟩ k))
    (hw : ∀ k : Fin 2048, bw (ix2 ⟨0, by omega⟩ k) = w (ix1 k)) (r : Fin 512) (k : Fin 2048) :
    blockOf bx bu bv bc bw (ix2 r k) = tokenOut x y c w ⟨o + r.val, by omega⟩ k := by
  have e : rowOf bx bu bv bc r = tokenRow x y c ⟨o + r.val, by omega⟩ := by
    unfold rowOf tokenRow
    simp only [hx, hu, hv, hc]
    congr 1
    · funext q l; exact congrArg (fun i => y (ix2 i l)) (Fin.ext (by show 8 * o + (q.val + 8 * r.val) = 8 * (o + r.val) + q.val; omega))
    · funext q l; exact congrArg (fun i => y (ix2 i l)) (Fin.ext (by show 8 * (49152 + o) + (q.val + 8 * r.val) = 8 * (49152 + (o + r.val)) + q.val; omega))
  show normed (rowOf bx bu bv bc r) (fun k => bw (ix2 ⟨0, by omega⟩ k)) k = _
  rw [e]
  simp only [hw]
  rfl

end Arrays

end Cert.FinalSpec
end
-- ==== Proof.FinalPrompt.lean ====
/-
  What the last call, on the prompt's tokens, leaves: every block of 512 tokens is the specification's block (`Cert.FinalSpec.blockOf`), and so
  the result array is the specification of every token (`Cert.FinalSpec.tokenOut`).
-/
module

public import proofs.«01_k».proof.Proof.Gen.KernelIdeal.Value
public import proofs.«01_k».proof.Proof.FinalSpec
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Final

open Idealize.ShloMosaic Idealize.ShloMosaic.TcCoe Idealize.SL.Sem
open Cert.KernelIdeal Cert.KernelIdeal.Gen
open Idealize.ShloMosaic.Pipeline (Dat)

set_option maxHeartbeats 1000000 in
/-- One run of the body on whole staging buffers leaves the specification's block: the sixteen column stores the run
    found are the specification's pieces, and they cover the block. -/
theorem out_eq (c : Dev nD) (i : grid0.Coords) (a1 : Memref sig .tc .vmem S512x2048 .f32) (h1 : a1.IsWhole)
    (a2 : Memref sig .tc .vmem S4096x128 .i32) (h2 : a2.IsWhole) (a3 : Memref sig .tc .vmem S4096x128 .i32) (h3 : a3.IsWhole)
    (a4 : Memref sig .tc .vmem S512x128 .f32) (h4 : a4.IsWhole) (a5 : Memref sig .tc .vmem S1x2048 .f32) (h5 : a5.IsWhole)
    (a6 : Memref sig .tc .vmem S512x2048 .f32) (h6 : a6.IsWhole)
    (x0 : Vec Ideal S512x2048 .f32) (x1 x2 : Vec Ideal S4096x128 .i32) (x3 : Vec Ideal S512x128 .f32) (x4 : Vec Ideal S1x2048 .f32) :
    out0_A_5 c i a1 h1 a2 h2 a3 h3 a4 h4 a5 h5 a6 h6 x0 x1 x2 x3 x4 = FinalSpec.blockOf x0 x1 x2 x3 x4 := by
  have hc := cover0_A_5 (F := Ideal) c i a1 h1 a2 h2 a3 h3 a4 h4 a5 h5 a6 h6 x0 x1 x2 x3 x4
  have hp : (kernelRun0_A (F := Ideal) c i a1 h1 a2 h2 a3 h3 a4 h4 a5 h5 a6 h6 x0 x1 x2 x3 x4).1
      = FinalSpec.pieces x0 x1 x2 x3 x4 := by
    unfold kernelRun0_A
    dsimp only
    sl_unfold_words
    have e2 : ∀ r : LoadRect S4096x128, View.readAt (Elt Ideal) a2.view r (h2.unread x1) = fun j => x1 (r.idx j) :=
      fun r => funext fun j => congrFun (h2.read_unread x1) _
    have e3 : ∀ r : LoadRect S4096x128, View.readAt (Elt Ideal) a3.view r (h3.unread x2) = fun j => x2 (r.idx j) :=
      fun r => funext fun j => congrFun (h3.read_unread x2) _
    simp only [View.readAt_eq_ld, h1.read_unread, h4.read_unread, h5.read_unread, e2, e3]
    rfl
  unfold out0_A_5
  rw [View.read_writes_eq_canon _ _ _ hc]
  rw [hp] at hc ⊢
  exact FinalSpec.canon_pieces x0 x1 x2 x3 x4 hc

/-- Which block each window is on at a grid point. -/
theorem idx_facts : ∀ t : Fin cfg0.N, win0_0.index t 0 = t.val ∧ win0_0.index t 1 = 0 ∧ win0_1.index t 0 = t.val
    ∧ win0_1.index t 1 = 0 ∧ win0_2.index t 0 = 96 + (t.val) ∧ win0_2.index t 1 = 0 ∧ win0_3.index t 0 = t.val
    ∧ win0_3.index t 1 = 0 ∧ win0_4.index t 0 = 0 ∧ win0_4.index t 1 = 0 ∧ win0_5.index t 0 = t.val ∧ win0_5.index t 1 = 0 :=
  (by decide +kernel : ∀ t : Fin grid0.N, _)

variable (m : (ℓ : Loc nD τ sig) → Buf (Elt Ideal) ℓ) (ρ : Dev nD → PrngReg)

/-- The result: the specification of every token of this call, of the argument arrays. -/
def result (c : Dev nD) : Buf (Elt Ideal) ((c : Thread nD τ).loc main_v1) := fun i : S32768x2048.Idx =>
  FinalSpec.tokenOut (m ((c : Thread nD τ).loc main_arg0)) (m ((c : Thread nD τ).loc main_arg1))
    (m ((c : Thread nD τ).loc main_arg2)) (m ((c : Thread nD τ).loc main_arg3))
    ⟨0 + (i 0).val, by have : (i 0).val < 32768 := (i 0).isLt; omega⟩ (i 1)

/-- The weight as the call takes it: the argument as one row. -/
theorem V_v0 (c : Dev nD) (k : Fin 2048) :
    (V m c main_v0 : Vec Ideal S1x2048 .f32) (ix2 ⟨0, by omega⟩ k) = (m ((c : Thread nD τ).loc main_arg3) : Vec Ideal S2048 .f32) (ix1 k) := by
  have e : (V m c main_v0 : Vec Ideal S1x2048 .f32)
      = shapeCast S1x2048 (m ((c : Thread nD τ).loc main_arg3) : Vec Ideal S2048 .f32) shapeCasts_S2048_S1x2048 := by
    unfold V; after_results; rfl
  rw [e]
  pointwise

/-- What grid point `t` computes, read at a row and a column: the token's row. -/
theorem point_apply (c : Dev nD) (t : Fin cfg0.N) (r : Fin 512) (k : Fin 2048) :
    FinalSpec.blockOf (iblk m c 0 t) (iblk m c 1 t) (iblk m c 2 t) (iblk m c 3 t) (iblk m c 4 t) (ix2 r k)
      = FinalSpec.tokenOut (m ((c : Thread nD τ).loc main_arg0)) (m ((c : Thread nD τ).loc main_arg1))
          (m ((c : Thread nD τ).loc main_arg2)) (m ((c : Thread nD τ).loc main_arg3))
          ⟨512 * (t.val) + r.val, by have := t.isLt; have : cfg0.N = 64 := N_0; omega⟩ k := by
  have ht : t.val < 64 := by have := t.isLt; have : cfg0.N = 64 := N_0; omega
  obtain ⟨i00, i01, i10, i11, i20, i21, i30, i31, i40, i41, -, -⟩ := idx_facts t
  refine FinalSpec.blockOf_apply _ _ _ _ (512 * (t.val)) (by omega) _ _ _ _ _ (fun r k => ?_) (fun r l => ?_) (fun r l => ?_)
    (fun r k => ?_) (fun k => ?_) r k
  · unfold iblk
    rw [View.read_apply]
    show V m c main_arg0 _ = m ((c : Thread nD τ).loc main_arg0) _
    rw [V_main_arg0]
    congr 1
    funext a
    apply Fin.ext
    match a with
    | ⟨0, _⟩ => show win0_0.index t 0 * 512 + 1 * r.val = 512 * (t.val) + r.val; rw [i00]; omega
    | ⟨1, _⟩ => show win0_0.index t 1 * 2048 + 1 * k.val = k.val; rw [i01]; omega
  · unfold iblk
    rw [View.read_apply]
    show V m c main_arg1 _ = m ((c : Thread nD τ).loc main_arg1) _
    rw [V_main_arg1]
    congr 1
    funext a
    apply Fin.ext
    match a with
    | ⟨0, _⟩ => show win0_1.index t 0 * 4096 + 1 * r.val = 8 * (512 * (t.val)) + r.val; rw [i10]; omega
    | ⟨1, _⟩ => show win0_1.index t 1 * 128 + 1 * l.val = l.val; rw [i11]; omega
  · unfold iblk
    rw [View.read_apply]
    show V m c main_arg1 _ = m ((c : Thread nD τ).loc main_arg1) _
    rw [V_main_arg1]
    congr 1
    funext a
    apply Fin.ext
    match a with
    | ⟨0, _⟩ => show win0_2.index t 0 * 4096 + 1 * r.val = 8 * (49152 + 512 * (t.val)) + r.val; rw [i20]; omega
    | ⟨1, _⟩ => show win0_2.index t 1 * 128 + 1 * l.val = l.val; rw [i21]; omega
  · unfold iblk
    rw [View.read_apply]
    show V m c main_arg2 _ = m ((c : Thread nD τ).loc main_arg2) _
    rw [V_main_arg2]
    congr 1
    funext a
    apply Fin.ext
    match a with
    | ⟨0, _⟩ => show win0_3.index t 0 * 512 + 1 * r.val = 512 * (t.val) + r.val; rw [i30]; omega
    | ⟨1, _⟩ => show win0_3.index t 1 * 128 + 1 * k.val = k.val; rw [i31]; omega
  · refine Eq.trans ?_ (V_v0 m c k)
    unfold iblk
    rw [View.read_apply]
    show V m c main_v0 _ = V m c main_v0 _
    congr 1
    funext a
    apply Fin.ext
    match a with
    | ⟨0, _⟩ => show win0_4.index t 0 * 1 + 1 * 0 = 0; rw [i40]
    | ⟨1, _⟩ => show win0_4.index t 1 * 2048 + 1 * k.val = k.val; rw [i41]; omega

/-- What point `t` writes back is the result's block. -/
theorem flushed_eq (c : Dev nD) (t : Fin cfg0.N) (_ : (cfg0.win 5).flush t = true) :
    (dats m 0 c).flushed 5 t = ((cfg0.win 5).blk t).view.read (Elt Ideal) (result m c) := by
  obtain ⟨-, -, -, -, -, -, -, -, -, -, i50, i51⟩ := idx_facts t
  have ht : t.val < 64 := by have := t.isLt; have : cfg0.N = 64 := N_0; omega
  rw [Value.flushed5_A, out_eq]
  funext j
  rw [View.read_apply]
  have hj0 : (j 0).val < 512 := (j 0).isLt
  have hj1 : (j 1).val < 2048 := (j 1).isLt
  refine (congrArg _ ?_).trans ((point_apply m c t ⟨(j 0).val, hj0⟩ ⟨(j 1).val, hj1⟩).trans ?_)
  · funext a; match a with | ⟨0, _⟩ => rfl | ⟨1, _⟩ => rfl
  · show _ = result m c _
    unfold result
    congr 1
    · apply Fin.ext
      show 512 * (t.val) + (j 0).val = 0 + (win0_5.index t 0 * 512 + 1 * (j 0).val)
      rw [i50]; omega
    · apply Fin.ext
      show (j 1).val = win0_5.index t 1 * 2048 + 1 * (j 1).val
      rw [i51]; omega

/-- The result array after the run is the specification: every token lies in the block of one grid point. -/
theorem final_eq (c : Dev nD) : (dats m 0 c).arrAt 5 cfg0.N = result m c :=
  (dats m 0 c).arrAt_eq_of_cover 5 (result m c) (flushed_eq m c) fun (i : S32768x2048.Idx) => by
    have h0 : (i 0 : Nat) < 32768 := (i 0).isLt
    have h1 : (i 1 : Nat) < 2048 := (i 1).isLt
    obtain ⟨t, ht⟩ : ∃ t : Fin cfg0.N, t.val = (i 0 : Nat) / 512 := by
      have hN : cfg0.N = 64 := N_0
      exact ⟨⟨(i 0 : Nat) / 512, by omega⟩, rfl⟩
    refine ⟨t, flush0_5 t, ?_⟩
    obtain ⟨-, -, -, -, -, -, -, -, -, -, i50, i51⟩ := idx_facts t
    show i ∈ ((View.whole main_v1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [i50]; omega
    | ⟨1, _⟩ =>
      show win0_5.index t 1 * 2048 ≤ (i 1 : Nat) ∧ (i 1 : Nat) < win0_5.index t 1 * 2048 + 2048
      rw [i51]; omega

/-- The run: the result array is the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Value.run_blocks m ρ)

end Cert.KernelIdeal.Final

end
-- ==== Proof.FinalSample.lean ====
/-
  What the last call, on the sampled tokens, leaves: every block of 512 tokens is the specification's block (`Cert.FinalSpec.blockOf`), and so
  the result array is the specification of every token (`Cert.FinalSpec.tokenOut`).
-/
module

public import proofs.«01_k».proof.Proof.Gen.Kernel2Ideal.Value
public import proofs.«01_k».proof.Proof.FinalSpec
public import Idealize.ShloMosaic.Lib.Pipeline.Value
public import Idealize.ShloMosaic.Lib.StableHlo.Run
public import Idealize.ShloMosaic.Lib.Tactic

@[expose] public section

set_option maxRecDepth 16384

noncomputable section

namespace Cert.Kernel2Ideal.Final

open Idealize.ShloMosaic Idealize.ShloMosaic.TcCoe Idealize.SL.Sem
open Cert.Kernel2Ideal Cert.Kernel2Ideal.Gen
open Idealize.ShloMosaic.Pipeline (Dat)

set_option maxHeartbeats 1000000 in
/-- One run of the body on whole staging buffers leaves the specification's block: the sixteen column stores the run
    found are the specification's pieces, and they cover the block. -/
theorem out_eq (c : Dev nD) (i : grid0.Coords) (a1 : Memref sig .tc .vmem S512x2048 .f32) (h1 : a1.IsWhole)
    (a2 : Memref sig .tc .vmem S4096x128 .i32) (h2 : a2.IsWhole) (a3 : Memref sig .tc .vmem S4096x128 .i32) (h3 : a3.IsWhole)
    (a4 : Memref sig .tc .vmem S512x128 .f32) (h4 : a4.IsWhole) (a5 : Memref sig .tc .vmem S1x2048 .f32) (h5 : a5.IsWhole)
    (a6 : Memref sig .tc .vmem S512x2048 .f32) (h6 : a6.IsWhole)
    (x0 : Vec Ideal S512x2048 .f32) (x1 x2 : Vec Ideal S4096x128 .i32) (x3 : Vec Ideal S512x128 .f32) (x4 : Vec Ideal S1x2048 .f32) :
    out0_A_5 c i a1 h1 a2 h2 a3 h3 a4 h4 a5 h5 a6 h6 x0 x1 x2 x3 x4 = FinalSpec.blockOf x0 x1 x2 x3 x4 := by
  have hc := cover0_A_5 (F := Ideal) c i a1 h1 a2 h2 a3 h3 a4 h4 a5 h5 a6 h6 x0 x1 x2 x3 x4
  have hp : (kernelRun0_A (F := Ideal) c i a1 h1 a2 h2 a3 h3 a4 h4 a5 h5 a6 h6 x0 x1 x2 x3 x4).1
      = FinalSpec.pieces x0 x1 x2 x3 x4 := by
    unfold kernelRun0_A
    dsimp only
    sl_unfold_words
    have e2 : ∀ r : LoadRect S4096x128, View.readAt (Elt Ideal) a2.view r (h2.unread x1) = fun j => x1 (r.idx j) :=
      fun r => funext fun j => congrFun (h2.read_unread x1) _
    have e3 : ∀ r : LoadRect S4096x128, View.readAt (Elt Ideal) a3.view r (h3.unread x2) = fun j => x2 (r.idx j) :=
      fun r => funext fun j => congrFun (h3.read_unread x2) _
    simp only [View.readAt_eq_ld, h1.read_unread, h4.read_unread, h5.read_unread, e2, e3]
    rfl
  unfold out0_A_5
  rw [View.read_writes_eq_canon _ _ _ hc]
  rw [hp] at hc ⊢
  exact FinalSpec.canon_pieces x0 x1 x2 x3 x4 hc

/-- Which block each window is on at a grid point. -/
theorem idx_facts : ∀ t : Fin cfg0.N, win0_0.index t 0 = 64 + t.val ∧ win0_0.index t 1 = 0 ∧ win0_1.index t 0 = 64 + t.val
    ∧ win0_1.index t 1 = 0 ∧ win0_2.index t 0 = 96 + (64 + t.val) ∧ win0_2.index t 1 = 0 ∧ win0_3.index t 0 = 64 + t.val
    ∧ win0_3.index t 1 = 0 ∧ win0_4.index t 0 = 0 ∧ win0_4.index t 1 = 0 ∧ win0_5.index t 0 = t.val ∧ win0_5.index t 1 = 0 :=
  (by decide +kernel : ∀ t : Fin grid0.N, _)

variable (m : (ℓ : Loc nD τ sig) → Buf (Elt Ideal) ℓ) (ρ : Dev nD → PrngReg)

/-- The result: the specification of every token of this call, of the argument arrays. -/
def result (c : Dev nD) : Buf (Elt Ideal) ((c : Thread nD τ).loc main_v1) := fun i : S16384x2048.Idx =>
  FinalSpec.tokenOut (m ((c : Thread nD τ).loc main_arg0)) (m ((c : Thread nD τ).loc main_arg1))
    (m ((c : Thread nD τ).loc main_arg2)) (m ((c : Thread nD τ).loc main_arg3))
    ⟨32768 + (i 0).val, by have : (i 0).val < 16384 := (i 0).isLt; omega⟩ (i 1)

/-- The weight as the call takes it: the argument as one row. -/
theorem V_v0 (c : Dev nD) (k : Fin 2048) :
    (V m c main_v0 : Vec Ideal S1x2048 .f32) (ix2 ⟨0, by omega⟩ k) = (m ((c : Thread nD τ).loc main_arg3) : Vec Ideal S2048 .f32) (ix1 k) := by
  have e : (V m c main_v0 : Vec Ideal S1x2048 .f32)
      = shapeCast S1x2048 (m ((c : Thread nD τ).loc main_arg3) : Vec Ideal S2048 .f32) shapeCasts_S2048_S1x2048 := by
    unfold V; after_results; rfl
  rw [e]
  pointwise

/-- What grid point `t` computes, read at a row and a column: the token's row. -/
theorem point_apply (c : Dev nD) (t : Fin cfg0.N) (r : Fin 512) (k : Fin 2048) :
    FinalSpec.blockOf (iblk m c 0 t) (iblk m c 1 t) (iblk m c 2 t) (iblk m c 3 t) (iblk m c 4 t) (ix2 r k)
      = FinalSpec.tokenOut (m ((c : Thread nD τ).loc main_arg0)) (m ((c : Thread nD τ).loc main_arg1))
          (m ((c : Thread nD τ).loc main_arg2)) (m ((c : Thread nD τ).loc main_arg3))
          ⟨512 * (64 + t.val) + r.val, by have := t.isLt; have : cfg0.N = 32 := N_0; omega⟩ k := by
  have ht : t.val < 32 := by have := t.isLt; have : cfg0.N = 32 := N_0; omega
  obtain ⟨i00, i01, i10, i11, i20, i21, i30, i31, i40, i41, -, -⟩ := idx_facts t
  refine FinalSpec.blockOf_apply _ _ _ _ (512 * (64 + t.val)) (by omega) _ _ _ _ _ (fun r k => ?_) (fun r l => ?_) (fun r l => ?_)
    (fun r k => ?_) (fun k => ?_) r k
  · unfold iblk
    rw [View.read_apply]
    show V m c main_arg0 _ = m ((c : Thread nD τ).loc main_arg0) _
    rw [V_main_arg0]
    congr 1
    funext a
    apply Fin.ext
    match a with
    | ⟨0, _⟩ => show win0_0.index t 0 * 512 + 1 * r.val = 512 * (64 + t.val) + r.val; rw [i00]; omega
    | ⟨1, _⟩ => show win0_0.index t 1 * 2048 + 1 * k.val = k.val; rw [i01]; omega
  · unfold iblk
    rw [View.read_apply]
    show V m c main_arg1 _ = m ((c : Thread nD τ).loc main_arg1) _
    rw [V_main_arg1]
    congr 1
    funext a
    apply Fin.ext
    match a with
    | ⟨0, _⟩ => show win0_1.index t 0 * 4096 + 1 * r.val = 8 * (512 * (64 + t.val)) + r.val; rw [i10]; omega
    | ⟨1, _⟩ => show win0_1.index t 1 * 128 + 1 * l.val = l.val; rw [i11]; omega
  · unfold iblk
    rw [View.read_apply]
    show V m c main_arg1 _ = m ((c : Thread nD τ).loc main_arg1) _
    rw [V_main_arg1]
    congr 1
    funext a
    apply Fin.ext
    match a with
    | ⟨0, _⟩ => show win0_2.index t 0 * 4096 + 1 * r.val = 8 * (49152 + 512 * (64 + t.val)) + r.val; rw [i20]; omega
    | ⟨1, _⟩ => show win0_2.index t 1 * 128 + 1 * l.val = l.val; rw [i21]; omega
  · unfold iblk
    rw [View.read_apply]
    show V m c main_arg2 _ = m ((c : Thread nD τ).loc main_arg2) _
    rw [V_main_arg2]
    congr 1
    funext a
    apply Fin.ext
    match a with
    | ⟨0, _⟩ => show win0_3.index t 0 * 512 + 1 * r.val = 512 * (64 + t.val) + r.val; rw [i30]; omega
    | ⟨1, _⟩ => show win0_3.index t 1 * 128 + 1 * k.val = k.val; rw [i31]; omega
  · refine Eq.trans ?_ (V_v0 m c k)
    unfold iblk
    rw [View.read_apply]
    show V m c main_v0 _ = V m c main_v0 _
    congr 1
    funext a
    apply Fin.ext
    match a with
    | ⟨0, _⟩ => show win0_4.index t 0 * 1 + 1 * 0 = 0; rw [i40]
    | ⟨1, _⟩ => show win0_4.index t 1 * 2048 + 1 * k.val = k.val; rw [i41]; omega

/-- What point `t` writes back is the result's block. -/
theorem flushed_eq (c : Dev nD) (t : Fin cfg0.N) (_ : (cfg0.win 5).flush t = true) :
    (dats m 0 c).flushed 5 t = ((cfg0.win 5).blk t).view.read (Elt Ideal) (result m c) := by
  obtain ⟨-, -, -, -, -, -, -, -, -, -, i50, i51⟩ := idx_facts t
  have ht : t.val < 32 := by have := t.isLt; have : cfg0.N = 32 := N_0; omega
  rw [Value.flushed5_A, out_eq]
  funext j
  rw [View.read_apply]
  have hj0 : (j 0).val < 512 := (j 0).isLt
  have hj1 : (j 1).val < 2048 := (j 1).isLt
  refine (congrArg _ ?_).trans ((point_apply m c t ⟨(j 0).val, hj0⟩ ⟨(j 1).val, hj1⟩).trans ?_)
  · funext a; match a with | ⟨0, _⟩ => rfl | ⟨1, _⟩ => rfl
  · show _ = result m c _
    unfold result
    congr 1
    · apply Fin.ext
      show 512 * (64 + t.val) + (j 0).val = 32768 + (win0_5.index t 0 * 512 + 1 * (j 0).val)
      rw [i50]; omega
    · apply Fin.ext
      show (j 1).val = win0_5.index t 1 * 2048 + 1 * (j 1).val
      rw [i51]; omega

/-- The result array after the run is the specification: every token lies in the block of one grid point. -/
theorem final_eq (c : Dev nD) : (dats m 0 c).arrAt 5 cfg0.N = result m c :=
  (dats m 0 c).arrAt_eq_of_cover 5 (result m c) (flushed_eq m c) fun (i : S16384x2048.Idx) => by
    have h0 : (i 0 : Nat) < 16384 := (i 0).isLt
    have h1 : (i 1 : Nat) < 2048 := (i 1).isLt
    obtain ⟨t, ht⟩ : ∃ t : Fin cfg0.N, t.val = (i 0 : Nat) / 512 := by
      have hN : cfg0.N = 32 := N_0
      exact ⟨⟨(i 0 : Nat) / 512, by omega⟩, rfl⟩
    refine ⟨t, flush0_5 t, ?_⟩
    obtain ⟨-, -, -, -, -, -, -, -, -, -, i50, i51⟩ := idx_facts t
    show i ∈ ((View.whole main_v1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [i50]; omega
    | ⟨1, _⟩ =>
      show win0_5.index t 1 * 2048 ≤ (i 1 : Nat) ∧ (i 1 : Nat) < win0_5.index t 1 * 2048 + 2048
      rw [i51]; omega

/-- The run: the result array is the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Value.run_blocks m ρ)

end Cert.Kernel2Ideal.Final

end
-- ==== Proof.FinalRef.lean ====
/-
  The reference for the layer's last step, read at a token and a column: it is the specification
  (`Cert.FinalSpec.tokenOut`). The reference divides by 2048 where the kernel multiplies by 2⁻¹¹, and adds the two
  experts' rows before adding the token's own.
-/
module

public import proofs.«01_k».proof.Proof.Gen.ReferenceIdeal.Run
public import proofs.«01_k».proof.Proof.Gen.Reference2Ideal.Run
public import proofs.«01_k».proof.Proof.FinalSpec
public import Idealize.ShloMosaic.Lib.BitcastConvert

@[expose] public section

set_option maxRecDepth 16384

noncomputable section

namespace Cert.FinalSpec

open Idealize.ShloMosaic

/-- The reference's unpacked expert rows. -/
theorem expert_rows_apply (y : Vec Ideal TY .i32)
    (h1 : TY.SplitsWords 32 ⟨3, ![790528, 128, 2]⟩ 16) (h2 : (⟨3, ![790528, 128, 2]⟩ : Shape).ShapeCasts ⟨4, ![98816, 8, 128, 2]⟩)
    (h3 : (⟨4, ![98816, 8, 128, 2]⟩ : Shape).Transposes [0, 3, 1, 2] ⟨4, ![98816, 2, 8, 128]⟩)
    (h4 : (⟨4, ![98816, 2, 8, 128]⟩ : Shape).ShapeCasts ⟨2, ![98816, 2048]⟩) (h5) (R : Fin 98816) (k : Fin 2048) :
    (extf .f32 (shapeCast ⟨2, ![98816, 2048]⟩ (transpose ⟨4, ![98816, 2, 8, 128]⟩ [0, 3, 1, 2]
      (shapeCast ⟨4, ![98816, 8, 128, 2]⟩ (bitcastToFloat (F := Ideal) .bf16 (Host.bitcastConvertNarrow ⟨3, ![790528, 128, 2]⟩ 16 y h1)) h2) h3) h4) h5
      : FVec Ideal ⟨2, ![98816, 2048]⟩ .f32) (ix2 R k) = unpacked (fun q l => y (ix2 ⟨8 * R.val + q.val, by omega⟩ l)) k := by
  pointwise
  unfold unpacked half
  dsimp only
  congr 2
  congr 1
  funext a
  apply Fin.ext
  match a with
  | ⟨0, _⟩ => show R.val * 8 + k.val / 128 % 8 = 8 * R.val + k.val % 1024 / 128; omega
  | ⟨1, _⟩ => rfl

/-- The word of 2048. -/
theorem word_2048 : Ideal.ofBits .f32 0x45000000#32 = ((2048 : ℝ) : EReal) := by
  simp [Ideal.ofBits, Ideal.ieee, -EReal.coe_mul]; norm_num

/-- The word of 2⁻¹¹. -/
theorem word_inv_2048 : Ideal.ofBits .f32 0x3A000000#32 = ((1 / 2048 : ℝ) : EReal) := by
  simp [Ideal.ofBits, Ideal.ieee, -EReal.coe_mul]; norm_num

/-- Dividing by 2048 is multiplying by 2⁻¹¹, on every extended real. -/
theorem div_2048 (s : EReal) : Ideal.div s (Ideal.ofBits .f32 0x45000000#32) = s * Ideal.ofBits .f32 0x3A000000#32 := by
  rw [word_2048, word_inv_2048]
  exact Ideal.div_coe (by norm_num : (2048 : ℝ) ≠ 0) s

/-- A row in the reference's order of additions is the specification's row. -/
theorem tokenRow_apply (x : Vec Ideal TX .f32) (y : Vec Ideal TY .i32) (c : Vec Ideal TC .f32) (E : FVec Ideal ⟨2, ![98816, 2048]⟩ .f32)
    (hE : ∀ (R : Fin 98816) (k : Fin 2048), E (ix2 R k) = unpacked (fun q l => y (ix2 ⟨8 * R.val + q.val, by omega⟩ l)) k)
    (R : Fin 49152) (k : Fin 2048) :
    x (ix2 R k) + (c (ix2 R 0) * E (ix2 ⟨R.val, by omega⟩ k) + c (ix2 R 1) * E (ix2 ⟨49152 + R.val, by omega⟩ k))
      = tokenRow x y c R k := by
  rw [hE, hE, ← add_assoc]
  rfl

/-- The layer's last step in the reference's operations is the specification. -/
theorem tokenOut_apply (x : Vec Ideal TX .f32) (y : Vec Ideal TY .i32) (c : Vec Ideal TC .f32) (w : Vec Ideal TW .f32)
    (E : FVec Ideal ⟨2, ![98816, 2048]⟩ .f32)
    (hE : ∀ (R : Fin 98816) (k : Fin 2048), E (ix2 R k) = unpacked (fun q l => y (ix2 ⟨8 * R.val + q.val, by omega⟩ l)) k)
    (R : Fin 49152) (k : Fin 2048) :
    (x (ix2 R k) + (c (ix2 R 0) * E (ix2 ⟨R.val, by omega⟩ k) + c (ix2 R 1) * E (ix2 ⟨49152 + R.val, by omega⟩ k)))
      * Ideal.rsqrt (Ideal.div (∑ j : Fin 2048,
          (x (ix2 R j) + (c (ix2 R 0) * E (ix2 ⟨R.val, by omega⟩ j) + c (ix2 R 1) * E (ix2 ⟨49152 + R.val, by omega⟩ j)))
          * (x (ix2 R j) + (c (ix2 R 0) * E (ix2 ⟨R.val, by omega⟩ j) + c (ix2 R 1) * E (ix2 ⟨49152 + R.val, by omega⟩ j))))
          (Ideal.ofBits .f32 0x45000000#32) + Ideal.ofBits .f32 0x358637BD#32) * w (ix1 k)
      = tokenOut x y c w R k := by
  simp only [tokenRow_apply x y c E hE, div_2048]
  rfl

set_option maxHeartbeats 1000000 in
/-- The reference on the prompt's tokens. -/
theorem prompt_apply (m : (ℓ : Loc ReferenceIdeal.nD ReferenceIdeal.τ ReferenceIdeal.sig) → Buf (Elt Ideal) ℓ) (c : Dev ReferenceIdeal.nD)
    (R : Fin 32768) (k : Fin 2048) :
    (ReferenceIdeal.Value.res_out0 m c : Vec Ideal ReferenceIdeal.S32768x2048 .f32) (ix2 R k)
      = tokenOut (m (c.tc.loc ReferenceIdeal.main_arg0)) (m (c.tc.loc ReferenceIdeal.main_arg1))
        (m (c.tc.loc ReferenceIdeal.main_arg2)) (m (c.tc.loc ReferenceIdeal.main_arg3)) ⟨R.val, by omega⟩ k := by
  unfold ReferenceIdeal.Value.res_out0 ReferenceIdeal.Value.res_main_v28
  generalize hE : (extf .f32 _ _ : FVec Ideal ReferenceIdeal.S98816x2048 .f32) = E
  pointwise
  refine tokenOut_apply _ _ _ _ E (fun R k => ?_) ⟨R.val, by omega⟩ k
  rw [← hE]
  exact expert_rows_apply _ _ _ _ _ _ R k

set_option maxHeartbeats 1000000 in
/-- The reference on the sampled tokens. -/
theorem sample_apply (m : (ℓ : Loc Reference2Ideal.nD Reference2Ideal.τ Reference2Ideal.sig) → Buf (Elt Ideal) ℓ) (c : Dev Reference2Ideal.nD)
    (R : Fin 16384) (k : Fin 2048) :
    (Reference2Ideal.Value.res_out0 m c : Vec Ideal Reference2Ideal.S16384x2048 .f32) (ix2 R k)
      = tokenOut (m (c.tc.loc Reference2Ideal.main_arg0)) (m (c.tc.loc Reference2Ideal.main_arg1))
        (m (c.tc.loc Reference2Ideal.main_arg2)) (m (c.tc.loc Reference2Ideal.main_arg3)) ⟨32768 + R.val, by omega⟩ k := by
  unfold Reference2Ideal.Value.res_out0 Reference2Ideal.Value.res_main_v28
  generalize hE : (extf .f32 _ _ : FVec Ideal Reference2Ideal.S98816x2048 .f32) = E
  pointwise
  have hE' : ∀ (R : Fin 98816) (k : Fin 2048), E (ix2 R k)
      = unpacked (fun q l => (m (c.tc.loc Reference2Ideal.main_arg1) : Vec Ideal TY .i32) (ix2 ⟨8 * R.val + q.val, by omega⟩ l)) k := by
    intro R k
    rw [← hE]
    exact expert_rows_apply _ _ _ _ _ _ R k
  have h := tokenOut_apply (m (c.tc.loc Reference2Ideal.main_arg0)) (m (c.tc.loc Reference2Ideal.main_arg1))
        (m (c.tc.loc Reference2Ideal.main_arg2)) (m (c.tc.loc Reference2Ideal.main_arg3)) E hE' ⟨32768 + R.val, by omega⟩ k
  rw [← h]
  have e : ∀ a : ℕ, 49152 + (32768 + a) = 81920 + a := fun a => by omega
  simp only [e]

end Cert.FinalSpec
end
-- ==== Proof.InSpec.lean ====
/-
  The layer's first step as plain functions of its arrays: every token's row divided by its root mean square, and the
  normed row's product with the columns of the projection's weight.
-/
module

public import Idealize.ShloMosaic.Lib.Pipeline.Value
public import Idealize.ShloMosaic.Lib.Pointwise
public import Idealize.ShloMosaic.PureOps.Ideal

@[expose] public section

set_option maxRecDepth 16384

noncomputable section

namespace Cert.InSpec

open Idealize.ShloMosaic

/-- A row divided by its root mean square, times the weight. -/
def normRow (x w : Fin 2048 → EReal) (k : Fin 2048) : EReal :=
  x k * Ideal.rsqrt (Ideal.div (∑ j : Fin 2048, x j * x j) (Ideal.ofBits .f32 0x45000000#32) + Ideal.ofBits .f32 0x358637BD#32) * w k

/-- The prompt's tokens, 16 sequences. -/
abbrev SP : Shape := ⟨3, ![16, 2048, 2048]⟩
/-- The sampled tokens, 8 sequences. -/
abbrev SS : Shape := ⟨3, ![8, 2048, 2048]⟩
/-- The norm weight as one row. -/
abbrev SW : Shape := ⟨2, ![1, 2048]⟩
/-- The projection's weight. -/
abbrev SM : Shape := ⟨3, ![1, 2048, 6656]⟩

/-- Token `R`'s row: the prompt's tokens first, then the sampled ones. -/
def tokens (p : Vec Ideal SP .f32) (s : Vec Ideal SS .f32) (R : Fin 49152) (k : Fin 2048) : EReal :=
  if h : R.val < 32768 then p (ix3 ⟨R.val / 2048, by omega⟩ ⟨R.val % 2048, by omega⟩ k)
  else s (ix3 ⟨(R.val - 32768) / 2048, by omega⟩ ⟨(R.val - 32768) % 2048, by omega⟩ k)

/-- The projection of token `R`'s normed row on column `128 q + l` of the weight. -/
def slab (p : Vec Ideal SP .f32) (s : Vec Ideal SS .f32) (w : Vec Ideal SW .f32) (M : Vec Ideal SM .f32)
    (q : Fin 52) (R : Fin 49152) (l : Fin 128) : EReal :=
  ∑ k : Fin 2048, normRow (tokens p s R) (fun j => w (ix2 ⟨0, by omega⟩ j)) k * M (ix3 ⟨0, by omega⟩ k ⟨q.val * 128 + l.val, by omega⟩)

end Cert.InSpec
end
-- ==== Proof.InBody.lean ====
/-
  The layer's first step, one grid point at a time: the block the body writes is the product of the block's normed
  rows with 512 columns of the weight, stored in four groups of 128 columns, and the scratch keeps the normed rows.
-/
module

public import proofs.«01_k».proof.Proof.Gen.Kernel3Ideal.Value
public import proofs.«01_k».proof.Proof.InSpec
public import Idealize.ShloMosaic.Lib.Pipeline.Value
public import Idealize.ShloMosaic.Lib.Pipeline.ValueKit.Basic
public import Idealize.ShloMosaic.Lib.Pointwise
public import Idealize.ShloMosaic.Lib.StableHlo.Run
public import Idealize.ShloMosaic.Lib.Tactic

@[expose] public section

set_option maxRecDepth 16384

noncomputable section

namespace Cert.Kernel3Ideal.In

open Idealize.ShloMosaic Idealize.ShloMosaic.TcCoe Idealize.SL.Sem
open Cert.Kernel3Ideal Cert.Kernel3Ideal.Gen

/-- The normed block: every row by itself. -/
theorem normed_apply (x : Vec Ideal S1024x2048 .f32) (w : Vec Ideal S1x2048 .f32) (r : Fin 1024) (k : Fin 2048) :
    (k0_pay2 x w : Vec Ideal S1024x2048 .bf16) (ix2 r k) = InSpec.normRow (fun k => x (ix2 r k)) (fun k => w (ix2 ⟨0, by omega⟩ k)) k := by
  unfold k0_pay2
  pointwise
  rfl

/-- The product of a block of rows with a block of columns, group by group. -/
def product (h : Vec Ideal S1024x2048 .bf16) (w : Vec Ideal S2048x512 .bf16) : Vec Ideal S4x1024x128 .bf16 := fun y =>
  ∑ k : Fin 2048, (h (ix2 (n0 := 1024) (n1 := 2048) (y 1) k) : EReal)
    * w (ix2 ⟨k.val, k.isLt⟩ ⟨128 * (y 0).val + (y 2).val, by
      have h0 : (y 0).val < 4 := (y 0).isLt
      have h2 : (y 2).val < 128 := (y 2).isLt
      omega⟩)

/-- The four stores, last first. -/
def pieces (h : Vec Ideal S1024x2048 .bf16) (w : Vec Ideal S2048x512 .bf16) : List (View.Piece (Elt Ideal) S4x1024x128 .bf16) :=
  [⟨Rect.unit ![3, 0, 0] ![1, 1024, 128] inb_S4x1024x128_S1x1024x128_3_0_0, k0_pay1 (k0_pay8 h w)⟩,
   ⟨Rect.unit ![2, 0, 0] ![1, 1024, 128] inb_S4x1024x128_S1x1024x128_2_0_0, k0_pay7 h w⟩,
   ⟨Rect.unit ![1, 0, 0] ![1, 1024, 128] inb_S4x1024x128_S1x1024x128_1_0_0, k0_pay6 h w⟩,
   ⟨Rect.unit ![0, 0, 0] ![1, 1024, 128] inb_S4x1024x128_S1x1024x128_0_0_0, k0_pay5 h w⟩]

section Groups
variable (h : Vec Ideal S1024x2048 .bf16) (w : Vec Ideal S2048x512 .bf16) (r : Fin 1024) (l : Fin 128)

/-- The first group's columns of the product, … -/
theorem group0 (u : Fin 1) : (k0_pay5 h w : Vec Ideal S1x1024x128 .bf16) (ix3 u r l)
    = product h w (ix3 ⟨0, by omega⟩ r l) := by
  unfold k0_pay5 k0_pay4; pointwise; unfold product
  refine Finset.sum_congr rfl fun k _ => ?_
  have e : l.val = 128 * 0 + l.val := by omega
  exact congrArg (fun a : Fin 512 => (h (ix2 r k) : EReal) * w (ix2 k a)) (Fin.ext e)

/-- the second's, … -/
theorem group1 (u : Fin 1) : (k0_pay6 h w : Vec Ideal S1x1024x128 .bf16) (ix3 u r l)
    = product h w (ix3 ⟨1, by omega⟩ r l) := by
  unfold k0_pay6 k0_pay4; pointwise; unfold product; rfl

/-- the third's … -/
theorem group2 (u : Fin 1) : (k0_pay7 h w : Vec Ideal S1x1024x128 .bf16) (ix3 u r l)
    = product h w (ix3 ⟨2, by omega⟩ r l) := by
  unfold k0_pay7 k0_pay4; pointwise; unfold product; rfl

/-- and the fourth's. -/
theorem group3 (u : Fin 1) : (k0_pay1 (k0_pay8 h w) : Vec Ideal S1x1024x128 .bf16) (ix3 u r l)
    = product h w (ix3 ⟨3, by omega⟩ r l) := by
  unfold k0_pay1 k0_pay8 k0_pay4; pointwise; unfold product; rfl

end Groups

/-- The block after the four stores is the product. -/
theorem canon_pieces (h : Vec Ideal S1024x2048 .bf16) (w : Vec Ideal S2048x512 .bf16)
    (hc : ∀ y : S4x1024x128.Idx, ∃ p ∈ pieces h w, y ∈ p.1.set) : View.canon (pieces h w) = product h w := by
  funext y
  refine View.canon_apply_of_pieces (product h w) _ ?_ y (hc y)
  have hj : ∀ j : S1x1024x128.Idx, j = ix3 (n0 := 1) (n1 := 1024) (n2 := 128) (j 0) (j 1) (j 2) := fun j => by
    funext a; match a with | ⟨0, _⟩ => rfl | ⟨1, _⟩ => rfl | ⟨2, _⟩ => rfl
  have hi : ∀ (q : Fin 4) (inb : ∀ a, ![q.val, 0, 0] a + ![1, 1024, 128] a ≤ S4x1024x128.size a) (j : S1x1024x128.Idx),
      ix3 (n0 := 4) (n1 := 1024) (n2 := 128) q (j 1) (j 2) = (Rect.unit (s := S4x1024x128) ![q.val, 0, 0] ![1, 1024, 128] inb).emb j := by
    intro q inb j
    funext a
    apply Fin.ext
    match a with
    | ⟨0, _⟩ => show q.val = q.val + 1 * (j 0).val; have : (j 0).val < 1 := (j 0).isLt; omega
    | ⟨1, _⟩ => show (j 1).val = 0 + 1 * (j 1).val; omega
    | ⟨2, _⟩ => show (j 2).val = 0 + 1 * (j 2).val; omega
  intro p hp
  simp only [pieces, List.mem_cons, List.not_mem_nil, or_false] at hp
  rcases hp with rfl | rfl | rfl | rfl
  · exact fun (j : S1x1024x128.Idx) => (congrArg _ (hj j)).trans ((group3 h w (j 1) (j 2) (j 0)).trans (congrArg _ (hi 3 inb_S4x1024x128_S1x1024x128_3_0_0 j)))
  · exact fun (j : S1x1024x128.Idx) => (congrArg _ (hj j)).trans ((group2 h w (j 1) (j 2) (j 0)).trans (congrArg _ (hi 2 inb_S4x1024x128_S1x1024x128_2_0_0 j)))
  · exact fun (j : S1x1024x128.Idx) => (congrArg _ (hj j)).trans ((group1 h w (j 1) (j 2) (j 0)).trans (congrArg _ (hi 1 inb_S4x1024x128_S1x1024x128_1_0_0 j)))
  · exact fun (j : S1x1024x128.Idx) => (congrArg _ (hj j)).trans ((group0 h w (j 1) (j 2) (j 0)).trans (congrArg _ (hi 0 inb_S4x1024x128_S1x1024x128_0_0_0 j)))

/-- At a prompt block's first column group the scratch is left at the block's normed rows. -/
theorem sout_A (c : Dev nD) (i : grid0.Coords) (a2 : Memref sig .tc .vmem S1024x2048 .f32) (h2 : a2.IsWhole)
    (a3 : Memref sig .tc .vmem S1024x2048 .f32) (h3 : a3.IsWhole) (a4 : Memref sig .tc .vmem S1x2048 .f32) (h4 : a4.IsWhole)
    (a5 : Memref sig .tc .vmem S2048x512 .bf16) (h5 : a5.IsWhole) (a6 : Memref sig .tc .vmem S4x1024x128 .bf16) (h6 : a6.IsWhole)
    (a7 : Memref sig .tc .vmem S1024x2048 .bf16) (h7 : a7.IsWhole) (hc0 : cond0_0 i) (hc1 : ¬cond0_1 i)
    (x0 x1 : Vec Ideal S1024x2048 .f32) (x2 : Vec Ideal S1x2048 .f32) (x3 : Vec Ideal S2048x512 .bf16) :
    sout0_A_0 c i a2 h2 a3 h3 a4 h4 a5 h5 a6 h6 a7 h7 hc0 hc1 x0 x1 x2 x3 = (k0_pay2 x0 x2) := by
  have hc := scover0_A_0 (F := Ideal) c i a2 h2 a3 h3 a4 h4 a5 h5 a6 h6 a7 h7 hc0 hc1 x0 x1 x2 x3
  unfold sout0_A_0
  rw [View.read_writes_eq_canon _ _ _ hc]
  unfold kernelRun0_A
  dsimp only
  sl_unfold_words
  simp only [View.readAt_eq_ld, h2.read_unread, h3.read_unread, h4.read_unread]
  rw [View.canon_cons_unit_lit _ _ _ (by decide), View.ld_unit_lit _ _ (by decide), View.ld_unit_lit _ _ (by decide)]

/-- At a prompt block's first column group the block written is the product of the normed rows. -/
theorem out_A (c : Dev nD) (i : grid0.Coords) (a2 : Memref sig .tc .vmem S1024x2048 .f32) (h2 : a2.IsWhole)
    (a3 : Memref sig .tc .vmem S1024x2048 .f32) (h3 : a3.IsWhole) (a4 : Memref sig .tc .vmem S1x2048 .f32) (h4 : a4.IsWhole)
    (a5 : Memref sig .tc .vmem S2048x512 .bf16) (h5 : a5.IsWhole) (a6 : Memref sig .tc .vmem S4x1024x128 .bf16) (h6 : a6.IsWhole)
    (a7 : Memref sig .tc .vmem S1024x2048 .bf16) (h7 : a7.IsWhole) (hc0 : cond0_0 i) (hc1 : ¬cond0_1 i)
    (x0 x1 : Vec Ideal S1024x2048 .f32) (x2 : Vec Ideal S1x2048 .f32) (x3 : Vec Ideal S2048x512 .bf16) :
    out0_A_4 c i a2 h2 a3 h3 a4 h4 a5 h5 a6 h6 a7 h7 hc0 hc1 x0 x1 x2 x3 = product (k0_pay2 x0 x2) x3 := by
  have hc := cover0_A_4 (F := Ideal) c i a2 h2 a3 h3 a4 h4 a5 h5 a6 h6 a7 h7 hc0 hc1 x0 x1 x2 x3
  have hp : (kernelRun0_A (F := Ideal) c i a2 h2 a3 h3 a4 h4 a5 h5 a6 h6 a7 h7 hc0 hc1 x0 x1 x2 x3).1 = pieces (k0_pay2 x0 x2) x3 := by
    unfold kernelRun0_A
    dsimp only
    sl_unfold_words
    simp only [View.readAt_eq_ld, h2.read_unread, h3.read_unread, h4.read_unread, h5.read_unread, h7.read_unread, View.readCov_cons_toLoadRect]
    repeat rw [View.ld_unit_lit _ _ (by decide)]
    rfl
  unfold out0_A_4
  rw [View.read_writes_eq_canon _ _ _ hc]
  rw [hp] at hc ⊢
  exact canon_pieces _ x3 hc

/-- At a later column group the scratch is left as it was. -/
theorem sout_B (c : Dev nD) (i : grid0.Coords) (a2 : Memref sig .tc .vmem S1024x2048 .f32) (h2 : a2.IsWhole)
    (a3 : Memref sig .tc .vmem S1024x2048 .f32) (h3 : a3.IsWhole) (a4 : Memref sig .tc .vmem S1x2048 .f32) (h4 : a4.IsWhole)
    (a5 : Memref sig .tc .vmem S2048x512 .bf16) (h5 : a5.IsWhole) (a6 : Memref sig .tc .vmem S4x1024x128 .bf16) (h6 : a6.IsWhole)
    (a7 : Memref sig .tc .vmem S1024x2048 .bf16) (h7 : a7.IsWhole) (hc0 : ¬cond0_0 i) (hc1 : ¬cond0_1 i)
    (x0 x1 : Vec Ideal S1024x2048 .f32) (x2 : Vec Ideal S1x2048 .f32) (x3 : Vec Ideal S2048x512 .bf16) (xs0 : Vec Ideal S1024x2048 .bf16) :
    sout0_B_0 c i a2 h2 a3 h3 a4 h4 a5 h5 a6 h6 a7 h7 hc0 hc1 x0 x1 x2 x3 xs0 = xs0 := rfl

/-- At a later column group the block written is the product of the scratch. -/
theorem out_B (c : Dev nD) (i : grid0.Coords) (a2 : Memref sig .tc .vmem S1024x2048 .f32) (h2 : a2.IsWhole)
    (a3 : Memref sig .tc .vmem S1024x2048 .f32) (h3 : a3.IsWhole) (a4 : Memref sig .tc .vmem S1x2048 .f32) (h4 : a4.IsWhole)
    (a5 : Memref sig .tc .vmem S2048x512 .bf16) (h5 : a5.IsWhole) (a6 : Memref sig .tc .vmem S4x1024x128 .bf16) (h6 : a6.IsWhole)
    (a7 : Memref sig .tc .vmem S1024x2048 .bf16) (h7 : a7.IsWhole) (hc0 : ¬cond0_0 i) (hc1 : ¬cond0_1 i)
    (x0 x1 : Vec Ideal S1024x2048 .f32) (x2 : Vec Ideal S1x2048 .f32) (x3 : Vec Ideal S2048x512 .bf16) (xs0 : Vec Ideal S1024x2048 .bf16) :
    out0_B_4 c i a2 h2 a3 h3 a4 h4 a5 h5 a6 h6 a7 h7 hc0 hc1 x0 x1 x2 x3 xs0 = product xs0 x3 := by
  have hc := cover0_B_4 (F := Ideal) c i a2 h2 a3 h3 a4 h4 a5 h5 a6 h6 a7 h7 hc0 hc1 x0 x1 x2 x3 xs0
  have hp : (kernelRun0_B (F := Ideal) c i a2 h2 a3 h3 a4 h4 a5 h5 a6 h6 a7 h7 hc0 hc1 x0 x1 x2 x3 xs0).1 = pieces xs0 x3 := by
    unfold kernelRun0_B
    dsimp only
    sl_unfold_words
    simp only [View.readAt_eq_ld, h2.read_unread, h3.read_unread, h4.read_unread, h5.read_unread, h7.read_unread, View.readCov_cons_toLoadRect]
    repeat rw [View.ld_unit_lit _ _ (by decide)]
    rfl
  unfold out0_B_4
  rw [View.read_writes_eq_canon _ _ _ hc]
  rw [hp] at hc ⊢
  exact canon_pieces _ x3 hc

/-- At a sampled block's first column group the scratch is left at the block's normed rows. -/
theorem sout_C (c : Dev nD) (i : grid0.Coords) (a2 : Memref sig .tc .vmem S1024x2048 .f32) (h2 : a2.IsWhole)
    (a3 : Memref sig .tc .vmem S1024x2048 .f32) (h3 : a3.IsWhole) (a4 : Memref sig .tc .vmem S1x2048 .f32) (h4 : a4.IsWhole)
    (a5 : Memref sig .tc .vmem S2048x512 .bf16) (h5 : a5.IsWhole) (a6 : Memref sig .tc .vmem S4x1024x128 .bf16) (h6 : a6.IsWhole)
    (a7 : Memref sig .tc .vmem S1024x2048 .bf16) (h7 : a7.IsWhole) (hc0 : ¬cond0_0 i) (hc1 : cond0_1 i)
    (x0 x1 : Vec Ideal S1024x2048 .f32) (x2 : Vec Ideal S1x2048 .f32) (x3 : Vec Ideal S2048x512 .bf16) :
    sout0_C_0 c i a2 h2 a3 h3 a4 h4 a5 h5 a6 h6 a7 h7 hc0 hc1 x0 x1 x2 x3 = (k0_pay2 x1 x2) := by
  have hc := scover0_C_0 (F := Ideal) c i a2 h2 a3 h3 a4 h4 a5 h5 a6 h6 a7 h7 hc0 hc1 x0 x1 x2 x3
  unfold sout0_C_0
  rw [View.read_writes_eq_canon _ _ _ hc]
  unfold kernelRun0_C
  dsimp only
  sl_unfold_words
  simp only [View.readAt_eq_ld, h2.read_unread, h3.read_unread, h4.read_unread]
  rw [View.canon_cons_unit_lit _ _ _ (by decide), View.ld_unit_lit _ _ (by decide), View.ld_unit_lit _ _ (by decide)]
  rfl

/-- At a sampled block's first column group the block written is the product of the normed rows. -/
theorem out_C (c : Dev nD) (i : grid0.Coords) (a2 : Memref sig .tc .vmem S1024x2048 .f32) (h2 : a2.IsWhole)
    (a3 : Memref sig .tc .vmem S1024x2048 .f32) (h3 : a3.IsWhole) (a4 : Memref sig .tc .vmem S1x2048 .f32) (h4 : a4.IsWhole)
    (a5 : Memref sig .tc .vmem S2048x512 .bf16) (h5 : a5.IsWhole) (a6 : Memref sig .tc .vmem S4x1024x128 .bf16) (h6 : a6.IsWhole)
    (a7 : Memref sig .tc .vmem S1024x2048 .bf16) (h7 : a7.IsWhole) (hc0 : ¬cond0_0 i) (hc1 : cond0_1 i)
    (x0 x1 : Vec Ideal S1024x2048 .f32) (x2 : Vec Ideal S1x2048 .f32) (x3 : Vec Ideal S2048x512 .bf16) :
    out0_C_4 c i a2 h2 a3 h3 a4 h4 a5 h5 a6 h6 a7 h7 hc0 hc1 x0 x1 x2 x3 = product (k0_pay2 x1 x2) x3 := by
  have hc := cover0_C_4 (F := Ideal) c i a2 h2 a3 h3 a4 h4 a5 h5 a6 h6 a7 h7 hc0 hc1 x0 x1 x2 x3
  have hp : (kernelRun0_C (F := Ideal) c i a2 h2 a3 h3 a4 h4 a5 h5 a6 h6 a7 h7 hc0 hc1 x0 x1 x2 x3).1 = pieces (k0_pay2 x1 x2) x3 := by
    unfold kernelRun0_C
    dsimp only
    sl_unfold_words
    simp only [View.readAt_eq_ld, h2.read_unread, h3.read_unread, h4.read_unread, h5.read_unread, h7.read_unread, View.readCov_cons_toLoadRect]
    repeat rw [View.ld_unit_lit _ _ (by decide)]
    rfl
  unfold out0_C_4
  rw [View.read_writes_eq_canon _ _ _ hc]
  rw [hp] at hc ⊢
  exact canon_pieces _ x3 hc

end Cert.Kernel3Ideal.In

end
-- ==== Proof.InGrid.lean ====
/-
  The layer's first step over the whole grid: a block's normed rows stay in the scratch from its first column group to its
  last, every block written back is the specification's, and so the result array is the specification (`Cert.InSpec.slab`).
-/
module

public import proofs.«01_k».proof.Proof.Gen.Kernel3Ideal.Value
public import proofs.«01_k».proof.Proof.InBody
public import Idealize.ShloMosaic.Lib.Pipeline.Value
public import Idealize.ShloMosaic.Lib.Pipeline.ValueKit.Basic
public import Idealize.ShloMosaic.Lib.Pointwise
public import Idealize.ShloMosaic.Lib.StableHlo.Run
public import Idealize.ShloMosaic.Lib.Tactic
public import Idealize.ShloMosaic.Lib.ValueLayout

@[expose] public section

set_option maxRecDepth 16384

noncomputable section

namespace Cert.Kernel3Ideal.In

open Idealize.ShloMosaic Idealize.ShloMosaic.TcCoe Idealize.SL.Sem
open Cert.Kernel3Ideal Cert.Kernel3Ideal.Gen
open Idealize.ShloMosaic.Pipeline (Dat)

/-- The blocks of the token windows at a grid point: a prompt block at its own place, a sampled one after the prompt's 32. -/
theorem idx_in : ∀ t : Fin cfg0.N, (t.val / 13 < 32 → win0_0.index t 0 = t.val / 13) ∧ win0_0.index t 1 = 0
    ∧ (32 ≤ t.val / 13 → win0_1.index t 0 = t.val / 13 - 32) ∧ win0_1.index t 1 = 0 :=
  (by decide +kernel : ∀ t : Fin grid0.N, _)

/-- The blocks of the weights and of the result at a grid point. -/
theorem idx_out : ∀ t : Fin cfg0.N, win0_2.index t 0 = 0 ∧ win0_2.index t 1 = 0 ∧ win0_3.index t 0 = 0
    ∧ win0_3.index t 1 = t.val % 13 ∧ win0_4.index t 0 = t.val % 13 ∧ win0_4.index t 1 = t.val / 13 ∧ win0_4.index t 2 = 0 :=
  (by decide +kernel : ∀ t : Fin grid0.N, _)

variable (m : (ℓ : Loc nD τ sig) → Buf (Elt Ideal) ℓ) (ρ : Dev nD → PrngReg)

/-- Token `R`'s row, of the arguments. -/
abbrev tok (c : Dev nD) : Fin 49152 → Fin 2048 → EReal :=
  InSpec.tokens (m ((c : Thread nD τ).loc main_arg0)) (m ((c : Thread nD τ).loc main_arg1))

/-- The norm weight's row. -/
abbrev wrow (c : Dev nD) : Fin 2048 → EReal := fun j => (m ((c : Thread nD τ).loc main_arg2) : Vec Ideal S1x2048 .f32) (ix2 ⟨0, by omega⟩ j)

/-- The result: the specification, of the argument arrays. -/
def result (c : Dev nD) : Buf (Elt Ideal) ((c : Thread nD τ).loc main_v4) := fun i : S52x49152x128.Idx =>
  InSpec.slab (m ((c : Thread nD τ).loc main_arg0)) (m ((c : Thread nD τ).loc main_arg1))
    (m ((c : Thread nD τ).loc main_arg2)) (m ((c : Thread nD τ).loc main_arg3)) (i 0) (i 1) (i 2)

/-- The prompt's tokens as the call takes them: one row after another. -/
theorem V_prompt_eq (c : Dev nD) : (V m c main_v0 : Vec Ideal S32768x2048 .f32)
    = shapeCast S32768x2048 (m ((c : Thread nD τ).loc main_arg0) : Vec Ideal S16x2048x2048 .f32) shapeCasts_S16x2048x2048_S32768x2048 := by
  unfold V; after_results; rfl

/-- The sampled tokens likewise. -/
theorem V_sample_eq (c : Dev nD) : (V m c main_v1 : Vec Ideal S16384x2048 .f32)
    = shapeCast S16384x2048 (m ((c : Thread nD τ).loc main_arg1) : Vec Ideal S8x2048x2048 .f32) shapeCasts_S8x2048x2048_S16384x2048 := by
  unfold V; after_results; rfl

/-- The projection's weight as the call takes it: one matrix, in the narrow format. -/
theorem V_weight_eq (c : Dev nD) : (V m c main_v3 : Vec Ideal S2048x6656 .bf16)
    = truncf .bf16 (shapeCast S2048x6656 (m ((c : Thread nD τ).loc main_arg3) : Vec Ideal S1x2048x6656 .f32) shapeCasts_S1x2048x6656_S2048x6656 : FVec Ideal S2048x6656 .f32) bitsLt_bf16_f32 := by
  unfold V; after_results; rfl

/-- A row of the prompt's tokens, one row after another, is a token. -/
theorem prompt_row (p : Vec Ideal S16x2048x2048 .f32) (s : Vec Ideal S8x2048x2048 .f32) (R : Fin 32768) (k : Fin 2048) :
    (shapeCast S32768x2048 p shapeCasts_S16x2048x2048_S32768x2048 : Vec Ideal S32768x2048 .f32) (ix2 R k)
      = InSpec.tokens p s ⟨R.val, by omega⟩ k := by
  unfold InSpec.tokens
  refine Eq.trans ?_ (dif_pos R.isLt).symm
  pointwise

/-- A row of the sampled tokens, one row after another, is a token after the prompt's. -/
theorem sample_row (p : Vec Ideal S16x2048x2048 .f32) (s : Vec Ideal S8x2048x2048 .f32) (R : Fin 16384) (k : Fin 2048) :
    (shapeCast S16384x2048 s shapeCasts_S8x2048x2048_S16384x2048 : Vec Ideal S16384x2048 .f32) (ix2 R k)
      = InSpec.tokens p s ⟨32768 + R.val, by omega⟩ k := by
  have e : (shapeCast S16384x2048 s shapeCasts_S8x2048x2048_S16384x2048 : Vec Ideal S16384x2048 .f32) (ix2 R k)
      = s (ix3 ⟨R.val / 2048, by omega⟩ ⟨R.val % 2048, by omega⟩ k) := by pointwise
  unfold InSpec.tokens
  dsimp only
  have h : ¬(32768 + R.val < 32768) := by omega
  rw [dif_neg h]
  have key : ∀ n : ℕ, R.val = n → ∀ (h0 : n / 2048 < 8) (h1 : n % 2048 < 2048),
      s (ix3 ⟨R.val / 2048, by omega⟩ ⟨R.val % 2048, by omega⟩ k) = s (ix3 ⟨n / 2048, h0⟩ ⟨n % 2048, h1⟩ k) := by
    rintro _ rfl _ _; rfl
  exact e.trans (key _ (Nat.add_sub_cancel_left 32768 R.val).symm _ _)

/-- The projection's weight as one matrix. -/
theorem weight_row (M : Vec Ideal S1x2048x6656 .f32) (k : Fin 2048) (l : Fin 6656) :
    (shapeCast S2048x6656 M shapeCasts_S1x2048x6656_S2048x6656 : Vec Ideal S2048x6656 .f32) (ix2 k l) = M (ix3 ⟨0, by omega⟩ k l) :=
  ValueIdx.shapeCast_1ab_ab_apply M _ k l

/-- The prompt's window's array, read at a row. -/
theorem V_prompt (c : Dev nD) (R : Fin 32768) (k : Fin 2048) :
    (V m c main_v0 : Vec Ideal S32768x2048 .f32) (ix2 R k) = tok m c ⟨R.val, by omega⟩ k :=
  (congrFun (V_prompt_eq m c) _).trans (prompt_row _ _ R k)

/-- The sampled tokens' window's array, read at a row. -/
theorem V_sample (c : Dev nD) (R : Fin 16384) (k : Fin 2048) :
    (V m c main_v1 : Vec Ideal S16384x2048 .f32) (ix2 R k) = tok m c ⟨32768 + R.val, by omega⟩ k :=
  (congrFun (V_sample_eq m c) _).trans (sample_row _ _ R k)

/-- The weight's window's array, read at an entry. -/
theorem V_weight (c : Dev nD) (k : Fin 2048) (l : Fin 6656) :
    ((V m c main_v3 : Vec Ideal S2048x6656 .bf16) (ix2 k l) : EReal)
      = (m ((c : Thread nD τ).loc main_arg3) : Vec Ideal S1x2048x6656 .f32) (ix3 ⟨0, by omega⟩ k l) :=
  (congrFun (V_weight_eq m c) _).trans (weight_row _ k l)

/-- A prompt block's rows are its tokens. -/
theorem rows_prompt (c : Dev nD) (t : Fin cfg0.N) (ht : t.val / 13 < 32) (r : Fin 1024) (k : Fin 2048) :
    (iblk m c 0 t : Vec Ideal S1024x2048 .f32) (ix2 r k) = tok m c ⟨1024 * (t.val / 13) + r.val, by omega⟩ k := by
  obtain ⟨i00, i01, -, -⟩ := idx_in t
  refine Eq.trans ?_ (V_prompt m c ⟨1024 * (t.val / 13) + r.val, by omega⟩ k)
  unfold iblk
  rw [View.read_apply]
  show V m c main_v0 _ = V m c main_v0 _
  congr 1
  funext a
  apply Fin.ext
  match a with
  | ⟨0, _⟩ => show win0_0.index t 0 * 1024 + 1 * r.val = 1024 * (t.val / 13) + r.val; rw [i00 ht]; omega
  | ⟨1, _⟩ => show win0_0.index t 1 * 2048 + 1 * k.val = k.val; rw [i01]; omega

/-- A sampled block's rows are its tokens. -/
theorem rows_sample (c : Dev nD) (t : Fin cfg0.N) (ht : 32 ≤ t.val / 13) (h48 : t.val / 13 < 48) (r : Fin 1024) (k : Fin 2048) :
    (iblk m c 1 t : Vec Ideal S1024x2048 .f32) (ix2 r k) = tok m c ⟨1024 * (t.val / 13) + r.val, by omega⟩ k := by
  obtain ⟨-, -, i10, i11⟩ := idx_in t
  refine Eq.trans ?_ ((V_sample m c ⟨1024 * (t.val / 13 - 32) + r.val, by omega⟩ k).trans
    (congrArg (fun R => tok m c R k) (Fin.ext (by show 32768 + (1024 * (t.val / 13 - 32) + r.val) = 1024 * (t.val / 13) + r.val; omega))))
  unfold iblk
  rw [View.read_apply]
  show V m c main_v1 _ = V m c main_v1 _
  congr 1
  funext a
  apply Fin.ext
  match a with
  | ⟨0, _⟩ => show win0_1.index t 0 * 1024 + 1 * r.val = 1024 * (t.val / 13 - 32) + r.val; rw [i10 ht]; omega
  | ⟨1, _⟩ => show win0_1.index t 1 * 2048 + 1 * k.val = k.val; rw [i11]; omega

/-- The norm weight's block is the weight. -/
theorem row_weight (c : Dev nD) (t : Fin cfg0.N) (k : Fin 2048) :
    (iblk m c 2 t : Vec Ideal S1x2048 .f32) (ix2 ⟨0, by omega⟩ k) = wrow m c k := by
  obtain ⟨i20, i21, -, -, -, -, -⟩ := idx_out t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 1 + 1 * 0 = 0; rw [i20]
  | ⟨1, _⟩ => show win0_2.index t 1 * 2048 + 1 * k.val = k.val; rw [i21]; omega

/-- The projection weight's block is its 512 columns. -/
theorem col_weight (c : Dev nD) (t : Fin cfg0.N) (k : Fin 2048) (l : Fin 512) :
    ((iblk m c 3 t : Vec Ideal S2048x512 .bf16) (ix2 k l) : EReal)
      = (m ((c : Thread nD τ).loc main_arg3) : Vec Ideal S1x2048x6656 .f32) (ix3 ⟨0, by omega⟩ k ⟨512 * (t.val % 13) + l.val, by omega⟩) := by
  obtain ⟨-, -, i30, i31, -, -, -⟩ := idx_out t
  refine Eq.trans ?_ (V_weight m c k ⟨512 * (t.val % 13) + l.val, by omega⟩)
  unfold iblk
  rw [View.read_apply]
  show V m c main_v3 _ = V m c main_v3 _
  congr 1
  funext a
  apply Fin.ext
  match a with
  | ⟨0, _⟩ => show win0_3.index t 0 * 2048 + 1 * k.val = k.val; rw [i30]; omega
  | ⟨1, _⟩ => show win0_3.index t 1 * 512 + 1 * l.val = 512 * (t.val % 13) + l.val; rw [i31]; omega

/-- A normed block's rows, where its rows are tokens. -/
theorem normed_rows (c : Dev nD) (t : Fin cfg0.N) (x : Vec Ideal S1024x2048 .f32) (f : Fin 1024 → Fin 49152)
    (hx : ∀ r k, x (ix2 r k) = tok m c (f r) k) (r : Fin 1024) (k : Fin 2048) :
    ((k0_pay2 x (iblk m c 2 t) : Vec Ideal S1024x2048 .bf16) (ix2 r k) : EReal) = InSpec.normRow (tok m c (f r)) (wrow m c) k := by
  refine (normed_apply x (iblk m c 2 t) r k).trans ?_
  have e1 : (fun k => x (ix2 r k)) = tok m c (f r) := funext fun k => hx r k
  have e2 : (fun k => (iblk m c 2 t : Vec Ideal S1x2048 .f32) (ix2 ⟨0, by omega⟩ k)) = wrow m c := funext fun k => row_weight m c t k
  exact congr (congr (congrArg InSpec.normRow e1) e2) rfl

/-- After every grid point the scratch holds the normed rows of the point's block. -/
theorem scratch_apply (c : Dev nD) : ∀ (n : ℕ) (hn : n < cfg0.N) (h48 : n / 13 < 48) (r : Fin 1024) (k : Fin 2048),
    ((outsAt0 m c n hn).2 (ix2 r k) : EReal) = InSpec.normRow (tok m c ⟨1024 * (n / 13) + r.val, by omega⟩) (wrow m c) k := by
  intro n
  induction n using Nat.strong_induction_on with
  | _ n ih =>
    intro hn h48 r k
    have hm : n / 13 % 48 = n / 13 := Nat.mod_eq_of_lt h48
    by_cases h0 : n / 13 % 48 + 32 * (n % 13) ≤ 31
    · have h1 : ¬16 * (n % 13) + 32 ≤ n / 13 % 48 := by omega
      rw [outsAt0_A m c ⟨n, hn⟩ h0 h1]
      dsimp only
      rw [sout_A]
      exact normed_rows m c ⟨n, hn⟩ _ (fun r => ⟨1024 * (n / 13) + r.val, by omega⟩) (rows_prompt m c ⟨n, hn⟩ (by show n / 13 < 32; omega)) r k
    · by_cases h1 : 16 * (n % 13) + 32 ≤ n / 13 % 48
      · rw [outsAt0_C m c ⟨n, hn⟩ h0 h1]
        dsimp only
        rw [sout_C]
        exact normed_rows m c ⟨n, hn⟩ _ (fun r => ⟨1024 * (n / 13) + r.val, by omega⟩) (rows_sample m c ⟨n, hn⟩ (by show 32 ≤ n / 13; omega) h48) r k
      · rw [outsAt0_B m c ⟨n, hn⟩ h0 h1]
        dsimp only
        rw [sout_B]
        have hq : (n - 1) / 13 = n / 13 := by omega
        refine (ih (n - 1) (by omega) _ (by omega) r k).trans ?_
        exact congrArg (fun R => InSpec.normRow (tok m c R) (wrow m c) k) (Fin.ext (by show 1024 * ((n - 1) / 13) + r.val = 1024 * (n / 13) + r.val; rw [hq]))

/-- The product of the scratch with the point's columns is the specification's block. -/
theorem product_apply (c : Dev nD) (t : Fin cfg0.N) (h48 : t.val / 13 < 48) (h : Vec Ideal S1024x2048 .bf16)
    (hh : ∀ r k, (h (ix2 r k) : EReal) = InSpec.normRow (tok m c ⟨1024 * (t.val / 13) + r.val, by omega⟩) (wrow m c) k)
    (q : Fin 4) (r : Fin 1024) (l : Fin 128) :
    (product h (iblk m c 3 t) (ix3 q r l) : EReal) = result m c (ix3 (n0 := 52) (n1 := 49152) (n2 := 128) ⟨4 * (t.val % 13) + q.val, by omega⟩
      ⟨1024 * (t.val / 13) + r.val, by omega⟩ l) := by
  unfold product result InSpec.slab
  refine Finset.sum_congr rfl fun k _ => ?_
  refine congr (congrArg _ (hh r k)) ((col_weight m c t k ⟨128 * q.val + l.val, by omega⟩).trans ?_)
  exact congrArg (fun a : Fin 6656 => (m ((c : Thread nD τ).loc main_arg3) : Vec Ideal S1x2048x6656 .f32) (ix3 ⟨0, by omega⟩ k a))
    (Fin.ext (by show 512 * (t.val % 13) + (128 * q.val + l.val) = (4 * (t.val % 13) + q.val) * 128 + l.val; omega))

/-- What every grid point leaves in the result's buffer is a product with what it leaves in the scratch. -/
theorem out_product (c : Dev nD) (t : Fin cfg0.N) :
    (outsAt0 m c t.val t.isLt).1 = product (outsAt0 m c t.val t.isLt).2 (iblk m c 3 t) := by
  by_cases h0 : t.val / 13 % 48 + 32 * (t.val % 13) ≤ 31
  · have h1 : ¬16 * (t.val % 13) + 32 ≤ t.val / 13 % 48 := by omega
    rw [outsAt0_A m c t h0 h1]
    dsimp only
    rw [sout_A, out_A]
  · by_cases h1 : 16 * (t.val % 13) + 32 ≤ t.val / 13 % 48
    · rw [outsAt0_C m c t h0 h1]
      dsimp only
      rw [sout_C, out_C]
    · rw [outsAt0_B m c t h0 h1]
      dsimp only
      rw [sout_B, out_B]

/-- What point `t` writes back is the result's block. -/
theorem flushed_eq (c : Dev nD) (t : Fin cfg0.N) (_ : (cfg0.win 4).flush t = true) :
    (dats m 0 c).flushed 4 t = ((cfg0.win 4).blk t).view.read (Elt Ideal) (result m c) := by
  obtain ⟨-, -, -, -, i40, i41, i42⟩ := idx_out t
  have ht : t.val < 624 := by have := t.isLt; have : cfg0.N = 624 := N_0; omega
  have h48 : t.val / 13 < 48 := by omega
  rw [Value.flushed4, out_product]
  funext j
  rw [View.read_apply]
  have hj0 : (j 0).val < 4 := (j 0).isLt
  have hj1 : (j 1).val < 1024 := (j 1).isLt
  have hj2 : (j 2).val < 128 := (j 2).isLt
  refine (congrArg _ ?_).trans ((product_apply m c t h48 _ (scratch_apply m c t.val t.isLt h48) ⟨(j 0).val, hj0⟩ ⟨(j 1).val, hj1⟩ ⟨(j 2).val, hj2⟩).trans ?_)
  · funext a; match a with | ⟨0, _⟩ => rfl | ⟨1, _⟩ => rfl | ⟨2, _⟩ => rfl
  · show result m c _ = result m c _
    congr 1
    funext a
    apply Fin.ext
    match a with
    | ⟨0, _⟩ => show 4 * (t.val % 13) + (j 0).val = win0_4.index t 0 * 4 + 1 * (j 0).val; rw [i40]; omega
    | ⟨1, _⟩ => show 1024 * (t.val / 13) + (j 1).val = win0_4.index t 1 * 1024 + 1 * (j 1).val; rw [i41]; omega
    | ⟨2, _⟩ => show (j 2).val = win0_4.index t 2 * 128 + 1 * (j 2).val; rw [i42]; omega

/-- The result array after the run is the specification: every entry lies in the block of one grid point. -/
theorem final_eq (c : Dev nD) : (dats m 0 c).arrAt 4 cfg0.N = result m c :=
  (dats m 0 c).arrAt_eq_of_cover 4 (result m c) (flushed_eq m c) fun (i : S52x49152x128.Idx) => by
    have h0 : (i 0 : Nat) < 52 := (i 0).isLt
    have h1 : (i 1 : Nat) < 49152 := (i 1).isLt
    have h2 : (i 2 : Nat) < 128 := (i 2).isLt
    exact (Value.covered_iff4 i).mpr ⟨by omega, h0, by omega, h1, by omega, h2⟩

/-- The run: the result array is the specification, the arguments are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Value.run_blocks m ρ)

end Cert.Kernel3Ideal.In

end
-- ==== Proof.InRef.lean ====
/-
  The reference for the layer's first step, read at a slab, a token and a lane: it is the specification
  (`Cert.InSpec.slab`).
-/
module

public import proofs.«01_k».proof.Proof.Gen.Reference3Ideal.Run
public import proofs.«01_k».proof.Proof.InSpec
public import Idealize.ShloMosaic.Lib.Pointwise

@[expose] public section

set_option maxRecDepth 16384

noncomputable section

namespace Cert.Reference3Ideal.In

open Idealize.ShloMosaic Idealize.ShloMosaic.TcCoe Idealize.SL.Sem
open Cert.Reference3Ideal Cert.Reference3Ideal.Gen

variable (p : Vec Ideal S16x2048x2048 .f32) (s : Vec Ideal S8x2048x2048 .f32) (w : Vec Ideal S1x2048 .f32) (M : Vec Ideal S1x2048x6656 .f32)

/-- All tokens' rows, as the reference puts them together. -/
abbrev all : Vec Ideal S49152x2048 .f32 :=
  concatenate S49152x2048 0 [⟨S32768x2048, (shapeCast S32768x2048 p shapeCasts_S16x2048x2048_S32768x2048)⟩,
    ⟨S16384x2048, (shapeCast S16384x2048 s shapeCasts_S8x2048x2048_S16384x2048)⟩] concatenates_S32768x2048_S16384x2048_S49152x2048_d0

/-- They are the specification's rows. -/
theorem all_apply (R : Fin 49152) (k : Fin 2048) : all p s (ix2 R k) = InSpec.tokens p s R k := by
  unfold all InSpec.tokens
  by_cases h : R.val < 32768
  · pointwise
  · pointwise

/-- The reference's operations after the tokens are put together. -/
abbrev rest (x : Vec Ideal S49152x2048 .f32) : FVec Ideal S52x49152x128 .bf16 :=
  truncf .bf16 (transpose S52x49152x128 [1, 0, 2] (shapeCast S49152x52x128 (Host.dotGeneral (φ₂ := .f32) dot_S49152x2048_S2048x6656_S49152x6656_1_0_0_1_n_n none
    (mulf (mulf x (broadcastInDim S49152x2048 ![0, 1] bcast_S49152x1_S49152x2048_0_1 (Host.rsqrt (addf (Host.divf
      (broadcastInDim S49152x1 ![0] bcast_S49152_S49152x1_0 (Host.reduceAdd (mulf x x) (constant S_ .f32 0x00000000#32) reducesTo_S49152x2048_S49152_d1 h_S_))
      (broadcastInDim S49152x1 ![] bcast_S_S49152x1 (constant S_ .f32 0x45000000#32)))
      (broadcastInDim S49152x1 ![] bcast_S_S49152x1 (constant S_ .f32 0x358637BD#32))))))
      (broadcastInDim S49152x2048 ![0, 1] bcast_S1x2048_S49152x2048_0_1 (broadcastInDim S1x2048 ![1] bcast_S2048_S1x2048_1 (shapeCast S2048 w shapeCasts_S1x2048_S2048))))
    (shapeCast S2048x6656 M shapeCasts_S1x2048x6656_S2048x6656)) shapeCasts_S49152x6656_S49152x52x128) transposes_S49152x52x128_S52x49152x128_1_0_2) bitsLt_bf16_f32

/-- The norm and the projection, read at a slab, a token and a lane. -/
theorem rest_apply (x : Vec Ideal S49152x2048 .f32) (q : Fin 52) (R : Fin 49152) (l : Fin 128) :
    (rest w M x : Vec Ideal S52x49152x128 .bf16) (ix3 q R l) = ∑ k : Fin 2048, InSpec.normRow (fun k => x (ix2 R k)) (fun j => w (ix2 ⟨0, by omega⟩ j)) k
      * M (ix3 ⟨0, by omega⟩ k ⟨q.val * 128 + l.val, by omega⟩) := by
  unfold rest
  pointwise
  rfl

/-- The reference at a slab, a token and a lane. -/
theorem slab_apply (q : Fin 52) (R : Fin 49152) (l : Fin 128) :
    (rest w M (all p s) : Vec Ideal S52x49152x128 .bf16) (ix3 q R l) = InSpec.slab p s w M q R l := by
  rw [rest_apply]
  unfold InSpec.slab
  have e : (fun k => all p s (ix2 R k)) = InSpec.tokens p s R := funext fun k => all_apply p s R k
  rw [e]

end Cert.Reference3Ideal.In
end
-- ==== Proof.ExGeom.lean ====
/-
  The experts' call, its row geometry: the rows of the two slots of the gather and of the scatter buffer, the
  rows of the token array and of the result, and the transfers' cells, each stated over its coordinates.
-/
module

public import proofs.«01_k».proof.Proof.Gen.Kernel4Ideal.Launch
public import proofs.«01_k».proof.Proof.Gen.Kernel4Ideal.Skeleton
public import Idealize.ShloMosaic.Lib.Pipeline.FrameValue
public import Idealize.ShloMosaic.Lib.Pipeline.FrameBody
public import Idealize.ShloMosaic.Lib.Pipeline.ValueKit.Geometry
public import Idealize.ShloMosaic.Lib.Ring
public import Idealize.ShloMosaic.Lib.ValueLayout
public import Idealize.ShloMosaic.Lib.ViewIndex
public import Idealize.ShloMosaic.Lib.Tactic

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Rows -/

/-- Row `k` of slot `s` of a two-slot buffer. -/
def rowS (s : Fin 2) (k : Fin 256) : Finset S2x256x2048.Idx := Finset.univ.filter fun x => (x 0).val = s.val ∧ (x 1).val = k.val
/-- Slot `s` of a two-slot buffer. -/
def slotS (s : Fin 2) : Finset S2x256x2048.Idx := Finset.univ.filter fun x => (x 0).val = s.val
/-- Row `r` of the token array. -/
def rowH (r : Fin 49152) : Finset S49152x2048.Idx := Finset.univ.filter fun x => (x 0).val = r.val
/-- Row `r` of the result. -/
def rowY (r : Fin 106496) : Finset S106496x2048.Idx := Finset.univ.filter fun x => (x 0).val = r.val

theorem mem_rowS {s : Fin 2} {k : Fin 256} {x : S2x256x2048.Idx} : x ∈ rowS s k ↔ (x 0).val = s.val ∧ (x 1).val = k.val := by simp [rowS]
theorem mem_slotS {s : Fin 2} {x : S2x256x2048.Idx} : x ∈ slotS s ↔ (x 0).val = s.val := by simp [slotS]
theorem mem_rowH {r : Fin 49152} {x : S49152x2048.Idx} : x ∈ rowH r ↔ (x 0).val = r.val := by simp [rowH]
theorem mem_rowY {r : Fin 106496} {x : S106496x2048.Idx} : x ∈ rowY r ↔ (x 0).val = r.val := by simp [rowY]

/-- The place of lane `j` of row `k` of slot `s`. -/
def ixS (s : Fin 2) (k : Fin 256) (j : Fin 2048) : S2x256x2048.Idx := ValueIdx.ix3 (n0 := 2) (n1 := 256) (n2 := 2048) s k j
/-- The place of lane `j` of row `r` of the token array. -/
def ixH (r : Fin 49152) (j : Fin 2048) : S49152x2048.Idx := ValueIdx.ix2 (n0 := 49152) (n1 := 2048) r j
/-- The place of lane `j` of row `r` of the result. -/
def ixY (r : Fin 106496) (j : Fin 2048) : S106496x2048.Idx := ValueIdx.ix2 (n0 := 106496) (n1 := 2048) r j

/-- Lane of an index of one row. -/
abbrev lane (x : S1x2048.Idx) : Fin 2048 := ⟨(x 1).val, (x 1).isLt⟩

theorem row_zero (x : S1x2048.Idx) : (x 0).val = 0 := by
  have := (x 0).isLt; change (x 0).val < 1 at this; omega

theorem ix_lane (x : S1x2048.Idx) : x = ValueIdx.ix2 (n0 := 1) (n1 := 2048) ⟨0, Nat.one_pos⟩ (lane x) := by
  funext a; apply Fin.ext
  match a with
  | 0 => exact row_zero x
  | 1 => rfl

/-- The window of one row of a two-slot buffer, squeezed to one row of lanes. -/
abbrev rowM (M : Memref sig .tc .vmem S2x256x2048 .f32) (off : Fin 3 → Nat) (inb : ∀ a, off a + S1x1x2048.size a ≤ S2x256x2048.size a) :
    Memref sig .tc .vmem S1x2048 .f32 :=
  (M.slice (Rect.unit (s := S2x256x2048) off S1x1x2048.size inb) (fun _ => rfl)).squeeze S1x2048 squeezes_S1x1x2048_S1x2048

/-- Where lane `j` of that window lies in the buffer. -/
theorem rect_rowS (s : Fin 2) (k : Fin 256) (off : Fin 3 → Nat) (inb : ∀ a, off a + S1x1x2048.size a ≤ S2x256x2048.size a) (h : off = ![s.val, k.val, 0])
    (x : S1x2048.Idx) :
    (Rect.unit (s := S2x256x2048) off S1x1x2048.size inb).emb (Shape.reshapeEquiv (squeezes_S1x1x2048_S1x2048).numel_eq x) = ixS s k (lane x) := by
  subst h
  conv_lhs => rw [ix_lane x]
  rw [ValueIdx.reshapeEquiv_ix2_1ab]
  funext a
  apply Fin.ext
  rw [ValueKit.rect_emb_unit_val]
  match a with
  | 0 => rfl
  | 1 => rfl
  | 2 => show 0 + (x 1).val = (x 1).val; omega

/-- The gather buffer, the scatter buffer, the token array and the result, as the body names them. -/
abbrev gM : Memref sig .tc .vmem S2x256x2048 .f32 := Memref.whole cc0_scratch0
abbrev oM : Memref sig .tc .vmem S2x256x2048 .f32 := Memref.whole cc0_scratch1
abbrev hM : Memref sig .tc .hbm S49152x2048 .f32 := Memref.whole main_arg0
abbrev yM : Memref sig .tc .hbm S106496x2048 .f32 := Memref.whole main_v0
/-- A row of the token array. -/
abbrev rowHM (off : Fin 2 → Nat) (inb : ∀ a, off a + S1x2048.size a ≤ S49152x2048.size a) : Memref sig .tc .hbm S1x2048 .f32 :=
  hM.slice (Rect.unit (s := S49152x2048) off S1x2048.size inb) (fun _ => rfl)
/-- A row of the result. -/
abbrev rowYM (off : Fin 2 → Nat) (inb : ∀ a, off a + S1x2048.size a ≤ S106496x2048.size a) : Memref sig .tc .hbm S1x2048 .f32 :=
  yM.slice (Rect.unit (s := S106496x2048) off S1x2048.size inb) (fun _ => rfl)

section Emb
variable (s : Fin 2) (k : Fin 256) {off : Fin 3 → Nat} (inb : ∀ a, off a + S1x1x2048.size a ≤ S2x256x2048.size a) (h : off = ![s.val, k.val, 0])
include h

theorem emb_g (x : S1x2048.Idx) : (rowM gM off inb).view.emb x = ixS s k (lane x) := rect_rowS s k off inb h x
theorem emb_o (x : S1x2048.Idx) : (rowM oM off inb).view.emb x = ixS s k (lane x) := rect_rowS s k off inb h x

theorem mem_of_emb (e : S1x2048.Idx ↪ S2x256x2048.Idx) (he : ∀ x, e x = ixS s k (lane x)) : Finset.univ.map e = rowS s k := by
  ext y
  rw [Finset.mem_map, mem_rowS]
  constructor
  · rintro ⟨x, -, rfl⟩
    rw [he]; exact ⟨rfl, rfl⟩
  · rintro ⟨h0, h1⟩
    refine ⟨ValueIdx.ix2 (n0 := 1) (n1 := 2048) ⟨0, Nat.one_pos⟩ ⟨(y 2).val, (y 2).isLt⟩, Finset.mem_univ _, ?_⟩
    rw [he]
    funext a; apply Fin.ext
    match a with
    | 0 => exact h0.symm
    | 1 => exact h1.symm
    | 2 => rfl

theorem set_g : (rowM gM off inb).view.set = rowS s k := mem_of_emb s k h _ (emb_g s k inb h)
theorem set_o : (rowM oM off inb).view.set = rowS s k := mem_of_emb s k h _ (emb_o s k inb h)
end Emb

section EmbH
variable (r : Fin 49152) {off : Fin 2 → Nat} (inb : ∀ a, off a + S1x2048.size a ≤ S49152x2048.size a) (h : off = ![r.val, 0])
include h
theorem emb_h (x : S1x2048.Idx) : (rowHM off inb).view.emb x = ixH r (lane x) := by
  subst h
  show (Rect.unit (s := S49152x2048) _ S1x2048.size inb).emb x = _
  funext a; apply Fin.ext
  rw [ValueKit.rect_emb_unit_val]
  match a with
  | 0 => show r.val + (x 0).val = r.val; rw [row_zero]; rfl
  | 1 => show 0 + (x 1).val = (x 1).val; omega
theorem set_h : (rowHM off inb).view.set = rowH r := by
  ext y
  rw [View.set, Finset.mem_map, mem_rowH]
  constructor
  · rintro ⟨x, -, rfl⟩
    rw [emb_h r inb h]; rfl
  · intro h0
    refine ⟨ValueIdx.ix2 (n0 := 1) (n1 := 2048) ⟨0, Nat.one_pos⟩ ⟨(y 1).val, (y 1).isLt⟩, Finset.mem_univ _, ?_⟩
    rw [emb_h r inb h]
    funext a; apply Fin.ext
    match a with
    | 0 => exact h0.symm
    | 1 => rfl
end EmbH

section EmbY
variable (r : Fin 106496) {off : Fin 2 → Nat} (inb : ∀ a, off a + S1x2048.size a ≤ S106496x2048.size a) (h : off = ![r.val, 0])
include h
theorem emb_y (x : S1x2048.Idx) : (rowYM off inb).view.emb x = ixY r (lane x) := by
  subst h
  show (Rect.unit (s := S106496x2048) _ S1x2048.size inb).emb x = _
  funext a; apply Fin.ext
  rw [ValueKit.rect_emb_unit_val]
  match a with
  | 0 => show r.val + (x 0).val = r.val; rw [row_zero]; rfl
  | 1 => show 0 + (x 1).val = (x 1).val; omega
theorem set_y : (rowYM off inb).view.set = rowY r := by
  ext y
  rw [View.set, Finset.mem_map, mem_rowY]
  constructor
  · rintro ⟨x, -, rfl⟩
    rw [emb_y r inb h]; rfl
  · intro h0
    refine ⟨ValueIdx.ix2 (n0 := 1) (n1 := 2048) ⟨0, Nat.one_pos⟩ ⟨(y 1).val, (y 1).isLt⟩, Finset.mem_univ _, ?_⟩
    rw [emb_y r inb h]
    funext a; apply Fin.ext
    match a with
    | 0 => exact h0.symm
    | 1 => rfl
end EmbY

/-! ## What a row's transfer leaves -/

/-- A token row written over a gather row: that token's lanes. -/
theorem write_g (s : Fin 2) (k : Fin 256) {off : Fin 3 → Nat} (inb : ∀ a, off a + S1x1x2048.size a ≤ S2x256x2048.size a) (h : off = ![s.val, k.val, 0])
    (r : Fin 49152) {off' : Fin 2 → Nat} (inb' : ∀ a, off' a + S1x2048.size a ≤ S49152x2048.size a) (h' : off' = ![r.val, 0])
    (fd : S2x256x2048.Idx → Elt F .f32) (fs : S49152x2048.Idx → Elt F .f32) (via : ReadAs (Elt F) S1x2048 .f32 S1x2048 .f32) (hv : ∀ g, via.apply g = g)
    (y : S2x256x2048.Idx) (hy : y ∈ rowS s k) :
    (rowM gM off inb).view.write (Elt F) fd (via.apply ((rowHM off' inb').view.read (Elt F) fs)) Finset.univ y = fs (ixH r ⟨(y 2).val, (y 2).isLt⟩) := by
  rw [← set_g s k inb h, View.set, Finset.mem_map] at hy
  obtain ⟨x, -, rfl⟩ := hy
  rw [View.write_emb_of_mem _ _ (Finset.mem_univ x), hv]
  show fs ((rowHM off' inb').view.emb x) = _
  rw [emb_h r inb' h', emb_g s k inb h]
  rfl

/-- A scatter row written over a row of the result: that row's lanes. -/
theorem write_y (s : Fin 2) (k : Fin 256) {off : Fin 3 → Nat} (inb : ∀ a, off a + S1x1x2048.size a ≤ S2x256x2048.size a) (h : off = ![s.val, k.val, 0])
    (r : Fin 106496) {off' : Fin 2 → Nat} (inb' : ∀ a, off' a + S1x2048.size a ≤ S106496x2048.size a) (h' : off' = ![r.val, 0])
    (fd : S106496x2048.Idx → Elt F .f32) (fs : S2x256x2048.Idx → Elt F .f32) (via : ReadAs (Elt F) S1x2048 .f32 S1x2048 .f32) (hv : ∀ g, via.apply g = g)
    (y : S106496x2048.Idx) (hy : y ∈ rowY r) :
    (rowYM off' inb').view.write (Elt F) fd (via.apply ((rowM oM off inb).view.read (Elt F) fs)) Finset.univ y = fs (ixS s k ⟨(y 1).val, (y 1).isLt⟩) := by
  rw [← set_y r inb' h', View.set, Finset.mem_map] at hy
  obtain ⟨x, -, rfl⟩ := hy
  rw [View.write_emb_of_mem _ _ (Finset.mem_univ x), hv]
  show fs ((rowM oM off inb).view.emb x) = _
  rw [emb_o s k inb h, emb_y r inb' h']
  rfl

/-! ## The transfers' cells -/

/-- The gather's cell of row `k` of slot `s`, and the scatter's. -/
def cellG (s : Fin 2) (k : Fin 256) : DmaSem sig := cc0_scratch5.ix (ValueIdx.ix2 (n0 := 2) (n1 := 256) s k)
def cellS (s : Fin 2) (k : Fin 256) : DmaSem sig := cc0_scratch6.ix (ValueIdx.ix2 (n0 := 2) (n1 := 256) s k)

theorem sem_cell (A : DmaSems sig S2x256) (s : Fin 2) (k : Fin 256) {off : Fin 2 → Nat} (inb : ∀ a, off a + S1x1.size a ≤ S2x256.size a) (h : off = ![s.val, k.val]) :
    ((A.slice (Rect.unit (s := S2x256) off S1x1.size inb)).squeeze S_ squeezes_S1x1_S_).sem = A.ix (ValueIdx.ix2 (n0 := 2) (n1 := 256) s k) := by
  subst h
  show A.ix ((Rect.unit (s := S2x256) _ S1x1.size inb).emb (Shape.reshapeEquiv _ _)) = _
  congr 1
  funext a; apply Fin.ext
  rw [ValueKit.rect_emb_unit_val]
  generalize Shape.reshapeEquiv _ _ = z
  match a with
  | 0 => have := (z 0).isLt; change (z 0).val < 1 at this; show s.val + (z 0).val = s.val; omega
  | 1 => have := (z 1).isLt; change (z 1).val < 1 at this; show k.val + (z 1).val = k.val; omega

end Cert.Kernel4Ideal.Ex
end
-- ==== Proof.ExOff.lean ====
/-
  The experts' call: what each computed offset and condition is, over the tile number and the row.
-/
module

public import proofs.«01_k».proof.Proof.ExGeom

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The words -/

/-- The slot word of a tile number, as the body computes it: its remainder by two. -/
def slotW (a : BitVec 32) : BitVec 32 :=
  let v1 : BitVec 32 := Scalar.select (Scalar.cmpi .eq 2#32 0#32) 1#32 2#32
  let v2 : BitVec 32 := Scalar.remsi a v1
  Scalar.select (Scalar.andi (Scalar.xori (Scalar.cmpi .slt v2 0#32) (Scalar.cmpi .slt v1 0#32)) (Scalar.cmpi .ne v2 0#32)) (Scalar.addi v2 v1) v2

theorem slotW_val : ∀ n : Fin 416, (slotW (BitVec.ofNat 32 n.val)).toNat = n.val % 2 := by decide +kernel
theorem slotW_other : ∀ n : Fin 416, (Scalar.subi 1#32 (slotW (BitVec.ofNat 32 n.val))).toNat = (n.val + 1) % 2 := by decide +kernel
theorem iv_val : ∀ k : Fin 256, (Scf.iv 0#32 1#32 k.val).toNat = k.val := by decide +kernel

theorem trips_eq : k0_t1_loop.trips = 256 := by decide +kernel

/-- The tile number of a coordinate. -/
abbrev tl (i : grid0.Coords) : Nat := (i 0).val
theorem tl_lt (i : grid0.Coords) : tl i < 416 := (i 0).isLt
/-- The slot of a tile, and the other one. -/
def par (n : Nat) : Fin 2 := ⟨n % 2, Nat.mod_lt _ (by decide)⟩
theorem par_succ_succ (n : Nat) : par (n + 2) = par n := Fin.ext (by show (n + 2) % 2 = n % 2; omega)

theorem slot_i (i : grid0.Coords) : (slotW (BitVec.ofNat 32 (i 0).val)).toNat = (par (tl i)).val := slotW_val ⟨tl i, tl_lt i⟩
theorem slot_o (i : grid0.Coords) : (Scalar.subi 1#32 (slotW (BitVec.ofNat 32 (i 0).val))).toNat = (par (tl i + 1)).val := slotW_other ⟨tl i, tl_lt i⟩

/-- The row of a trip. -/
abbrev rw_ (k : Fin k0_t1_loop.trips) : Fin 256 := ⟨k.val, trips_eq ▸ k.isLt⟩
theorem iv_k (k : Fin k0_t1_loop.trips) : (Scf.iv 0#32 1#32 k.val).toNat = k.val := iv_val (rw_ k)

/-! ## The conditions -/

theorem cond1 (i : grid0.Coords) : k0_cond1 i = 1#1 ↔ tl i = 0 := by
  have h : ∀ n : Fin 416, (Scalar.cmpi .ne (Scalar.extui (Scalar.cmpi .eq (BitVec.ofNat 32 n.val) 0#32) : BitVec 32) 0#32 = 1#1) ↔ n.val = 0 := by decide +kernel
  exact h ⟨tl i, tl_lt i⟩
theorem cond4 (i : grid0.Coords) : k0_cond4 i = 1#1 ↔ 2 ≤ tl i := by
  have h : ∀ n : Fin 416, (Scalar.cmpi .ne (Scalar.extui (Scalar.cmpi .sge (BitVec.ofNat 32 n.val) 2#32) : BitVec 32) 0#32 = 1#1) ↔ 2 ≤ n.val := by decide +kernel
  exact h ⟨tl i, tl_lt i⟩
theorem cond5 (i : grid0.Coords) : k0_cond5 i = 1#1 ↔ tl i = 415 := by
  have h : ∀ n : Fin 416, (Scalar.cmpi .ne (Scalar.extui (Scalar.cmpi .eq (BitVec.ofNat 32 n.val) 415#32) : BitVec 32) 0#32 = 1#1) ↔ n.val = 415 := by decide +kernel
  exact h ⟨tl i, tl_lt i⟩
theorem cond2 (i : grid0.Coords) : k0_cond2 i = 1#1 ↔ tl i + 1 < 416 := by
  have h : ∀ n : Fin 416, (Scalar.cmpi .ne (Scalar.extui (Scalar.cmpi .slt (Scalar.addi (BitVec.ofNat 32 n.val) 1#32) 416#32) : BitVec 32) 0#32 = 1#1) ↔ n.val + 1 < 416 := by decide +kernel
  exact h ⟨tl i, tl_lt i⟩

/-! ## The offsets -/

section Offsets
variable (i : grid0.Coords) (k : Fin k0_t1_loop.trips)

theorem vec3 {a b c a' b' c' : Nat} (h1 : a = a') (h2 : b = b') (h3 : c = c') : (![a, b, c] : Fin 3 → Nat) = ![a', b', c'] := by rw [h1, h2, h3]
theorem vec2 {a b a' b' : Nat} (h1 : a = a') (h2 : b = b') : (![a, b] : Fin 2 → Nat) = ![a', b'] := by rw [h1, h2]

theorem off2 : k0_off2 k = ![0, 0, (rw_ k).val] := vec3 rfl rfl (iv_k k)
theorem off6 : k0_off6 k = ![0, 0, (rw_ k).val] := vec3 rfl rfl (iv_k k)
theorem off16 : k0_off16 k = ![0, 0, (rw_ k).val] := vec3 rfl rfl (iv_k k)
theorem off3 (h : tl i = 0) : k0_off3 k = ![(par (tl i)).val, (rw_ k).val] := vec2 (by rw [h]; rfl) (iv_k k)
theorem off4 (h : tl i = 0) : k0_off4 k = ![(par (tl i)).val, (rw_ k).val, 0] := vec3 (by rw [h]; rfl) (iv_k k) rfl
theorem off7 : k0_off7 i k = ![(par (tl i + 1)).val, (rw_ k).val] := vec2 (slot_o i) (iv_k k)
theorem off8 : k0_off8 i k = ![(par (tl i + 1)).val, (rw_ k).val, 0] := vec3 (slot_o i) (iv_k k) rfl
theorem off11 : k0_off11 i k = ![(par (tl i)).val, (rw_ k).val] := vec2 (slot_i i) (iv_k k)
theorem off12 : k0_off12 i k = ![(par (tl i)).val, (rw_ k).val, 0] := vec3 (slot_i i) (iv_k k) rfl
theorem off14 : k0_off14 i k = ![(par (tl i)).val, (rw_ k).val] := vec2 (slot_i i) (iv_k k)
theorem off15 : k0_off15 i k = ![(par (tl i)).val, (rw_ k).val, 0] := vec3 (slot_i i) (iv_k k) rfl
theorem off17 : k0_off17 i k = ![(par (tl i)).val, (rw_ k).val] := vec2 (slot_i i) (iv_k k)
theorem off19 : k0_off19 i k = ![(par (tl i)).val, (rw_ k).val, 0] := vec3 (slot_i i) (iv_k k) rfl
theorem off20 : k0_off20 i k = ![(par (tl i)).val, (rw_ k).val] := vec2 (slot_i i) (iv_k k)
theorem off21 : k0_off21 i k = ![(par (tl i)).val, (rw_ k).val, 0] := vec3 (slot_i i) (iv_k k) rfl
theorem off22 : k0_off22 i k = ![(par (tl i + 1)).val, (rw_ k).val] := vec2 (slot_o i) (iv_k k)
theorem off23 : k0_off23 i k = ![(par (tl i + 1)).val, (rw_ k).val, 0] := vec3 (slot_o i) (iv_k k) rfl
theorem off13 : k0_off13 i = ![(par (tl i)).val, 0, 0] := by
  have h : k0_off13 i = ![(slotW (BitVec.ofNat 32 (i 0).val)).toNat, 0, 0] := rfl
  rw [h, slot_i]
theorem off1 : k0_off1 i = ![tl i] := by
  have h : ∀ n : Fin 416, (BitVec.ofNat 32 n.val).toNat = n.val := by decide +kernel
  have h' : k0_off1 i = ![(BitVec.ofNat 32 (i 0).val).toNat] := rfl
  rw [h', h ⟨tl i, tl_lt i⟩]
theorem off10 : k0_off10 i = ![tl i - 1] := by
  have h : ∀ n : Fin 416, (Scalar.maxsi (Scalar.subi (BitVec.ofNat 32 n.val) 1#32) 0#32).toNat = n.val - 1 := by decide +kernel
  have h' : k0_off10 i = ![(Scalar.maxsi (Scalar.subi (BitVec.ofNat 32 (i 0).val) 1#32) 0#32).toNat] := rfl
  rw [h', h ⟨tl i, tl_lt i⟩]

end Offsets

end Cert.Kernel4Ideal.Ex
end
-- ==== Proof.ExTrips.lean ====
/-
  The experts' call, one row's transfer: its start and its wait, for the gather and for the scatter; and a loop over the 256 rows of a tile.
-/
module

public import proofs.«01_k».proof.Proof.ExOff

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch: the pipeline's beside the transfers' counters. -/
local notation "𝕄" => MT nD τ sig Unit (Elt F) ℕ (Pipeline.UD sig nD τ) ℕ

/-- The run of a piece of the body on core `c`. -/
abbrev run (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## A loop over the rows -/

/-- A loop whose trip `k` turns the `k`-th resource from `A` to `B`, with a rest that each trip keeps, turns them all. -/
theorem loop_rows {c : Dev nD} (A B : Fin 256 → sProp 𝕄) (R : sProp 𝕄) (hok : Scf.OK (w := 32) 0#32 256#32 1#32)
    (body : Fin k0_t1_loop.trips → Unit → Prog (TpuEff nD τ sig (Elt F) Λ₀ .tc) Unit)
    (hbody : ∀ k : Fin k0_t1_loop.trips, iprop(A (rw_ k) ∗ R) ⊢ run c (body k ⟨⟩) fun _ => iprop(B (rw_ k) ∗ R)) :
    iprop(bigSep Finset.univ A ∗ R) ⊢ run c (Scf.Loop.for k0_t1_loop hok ⟨⟩ body) fun _ => iprop(bigSep Finset.univ B ∗ R) := by
  have hstep : ∀ (k : Fin k0_t1_loop.trips) (acc : Unit),
      iprop(bigSep Finset.univ (fun j : Fin 256 => if j.val < k.val then B j else A j) ∗ R)
        ⊢ run c (body k acc) fun _ => iprop(bigSep Finset.univ (fun j : Fin 256 => if j.val < k.val + 1 then B j else A j) ∗ R) := by
    intro k acc
    obtain ⟨⟩ := acc
    have hup := bigSep_univ_update (M := 𝕄) (Φ := fun j : Fin 256 => if j.val < k.val then B j else A j)
      (Ψ := fun j : Fin 256 => if j.val < k.val + 1 then B j else A j) (rw_ k) (fun j hj => by
        have hne : j.val ≠ k.val := fun h => hj (Fin.ext h)
        by_cases h : j.val < k.val
        · simp only [h, if_true, show j.val < k.val + 1 from by omega]
        · simp only [h, if_false, show ¬ j.val < k.val + 1 from by omega])
    simp only [show ¬ (rw_ k).val < k.val from lt_irrefl _, if_false, show (rw_ k).val < k.val + 1 from Nat.lt_succ_self _, if_true] at hup
    iintro ⟨HA, HR⟩
    ihave H := hup $$ HA
    icases H with ⟨Hk, Hback⟩
    ihave Hw := (hbody k) $$ [Hk HR]
    · isplitl [Hk] <;> iassumption
    iapply (wp_wand frame (wpE (defs₀ (F := F)) Variants.none (c : Thread nD τ) none) Set.univ) $$ Hw
    iintro %a ⟨HB, HR⟩
    isplitl [HB Hback]
    · iapply Hback; iexact HB
    · iexact HR
  refine .trans ?_ (Scf.wp_for frame (wpE (defs₀ (F := F)) Variants.none (c : Thread nD τ) none) Set.univ 0#32 256#32 1#32 hok ⟨⟩ body
    (fun j _ => iprop(bigSep Finset.univ (fun k : Fin 256 => if k.val < j then B k else A k) ∗ R)) hstep)
  have e0 : (fun k : Fin 256 => if k.val < 0 then B k else A k) = A := by funext k; rw [if_neg (Nat.not_lt_zero _)]
  have e1 : (fun k : Fin 256 => if k.val < Scf.trips (w := 32) 0#32 256#32 1#32 then B k else A k) = B := by
    funext k; rw [if_pos]; exact lt_of_lt_of_eq k.isLt trips_eq.symm
  rw [e0, e1]
  iintro ⟨HA, HR⟩
  isplitl [HA HR]
  · isplitl [HA] <;> iassumption
  · iintro %a HB
    iexact HB

/-! ## One row's transfer -/

/-- The core's counters of its own transfers. -/
abbrev EC : UEmb Counters 𝕄 := countersEmb (U := Pipeline.UD sig nD τ)

/-- The units one row's transfer credits: into the gather buffer, and into the result. -/
abbrev NG : ℕ := Ref.dmaCredit (sig := sig) (κ := .tc) cc0_scratch0 S1x2048 .f32
abbrev NY : ℕ := Ref.dmaCredit (sig := sig) (κ := .tc) main_v0 S1x2048 .f32
theorem NG_pos : 0 < NG := (rowM gM ![0, 0, 0] (by decide)).view.dmaCredit_pos (by decide)
theorem NY_pos : 0 < NY := (rowYM ![0, 0] (by decide)).view.dmaCredit_pos (by decide)

/-- Rows held, by buffer. -/
abbrev gPt (c : Dev nD) (S : Finset S2x256x2048.Idx) (f : S2x256x2048.Idx → Elt F .f32) : sProp 𝕄 := gM.view.loc (c : Thread nD τ) ↦[S]{fullShare} f
abbrev oPt (c : Dev nD) (S : Finset S2x256x2048.Idx) (f : S2x256x2048.Idx → Elt F .f32) : sProp 𝕄 := oM.view.loc (c : Thread nD τ) ↦[S]{fullShare} f
abbrev hPt (c : Dev nD) (q : PosShare TreeShare) (S : Finset S49152x2048.Idx) (f : S49152x2048.Idx → Elt F .f32) : sProp 𝕄 := hM.view.loc (c : Thread nD τ) ↦[S]{q} f
abbrev yPt (c : Dev nD) (S : Finset S106496x2048.Idx) (f : S106496x2048.Idx → Elt F .f32) : sProp 𝕄 := yM.view.loc (c : Thread nD τ) ↦[S]{fullShare} f

/-- A gather row's contents once token `r`'s transfer has landed in it. -/
abbrev tokRow (H : S49152x2048.Idx → Elt F .f32) (r : Fin 49152) : S2x256x2048.Idx → Elt F .f32 := fun x => H (ixH r ⟨(x 2).val, (x 2).isLt⟩)
/-- A result row's contents once row `k` of slot `s` of the scatter buffer has landed in it. -/
abbrev outRow (O : S2x256x2048.Idx → Elt F .f32) (s : Fin 2) (k : Fin 256) : S106496x2048.Idx → Elt F .f32 := fun y => O (ixS s k ⟨(y 1).val, (y 1).isLt⟩)

/-- Token `r` on its way into row `k` of slot `s`. -/
def flyG (c : Dev nD) (H : S49152x2048.Idx → Elt F .f32) (q : PosShare TreeShare) (s : Fin 2) (k : Fin 256) (r : Fin 49152) : sProp 𝕄 :=
  iprop(Transfers.Flight EC (c : Thread nD τ) (.dma (cellG s k)) () NG iprop(gPt c (rowS s k) (tokRow H r) ∗ hPt c q (rowH r) H)
    ∗ hPt c q (Finset.univ \ rowH r) H)
/-- Row `k` of slot `s` on its way into row `r` of the result. -/
def flyS (c : Dev nD) (G : S106496x2048.Idx → Elt F .f32) (s : Fin 2) (k : Fin 256) (r : Fin 106496) : sProp 𝕄 :=
  Transfers.Flight EC (c : Thread nD τ) (.dma (cellS s k)) () NY iprop(yPt c (rowY r) G ∗ ∃ f, oPt c (rowS s k) f)
/-- What the core owes of waiting: nothing, with some waits recorded. -/
abbrev owesAny (c : Dev nD) : sProp 𝕄 := iprop(∃ W, owes (c : Thread nD τ) 0 W)

theorem start_gather (c : Dev nD) (H : S49152x2048.Idx → Elt F .f32) (q : PosShare TreeShare) (s : Fin 2) (k : Fin 256) (r : Fin 49152)
    (f : S2x256x2048.Idx → Elt F .f32)
    {off : Fin 3 → Nat} (inb : ∀ a, off a + S1x1x2048.size a ≤ S2x256x2048.size a) (h : off = ![s.val, k.val, 0])
    {off' : Fin 2 → Nat} (inb' : ∀ a, off' a + S1x2048.size a ≤ S49152x2048.size a) (h' : off' = ![r.val, 0])
    {sem : DmaSem sig} (hsem : sem = cellG s k)
    {hsrc : (rowHM off' inb').view.WordExact} {hdst : (rowM gM off inb).view.WordExact}
    {hty : DmaTarget.Typed (nD := nD) (τ := τ) (sig := sig) (p := .tc) .hbm (SemLoc.dma sem) (.here (rowM gM off inb))} :
    iprop(gPt c (rowS s k) f ∗ hPt c q Finset.univ H ∗ semVal ((c : Thread nD τ), SemLoc.dma (cellG s k)) 0)
      ⊢ run c (do Prog.lift (.enqueueDma (rowHM off' inb') (.here (rowM gM off inb)) (.dma sem) hsrc hdst hty); pure ()) fun _ => flyG c H q s k r := by
  subst hsem
  iintro ⟨Hg, Hh, Hv⟩
  ihave Hsp := (pointsTo_split_subset (Finset.subset_univ (rowH r))).1 $$ Hh
  icases Hsp with ⟨Hr, Hrest⟩
  have e1 := set_h r inb' h'
  have e2 := set_g s k inb h
  iapply (Transfers.wp_dmaLocal EC Variants.none (c : Thread nD τ) none (src := rowHM off' inb') (dst := rowM gM off inb) (sm := .dma (cellG s k))
    (Sd := rowS s k) (fd := f) (fs := H) (q := q) () NG rfl NG_pos (by rw [e2])) $$ [Hg Hr Hv]
  · isplitl [Hr]
    · rw [e1]; iexact Hr
    · isplitl [Hg] <;> iassumption
  iintro Hf
  simp only [Prog.bind, wp_pure]
  imodintro
  unfold flyG
  isplitl [Hf]
  · iapply (Transfers.Flight_mono EC (c : Thread nD τ) ?_) $$ Hf
    rw [e1]
    have e3 : (gPt c (rowS s k) ((rowM gM off inb).view.write (Elt F) f (ReadAs.same.apply ((rowHM off' inb').view.read (Elt F) H)) Finset.univ) : sProp 𝕄)
        = gPt c (rowS s k) (tokRow H r) := pointsTo_congr fun y hy => write_g s k inb h r inb' h' f H _ (fun _ => rfl) y hy
    exact sep_mono_left (by rw [← e3])
  · iexact Hrest

theorem start_scatter (c : Dev nD) (O : S2x256x2048.Idx → Elt F .f32) (G f : S106496x2048.Idx → Elt F .f32) (s : Fin 2) (k : Fin 256) (r : Fin 106496)
    (hG : ∀ y ∈ rowY r, O (ixS s k ⟨(y 1).val, (y 1).isLt⟩) = G y)
    {off : Fin 3 → Nat} (inb : ∀ a, off a + S1x1x2048.size a ≤ S2x256x2048.size a) (h : off = ![s.val, k.val, 0])
    {off' : Fin 2 → Nat} (inb' : ∀ a, off' a + S1x2048.size a ≤ S106496x2048.size a) (h' : off' = ![r.val, 0])
    {sem : DmaSem sig} (hsem : sem = cellS s k)
    {hsrc : (rowM oM off inb).view.WordExact} {hdst : (rowYM off' inb').view.WordExact}
    {hty : DmaTarget.Typed (nD := nD) (τ := τ) (sig := sig) (p := .tc) .vmem (SemLoc.dma sem) (.here (rowYM off' inb'))} :
    iprop(oPt c (rowS s k) O ∗ yPt c (rowY r) f ∗ semVal ((c : Thread nD τ), SemLoc.dma (cellS s k)) 0)
      ⊢ run c (do Prog.lift (.enqueueDma (rowM oM off inb) (.here (rowYM off' inb')) (.dma sem) hsrc hdst hty); pure ()) fun _ => flyS c G s k r := by
  subst hsem
  iintro ⟨Ho, Hy, Hv⟩
  have e1 := set_o s k inb h
  have e2 := set_y r inb' h'
  iapply (Transfers.wp_dmaLocal EC Variants.none (c : Thread nD τ) none (src := rowM oM off inb) (dst := rowYM off' inb') (sm := .dma (cellS s k))
    (Sd := rowY r) (fd := f) (fs := O) (q := fullShare) () NY rfl NY_pos (by rw [e2])) $$ [Ho Hy Hv]
  · isplitl [Ho]
    · rw [e1]; iexact Ho
    · isplitl [Hy] <;> iassumption
  iintro Hf
  simp only [Prog.bind, wp_pure]
  imodintro
  unfold flyS
  iapply (Transfers.Flight_mono EC (c : Thread nD τ) ?_) $$ Hf
  rw [e1]
  have e3 : (yPt c (rowY r) ((rowYM off' inb').view.write (Elt F) f (ReadAs.same.apply ((rowM oM off inb).view.read (Elt F) O)) Finset.univ) : sProp 𝕄)
      = yPt c (rowY r) G := pointsTo_congr fun y hy => (write_y s k inb h r inb' h' f O _ (fun _ => rfl) y hy).trans (hG y hy)
  rw [← e3]
  iintro ⟨Hy, Ho⟩
  isplitl [Hy]; · iexact Hy
  iexists O; iexact Ho

theorem wait_gather (c : Dev nD) (H : S49152x2048.Idx → Elt F .f32) (q : PosShare TreeShare) (s : Fin 2) (k : Fin 256) (r : Fin 49152)
    {off : Fin 3 → Nat} (inb : ∀ a, off a + S1x1x2048.size a ≤ S2x256x2048.size a)
    {off' : Fin 2 → Nat} (inb' : ∀ a, off' a + S1x2048.size a ≤ S49152x2048.size a)
    {sem : DmaSem sig} (hsem : sem = cellG s k)
    {hsrc : (rowHM off' inb').view.WordExact} {hdst : (rowM gM off inb).view.WordExact} :
    iprop(flyG c H q s k r ∗ owesAny c)
      ⊢ run c (do Prog.lift (.waitDma2 sem (rowHM off' inb') (rowM gM off inb) hsrc hdst); pure ())
        fun _ => iprop((gPt c (rowS s k) (tokRow H r) ∗ hPt c q Finset.univ H ∗ semVal ((c : Thread nD τ), SemLoc.dma (cellG s k)) 0) ∗ owesAny c) := by
  subst hsem
  unfold flyG
  iintro ⟨⟨Hf, Hrest⟩, ⟨%W, HW⟩⟩
  iapply (Transfers.wp_waitLocal EC Variants.none (c : Thread nD τ) none (dstw := rowM gM off inb) () (N := NG) rfl) $$ [Hf HW]
  · isplitl [Hf] <;> iassumption
  iintro ⟨⟨Hg, Hr⟩, Hv, HW⟩
  simp only [Prog.bind, wp_pure]
  imodintro
  isplitr [HW]
  · isplitl [Hg]; · iexact Hg
    isplitl [Hr Hrest]
    · iapply (pointsTo_split_subset (Finset.subset_univ (rowH r))).2
      isplitl [Hr] <;> iassumption
    · iexact Hv
  · iexists _; iexact HW

theorem wait_scatter (c : Dev nD) (G : S106496x2048.Idx → Elt F .f32) (s : Fin 2) (k : Fin 256) (r : Fin 106496)
    {off : Fin 3 → Nat} (inb : ∀ a, off a + S1x1x2048.size a ≤ S2x256x2048.size a)
    {off' : Fin 2 → Nat} (inb' : ∀ a, off' a + S1x2048.size a ≤ S106496x2048.size a)
    {sem : DmaSem sig} (hsem : sem = cellS s k)
    {hsrc : (rowM oM off inb).view.WordExact} {hdst : (rowYM off' inb').view.WordExact} :
    iprop(flyS c G s k r ∗ owesAny c)
      ⊢ run c (do Prog.lift (.waitDma2 sem (rowM oM off inb) (rowYM off' inb') hsrc hdst); pure ())
        fun _ => iprop((yPt c (rowY r) G ∗ (∃ f, oPt c (rowS s k) f) ∗ semVal ((c : Thread nD τ), SemLoc.dma (cellS s k)) 0) ∗ owesAny c) := by
  subst hsem
  unfold flyS
  iintro ⟨Hf, ⟨%W, HW⟩⟩
  iapply (Transfers.wp_waitLocal EC Variants.none (c : Thread nD τ) none (dstw := rowYM off' inb') () (N := NY) rfl) $$ [Hf HW]
  · isplitl [Hf] <;> iassumption
  iintro ⟨⟨Hy, Ho⟩, Hv, HW⟩
  simp only [Prog.bind, wp_pure]
  imodintro
  isplitr [HW]
  · isplitl [Hy]; · iexact Hy
    isplitl [Ho] <;> iassumption
  · iexists _; iexact HW

end Cert.Kernel4Ideal.Ex
end
-- ==== Proof.ExLoops.lean ====
/-
  The experts' call, its loops over a tile's rows: each starts or awaits the 256 transfers of one slot.
-/
module

public import proofs.«01_k».proof.Proof.ExTrips

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch: the pipeline's beside the transfers' counters. -/
local notation "𝕄" => MT nD τ sig Unit (Elt F) ℕ (Pipeline.UD sig nD τ) ℕ

/-- The rounded weights' buffers. -/
abbrev aM : Memref sig .tc .vmem S2048x512 .bf16 := Memref.whole cc0_scratch2
abbrev bM : Memref sig .tc .vmem S2048x512 .bf16 := Memref.whole cc0_scratch3
abbrev dM : Memref sig .tc .vmem S512x2048 .bf16 := Memref.whole cc0_scratch4

/-! ## Reading a word of a table -/

/-- A word read of a table that is held: the table is held still. -/
theorem load_word (c : Dev nD) {sh : Shape} (m : Memref sig .tc .smem sh .i32) (q : PosShare TreeShare) (X : sh.Idx → BitVec 32) (r : Rect sh)
    (h1 : r.shape.numel = 1) (hp : EltTy.packing .i32 = 1) (x : sh.Idx) (hx : r.emb (Shape.Idx.first (h1.symm ▸ Nat.one_pos)) = x) {α : Type}
    (k : BitVec 32 → Prog (TpuEff nD τ sig (Elt F) Λ₀ .tc) α) (Q : α → sProp 𝕄) :
    owns (c : Thread nD τ) m q X
      ⊢ iprop((owns (c : Thread nD τ) m q X -∗ run c (k (X x)) Q) -∗ run c (smemLoad m r h1 hp >>= k) Q) := by
  subst hx
  unfold owns
  iintro ⟨%f, %hf, H⟩ Hk
  have hS : (m.access r).set ⊆ m.view.set := fun y hy => by
    rw [View.set, Finset.mem_map] at hy
    obtain ⟨z, -, rfl⟩ := hy
    exact Finset.mem_map.2 ⟨r.emb z, Finset.mem_univ _, rfl⟩
  iapply (wp_smemLoadElt (defs := defs₀ (F := F)) Variants.none (c : Thread nD τ) none Set.univ (m := m) (r := r) (hw := View.loads_smem_one hp h1)
    (x := Shape.Idx.first (h1.symm ▸ Nat.one_pos)) (k := k) (S := m.view.set) (q := q) (f := f) hS) $$ H
  iintro H
  have e : (m.access r).read (Elt F) f (Shape.Idx.first (h1.symm ▸ Nat.one_pos)) = X (r.emb (Shape.Idx.first (h1.symm ▸ Nat.one_pos))) := by
    rw [← hf]; rfl
  rw [e]
  iapply Hk
  iexists f
  isplitr
  · ipureintro; exact hf
  · iexact H

/-- The place of word `k` of a block of 256. -/
abbrev ixW (k : Fin 256) : S1x1x256.Idx := ValueIdx.ix3 (n0 := 1) (n1 := 1) (n2 := 256) ⟨0, Nat.one_pos⟩ ⟨0, Nat.one_pos⟩ k

theorem emb_word (k : Fin 256) {off : Fin 3 → Nat} (inb : ∀ a, off a + S1x1x1.size a ≤ S1x1x256.size a) (h : off = ![0, 0, k.val]) (x : S1x1x1.Idx) :
    (Rect.unit (s := S1x1x256) off S1x1x1.size inb).emb x = ixW k := by
  subst h
  funext a; apply Fin.ext
  rw [ValueKit.rect_emb_unit_val]
  match a with
  | 0 => have := (x 0).isLt; change (x 0).val < 1 at this; show 0 + (x 0).val = 0; omega
  | 1 => have := (x 1).isLt; change (x 1).val < 1 at this; show 0 + (x 1).val = 0; omega
  | 2 => have := (x 2).isLt; change (x 2).val < 1 at this; show k.val + (x 2).val = k.val; omega

/-! ## A slot's transfers -/

section States
variable (c : Dev nD) (H : S49152x2048.Idx → Elt F .f32) (G : S106496x2048.Idx → Elt F .f32) (tq : Fin 2 → Fin 256 → PosShare TreeShare)

/-- A gather slot at rest: its rows at some contents, its cells at zero, and a share of the token array for each. -/
def GIdle (s : Fin 2) : sProp 𝕄 := bigSep Finset.univ fun k : Fin 256 =>
  iprop((∃ f, gPt c (rowS s k) f) ∗ hPt c (tq s k) Finset.univ H ∗ semVal ((c : Thread nD τ), SemLoc.dma (cellG s k)) 0)
/-- Tokens `r` on their way into a gather slot. -/
def GFly (s : Fin 2) (r : Fin 256 → Fin 49152) : sProp 𝕄 := bigSep Finset.univ fun k : Fin 256 => flyG c H (tq s k) s k (r k)
/-- Tokens `r` arrived in a gather slot. -/
def GDone (s : Fin 2) (r : Fin 256 → Fin 49152) : sProp 𝕄 := bigSep Finset.univ fun k : Fin 256 =>
  iprop(gPt c (rowS s k) (tokRow H (r k)) ∗ hPt c (tq s k) Finset.univ H ∗ semVal ((c : Thread nD τ), SemLoc.dma (cellG s k)) 0)
/-- A scatter slot at rest. -/
def SIdle (s : Fin 2) : sProp 𝕄 := bigSep Finset.univ fun k : Fin 256 =>
  iprop((∃ f, oPt (F := F) c (rowS s k) f) ∗ semVal ((c : Thread nD τ), SemLoc.dma (cellS s k)) 0)
/-- A scatter slot filled with `O`, beside the rows `d` of the result it goes to. -/
def SReady (O : S2x256x2048.Idx → Elt F .f32) (f : S106496x2048.Idx → Elt F .f32) (s : Fin 2) (d : Fin 256 → Fin 106496) : sProp 𝕄 :=
  bigSep Finset.univ fun k : Fin 256 => iprop(oPt c (rowS s k) O ∗ yPt c (rowY (d k)) f ∗ semVal ((c : Thread nD τ), SemLoc.dma (cellS s k)) 0)
/-- A scatter slot on its way to the rows `d`. -/
def SFly (s : Fin 2) (d : Fin 256 → Fin 106496) : sProp 𝕄 := bigSep Finset.univ fun k : Fin 256 => flyS c G s k (d k)
/-- A scatter slot arrived at the rows `d`. -/
def SDone (s : Fin 2) (d : Fin 256 → Fin 106496) : sProp 𝕄 := bigSep Finset.univ fun k : Fin 256 =>
  iprop(yPt c (rowY (d k)) G ∗ (∃ f, oPt (F := F) c (rowS s k) f) ∗ semVal ((c : Thread nD τ), SemLoc.dma (cellS s k)) 0)
end States

section Loops
variable (c : Dev nD) (H : S49152x2048.Idx → Elt F .f32) (G : S106496x2048.Idx → Elt F .f32) (tq : Fin 2 → Fin 256 → PosShare TreeShare)
variable (i : grid0.Coords) (arg1 : Memref sig .tc .smem S416 .i32) (harg1 : arg1.IsWhole) (arg2 : Memref sig .tc .smem S1x1x256 .i32) (harg2 : arg2.IsWhole) (arg3 : Memref sig .tc .smem S1x1x256 .i32) (harg3 : arg3.IsWhole) (arg4 : Memref sig .tc .smem S1x1x256 .i32) (harg4 : arg4.IsWhole) (arg6 : Memref sig .tc .vmem S1x2048x512 .f32) (harg6 : arg6.IsWhole) (arg7 : Memref sig .tc .vmem S1x2048x512 .f32) (harg7 : arg7.IsWhole) (arg8 : Memref sig .tc .vmem S1x512x2048 .f32) (harg8 : arg8.IsWhole)

/-- The gather's first start, of tile 0's own rows. -/
theorem phase1 (h1 : k0_cond1 i = 1#1) (q : PosShare TreeShare) (X : S1x1x256.Idx → BitVec 32) (r : Fin 256 → Fin 49152) (hX : ∀ k, (X (ixW k)).toNat = (r k).val) :
    iprop(GIdle c H tq (par (tl i)) ∗ owns (c : Thread nD τ) arg2 q X)
      ⊢ run c (Scf.Loop.for k0_t1_loop (k0_t1_ok i h1) ⟨⟩ (k0_t1_body i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h1))
        fun _ => iprop(GFly c H tq (par (tl i)) r ∗ owns (c : Thread nD τ) arg2 q X) := by
  refine loop_rows _ _ _ _ _ fun k => ?_
  have h0 := (cond1 i).1 h1
  iintro ⟨⟨⟨%f, Hg⟩, Hh, Hv⟩, Hw⟩
  unfold k0_t1_body
  iapply (load_word c arg2 q X _ numel1_S1x1x1 rfl (ixW (rw_ k)) (emb_word (rw_ k) _ (off2 k) _)) $$ Hw
  iintro Hw
  have hk : k0_chk1 i (X (ixW (rw_ k))) := fun _ a => by
    match a with
    | 0 => have := (r (rw_ k)).isLt; have e := hX (rw_ k); show (X (ixW (rw_ k))).toNat + 1 ≤ 49152; omega
    | 1 => exact le_refl _
  iapply (wp_assume (defs := defs₀ (F := F)) Variants.none (c : Thread nD τ) none Set.univ hk)
  ihave Hr := (start_gather c H (tq (par (tl i)) (rw_ k)) (par (tl i)) (rw_ k) (r (rw_ k)) f (off := k0_off4 k) (k0_off4_inb i k h1) (off4 i k h0) (k0_off5_inb i (X (ixW (rw_ k))) hk h1)
    (by rw [← hX (rw_ k)]; rfl) (sem_cell cc0_scratch5 (par (tl i)) (rw_ k) (k0_off3_inb i k h1) (off3 i k h0))) $$ [Hg Hh Hv]
  · isplitl [Hg]; · iexact Hg
    isplitl [Hh] <;> iassumption
  iapply (wp_wand frame (wpE (defs₀ (F := F)) Variants.none (c : Thread nD τ) none) Set.univ) $$ Hr
  iintro %a Hf
  isplitl [Hf] <;> iassumption

/-- The gather's start of the next tile's rows, in the other slot. -/
theorem phase2 (h2 : k0_cond2 i = 1#1) (q : PosShare TreeShare) (X : S1x1x256.Idx → BitVec 32) (r : Fin 256 → Fin 49152) (hX : ∀ k, (X (ixW k)).toNat = (r k).val) :
    iprop(GIdle c H tq (par (tl i + 1)) ∗ owns (c : Thread nD τ) arg3 q X)
      ⊢ run c (Scf.Loop.for k0_t2_loop (k0_t2_ok i h2) ⟨⟩ (k0_t2_body i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h2))
        fun _ => iprop(GFly c H tq (par (tl i + 1)) r ∗ owns (c : Thread nD τ) arg3 q X) := by
  refine loop_rows _ _ _ _ _ fun k => ?_
  iintro ⟨⟨⟨%f, Hg⟩, Hh, Hv⟩, Hw⟩
  unfold k0_t2_body
  iapply (load_word c arg3 q X _ numel1_S1x1x1 rfl (ixW (rw_ k)) (emb_word (rw_ k) _ (off6 k) _)) $$ Hw
  iintro Hw
  have hk : k0_chk2 i (X (ixW (rw_ k))) := fun _ a => by
    match a with
    | 0 => have := (r (rw_ k)).isLt; have e := hX (rw_ k); show (X (ixW (rw_ k))).toNat + 1 ≤ 49152; omega
    | 1 => exact le_refl _
  iapply (wp_assume (defs := defs₀ (F := F)) Variants.none (c : Thread nD τ) none Set.univ hk)
  ihave Hr := (start_gather c H (tq (par (tl i + 1)) (rw_ k)) (par (tl i + 1)) (rw_ k) (r (rw_ k)) f (off := k0_off8 i k) (k0_off8_inb i k h2) (off8 i k) (k0_off9_inb i (X (ixW (rw_ k))) hk h2)
    (by rw [← hX (rw_ k)]; rfl) (sem_cell cc0_scratch5 (par (tl i + 1)) (rw_ k) (k0_off7_inb i k h2) (off7 i k))) $$ [Hg Hh Hv]
  · isplitl [Hg]; · iexact Hg
    isplitl [Hh] <;> iassumption
  iapply (wp_wand frame (wpE (defs₀ (F := F)) Variants.none (c : Thread nD τ) none) Set.univ) $$ Hr
  iintro %a Hf
  isplitl [Hf] <;> iassumption

/-- The gather's wait for this tile's rows. -/
theorem phase3 (r : Fin 256 → Fin 49152) :
    iprop(GFly c H tq (par (tl i)) r ∗ owesAny c)
      ⊢ run c (Scf.Loop.for k0_t3_loop k0_t3_ok ⟨⟩ (k0_t3_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6))
        fun _ => iprop(GDone c H tq (par (tl i)) r ∗ owesAny c) := by
  refine loop_rows _ _ _ _ _ fun k => ?_
  unfold k0_t3_body
  exact wait_gather c H _ _ _ (r (rw_ k)) (off := k0_off12 i k) _ _ (sem_cell cc0_scratch5 (par (tl i)) (rw_ k) (k0_off11_inb i k) (off11 i k))

/-- The scatter's wait for the slot's last use. -/
theorem phase4 (h4 : k0_cond4 i = 1#1) (d : Fin 256 → Fin 106496) :
    iprop(SFly c G (par (tl i)) d ∗ owesAny c)
      ⊢ run c (Scf.Loop.for k0_t4_loop (k0_t4_ok i h4) ⟨⟩ (k0_t4_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h4))
        fun _ => iprop(SDone c G (par (tl i)) d ∗ owesAny c) := by
  refine loop_rows _ _ _ _ _ fun k => ?_
  unfold k0_t4_body
  exact wait_scatter c G _ _ (d (rw_ k)) (off := k0_off15 i k) _ _ (sem_cell cc0_scratch6 (par (tl i)) (rw_ k) (k0_off14_inb i k h4) (off14 i k))

/-- The scatter's start of this tile's rows. -/
theorem phase5 (q : PosShare TreeShare) (X : S1x1x256.Idx → BitVec 32) (d : Fin 256 → Fin 106496) (hX : ∀ k, (X (ixW k)).toNat = (d k).val)
    (O : S2x256x2048.Idx → Elt F .f32) (f : S106496x2048.Idx → Elt F .f32)
    (hG : ∀ k, ∀ y ∈ rowY (d k), O (ixS (par (tl i)) k ⟨(y 1).val, (y 1).isLt⟩) = G y) :
    iprop(SReady c O f (par (tl i)) d ∗ owns (c : Thread nD τ) arg4 q X)
      ⊢ run c (Scf.Loop.for k0_t5_loop k0_t5_ok ⟨⟩ (k0_t5_body i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6))
        fun _ => iprop(SFly c G (par (tl i)) d ∗ owns (c : Thread nD τ) arg4 q X) := by
  refine loop_rows _ _ _ _ _ fun k => ?_
  iintro ⟨⟨Ho, Hy, Hv⟩, Hw⟩
  unfold k0_t5_body
  iapply (load_word c arg4 q X _ numel1_S1x1x1 rfl (ixW (rw_ k)) (emb_word (rw_ k) _ (off16 k) _)) $$ Hw
  iintro Hw
  have hk : k0_chk3 (X (ixW (rw_ k))) := fun a => by
    match a with
    | 0 => have := (d (rw_ k)).isLt; have e := hX (rw_ k); show (X (ixW (rw_ k))).toNat + 1 ≤ 106496; omega
    | 1 => exact le_refl _
  iapply (wp_assume (defs := defs₀ (F := F)) Variants.none (c : Thread nD τ) none Set.univ hk)
  ihave Hr := (start_scatter c O G f (par (tl i)) (rw_ k) (d (rw_ k)) (hG (rw_ k)) (off := k0_off19 i k) (k0_off19_inb i k) (off19 i k) (k0_off18_inb (X (ixW (rw_ k))) hk)
    (by rw [← hX (rw_ k)]; rfl) (sem_cell cc0_scratch6 (par (tl i)) (rw_ k) (k0_off17_inb i k) (off17 i k))) $$ [Ho Hy Hv]
  · isplitl [Ho]; · iexact Ho
    isplitl [Hy] <;> iassumption
  iapply (wp_wand frame (wpE (defs₀ (F := F)) Variants.none (c : Thread nD τ) none) Set.univ) $$ Hr
  iintro %a Hf
  isplitl [Hf] <;> iassumption

/-- The scatter's last waits, of both slots. -/
theorem phase6 (h5 : k0_cond5 i = 1#1) (d : Fin 256 → Fin 106496) :
    iprop(SFly c G (par (tl i)) d ∗ owesAny c)
      ⊢ run c (Scf.Loop.for k0_t6_loop (k0_t6_ok i h5) ⟨⟩ (k0_t6_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h5))
        fun _ => iprop(SDone c G (par (tl i)) d ∗ owesAny c) := by
  refine loop_rows _ _ _ _ _ fun k => ?_
  unfold k0_t6_body
  exact wait_scatter c G _ _ (d (rw_ k)) (off := k0_off21 i k) _ _ (sem_cell cc0_scratch6 (par (tl i)) (rw_ k) (k0_off20_inb i k h5) (off20 i k))

theorem phase7 (h5 : k0_cond5 i = 1#1) (d : Fin 256 → Fin 106496) :
    iprop(SFly c G (par (tl i + 1)) d ∗ owesAny c)
      ⊢ run c (Scf.Loop.for k0_t7_loop (k0_t7_ok i h5) ⟨⟩ (k0_t7_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h5))
        fun _ => iprop(SDone c G (par (tl i + 1)) d ∗ owesAny c) := by
  refine loop_rows _ _ _ _ _ fun k => ?_
  unfold k0_t7_body
  exact wait_scatter c G _ _ (d (rw_ k)) (off := k0_off23 i k) _ _ (sem_cell cc0_scratch6 (par (tl i + 1)) (rw_ k) (k0_off22_inb i k h5) (off22 i k))
end Loops

end Cert.Kernel4Ideal.Ex
end
-- ==== Proof.ExSteps.lean ====
/-
  The experts' call, its whole-window loads and stores, the loads and stores of one slot, and the joining of a slot's rows.
-/
module

public import proofs.«01_k».proof.Proof.ExLoops

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch: the pipeline's beside the transfers' counters. -/
local notation "𝕄" => MT nD τ sig Unit (Elt F) ℕ (Pipeline.UD sig nD τ) ℕ

/-! ## Running one part after another -/

theorem run_bind {c : Dev nD} {α β : Type} (p : Prog (TpuEff nD τ sig (Elt F) Λ₀ .tc) β) (k : β → Prog (TpuEff nD τ sig (Elt F) Λ₀ .tc) α)
    (Pre : sProp 𝕄) (Mid : β → sProp 𝕄) (h : Pre ⊢ run c p Mid) (Q : α → sProp 𝕄) :
    Pre ⊢ iprop((∀ a, Mid a -∗ run c (k a) Q) -∗ run c (p >>= k) Q) := by
  unfold run
  rw [wp_bind]
  iintro HP Hk
  ihave Hp := h $$ HP
  iapply (wp_wand frame (wpE (defs₀ (F := F)) Variants.none (c : Thread nD τ) none) Set.univ) $$ Hp
  iintro %a Ha
  iapply Hk
  iexact Ha

/-- A part under a condition, then the rest. -/
theorem run_if {c : Dev nD} {α : Type} {C : Prop} [Decidable C] (P : C → Prog (TpuEff nD τ sig (Elt F) Λ₀ .tc) Unit) (K : Prog (TpuEff nD τ sig (Elt F) Λ₀ .tc) α)
    (Pre Mid : sProp 𝕄) (ht : ∀ h : C, Pre ⊢ run c (P h) fun _ => Mid) (hf : ¬ C → Pre ⊢ Mid) (Q : α → sProp 𝕄) :
    Pre ⊢ iprop((Mid -∗ run c K Q) -∗ run c (if h : C then (P h >>= fun _ => K) else K) Q) := by
  by_cases h : C
  · rw [dif_pos h]
    iintro HP Hk
    iapply (run_bind (P h) (fun _ => K) Pre (fun _ => Mid) (ht h) Q) $$ HP
    iintro %a Ha
    iapply Hk
    iexact Ha
  · rw [dif_neg h]
    iintro HP Hk
    iapply Hk
    iapply (hf h)
    iexact HP

/-! ## Whole windows -/

theorem emb_zero {sh : Shape} {off : Fin sh.rank → Nat} (h : off = fun _ => 0) (inb : ∀ a, off a + sh.size a ≤ sh.size a) (x : sh.Idx) :
    (Rect.unit (s := sh) off sh.size inb).emb x = x := by
  subst h
  funext a; apply Fin.ext
  rw [ValueKit.rect_emb_unit_val]
  exact Nat.zero_add _

/-- A whole window read: its contents, held still. -/
theorem load_win (c : Dev nD) {sh : Shape} {e : EltTy} (m : Memref sig .tc .vmem sh e) (q : PosShare TreeShare) (X : sh.Idx → Elt F e)
    {off : Fin sh.rank → Nat} (h : off = fun _ => 0) (inb : ∀ a, off a + sh.size a ≤ sh.size a)
    (hl : m.view.LoadsAt (Rect.unit (s := sh) off sh.size inb).toLoadRect) {α : Type}
    (k : (sh.Idx → Elt F e) → Prog (TpuEff nD τ sig (Elt F) Λ₀ .tc) α) (Q : α → sProp 𝕄) :
    owns (c : Thread nD τ) m q X
      ⊢ iprop((owns (c : Thread nD τ) m q X -∗ run c (k X) Q)
        -∗ run c (Prog.lift (.load m (Rect.unit (s := sh) off sh.size inb).toLoadRect hl) >>= k) Q) := by
  unfold owns
  iintro ⟨%f, %hf, H⟩ Hk
  have hS : (m.access (Rect.unit (s := sh) off sh.size inb)).set ⊆ m.view.set := fun y hy => by
    rw [View.set, Finset.mem_map] at hy
    obtain ⟨z, -, rfl⟩ := hy
    exact Finset.mem_map.2 ⟨(Rect.unit (s := sh) off sh.size inb).emb z, Finset.mem_univ _, rfl⟩
  iapply (wp_load_rect (defs := defs₀ (F := F)) Variants.none (c : Thread nD τ) none Set.univ (m := m) (r := Rect.unit (s := sh) off sh.size inb) (hl := hl)
    (k := k) (S := m.view.set) (q := q) (f := f) hS) $$ H
  iintro H
  have e : (m.access (Rect.unit (s := sh) off sh.size inb)).read (Elt F) f = X := by
    rw [← hf]; funext x
    show m.view.read (Elt F) f ((Rect.unit (s := sh) off sh.size inb).emb x) = _
    rw [emb_zero h inb]
  rw [e]
  iapply Hk
  iexists f
  isplitr
  · ipureintro; exact hf
  · iexact H

/-- A whole window stored: it is held at what was stored. -/
theorem store_win (c : Dev nD) {sh : Shape} {e : EltTy} (m : Memref sig .tc .vmem sh e) (X w : sh.Idx → Elt F e)
    {off : Fin sh.rank → Nat} (h : off = fun _ => 0) (inb : ∀ a, off a + sh.size a ≤ sh.size a)
    (hx : (m.access (Rect.unit (s := sh) off sh.size inb)).Stores Finset.univ) (hm : (Finset.univ : Finset sh.Idx) = Finset.univ ∨ ∀ a, (Rect.unit (s := sh) off sh.size inb).stride a = 1) {α : Type}
    (k : PUnit → Prog (TpuEff nD τ sig (Elt F) Λ₀ .tc) α) (Q : α → sProp 𝕄) :
    owns (c : Thread nD τ) m fullShare X
      ⊢ iprop((owns (c : Thread nD τ) m fullShare w -∗ run c (k ⟨⟩) Q)
        -∗ run c (Prog.lift (.store m (Rect.unit (s := sh) off sh.size inb) w Finset.univ hx hm) >>= k) Q) := by
  unfold owns
  iintro ⟨%f, %hf, H⟩ Hk
  have hS : (m.access (Rect.unit (s := sh) off sh.size inb)).setOn Finset.univ ⊆ m.view.set := fun y hy => by
    rw [View.setOn, Finset.mem_map] at hy
    obtain ⟨z, -, rfl⟩ := hy
    exact Finset.mem_map.2 ⟨(Rect.unit (s := sh) off sh.size inb).emb z, Finset.mem_univ _, rfl⟩
  iapply (wp_store (defs := defs₀ (F := F)) Variants.none (c : Thread nD τ) none Set.univ (m := m) (r := Rect.unit (s := sh) off sh.size inb) (w := w) (Mk := Finset.univ) (hx := hx) (hm := hm)
    (k := k) (S := m.view.set) (f := f) hS) $$ H
  iintro H
  iapply Hk
  iexists ((m.access (Rect.unit (s := sh) off sh.size inb)).write (Elt F) f w Finset.univ)
  isplitr
  · ipureintro
    funext x
    have hx' : m.view.read (Elt F) ((m.access (Rect.unit (s := sh) off sh.size inb)).write (Elt F) f w Finset.univ) ((Rect.unit (s := sh) off sh.size inb).emb x) = w x :=
      congrFun (View.read_write_univ (v := m.access (Rect.unit (s := sh) off sh.size inb)) f w) x
    rw [emb_zero h inb] at hx'
    exact hx'
  · iexact H

/-! ## One slot -/

theorem slot_rows (inst : DecidableEq S2x256x2048.Idx) (s : Fin 2) : slotS s = @Finset.biUnion _ _ inst Finset.univ (rowS s) := by
  ext x
  rw [mem_slotS, Finset.mem_biUnion]
  constructor
  · intro h; exact ⟨⟨(x 1).val, (x 1).isLt⟩, Finset.mem_univ _, mem_rowS.2 ⟨h, rfl⟩⟩
  · rintro ⟨k, -, h⟩; exact (mem_rowS.1 h).1

theorem rows_disjoint (s : Fin 2) : ∀ k ∈ (Finset.univ : Finset (Fin 256)), ∀ k' ∈ (Finset.univ : Finset (Fin 256)), k ≠ k' → Disjoint (rowS s k) (rowS s k') := by
  intro k _ k' _ hne
  rw [Finset.disjoint_left]
  intro x h h'
  exact hne (Fin.ext ((mem_rowS.1 h).2.symm.trans (mem_rowS.1 h').2))

theorem g_rows (c : Dev nD) (s : Fin 2) (f : S2x256x2048.Idx → Elt F .f32) :
    (gPt c (slotS s) f : sProp 𝕄) = bigSep Finset.univ fun k => gPt c (rowS s k) f := by
  exact (congrArg (fun S => (gM.view.loc (c : Thread nD τ) ↦[S]{fullShare} f : sProp 𝕄)) (slot_rows _ s)).trans
    (pointsTo_biUnion (ℓ := gM.view.loc (c : Thread nD τ)) (q := fullShare) (f := f) Finset.univ (rowS s) (rows_disjoint s))
theorem o_rows (c : Dev nD) (s : Fin 2) (f : S2x256x2048.Idx → Elt F .f32) :
    (oPt c (slotS s) f : sProp 𝕄) = bigSep Finset.univ fun k => oPt c (rowS s k) f := by
  exact (congrArg (fun S => (oM.view.loc (c : Thread nD τ) ↦[S]{fullShare} f : sProp 𝕄)) (slot_rows _ s)).trans
    (pointsTo_biUnion (ℓ := oM.view.loc (c : Thread nD τ)) (q := fullShare) (f := f) Finset.univ (rowS s) (rows_disjoint s))

/-- The rows of a scatter slot, each at some contents, are the slot at some contents. -/
theorem o_join (c : Dev nD) (s : Fin 2) :
    (bigSep Finset.univ fun k : Fin 256 => iprop(∃ f, oPt (F := F) c (rowS s k) f)) ⊢ (iprop(∃ f, oPt (F := F) c (slotS s) f) : sProp 𝕄) := by
  haveI : Nonempty (S2x256x2048.Idx → Elt F .f32) := ⟨fun _ => (Scalar.ofBits .f32 0x00000000#32 : F .f32)⟩
  iintro H
  ihave H' := (bigSep_exists_pi (M := 𝕄) (Y := fun _ : Fin 256 => S2x256x2048.Idx → Elt F .f32) Finset.univ fun k f => oPt c (rowS s k) f) $$ H
  icases H' with ⟨%fs, H⟩
  ihave H' := (pointsTo_biUnion_join (ℓ := oM.view.loc (c : Thread nD τ)) (q := fullShare) Finset.univ (rowS s) fs (fs 0) (rows_disjoint s)) $$ H
  icases H' with ⟨%g, %hg, H⟩
  iexists g
  have e : ∀ S : Finset S2x256x2048.Idx, slotS s = S → ((oPt c S g : sProp 𝕄) ⊢ oPt c (slotS s) g) := by rintro _ rfl; exact .rfl
  iapply (e _ (slot_rows _ s)) $$ H

/-- Where an index of one slot's block lies. -/
theorem emb_slot (s : Fin 2) {off : Fin 3 → Nat} (h : off = ![s.val, 0, 0]) (inb : ∀ a, off a + S1x256x2048.size a ≤ S2x256x2048.size a) (x : S1x256x2048.Idx) :
    (Rect.unit (s := S2x256x2048) off S1x256x2048.size inb).emb x = ixS s ⟨(x 1).val, (x 1).isLt⟩ ⟨(x 2).val, (x 2).isLt⟩ := by
  subst h
  funext a; apply Fin.ext
  rw [ValueKit.rect_emb_unit_val]
  match a with
  | 0 => have := (x 0).isLt; change (x 0).val < 1 at this; show s.val + (x 0).val = s.val; omega
  | 1 => exact Nat.zero_add _
  | 2 => exact Nat.zero_add _

/-- The place in one slot's block of an index of the buffer. -/
abbrev ixB (x : S2x256x2048.Idx) : S1x256x2048.Idx := ValueIdx.ix3 (n0 := 1) (n1 := 256) (n2 := 2048) ⟨0, Nat.one_pos⟩ ⟨(x 1).val, (x 1).isLt⟩ ⟨(x 2).val, (x 2).isLt⟩

theorem ixB_ixS (s : Fin 2) (x : S1x256x2048.Idx) : ixB (ixS s ⟨(x 1).val, (x 1).isLt⟩ ⟨(x 2).val, (x 2).isLt⟩) = x := by
  funext a; apply Fin.ext
  match a with
  | 0 => have := (x 0).isLt; change (x 0).val < 1 at this; show 0 = (x 0).val; omega
  | 1 => rfl
  | 2 => rfl

theorem ixS_ixB {s : Fin 2} {y : S2x256x2048.Idx} (h : (y 0).val = s.val) :
    ixS s ⟨(ixB y 1).val, (ixB y 1).isLt⟩ ⟨(ixB y 2).val, (ixB y 2).isLt⟩ = y := by
  funext a; apply Fin.ext
  match a with
  | 0 => exact h.symm
  | 1 => rfl
  | 2 => rfl

/-- A slot of the gather buffer read. -/
theorem load_slot_g (c : Dev nD) (s : Fin 2) (f : S2x256x2048.Idx → Elt F .f32) {off : Fin 3 → Nat} (h : off = ![s.val, 0, 0])
    (inb : ∀ a, off a + S1x256x2048.size a ≤ S2x256x2048.size a)
    (hl : gM.view.LoadsAt (Rect.unit (s := S2x256x2048) off S1x256x2048.size inb).toLoadRect) {α : Type}
    (k : (S1x256x2048.Idx → Elt F .f32) → Prog (TpuEff nD τ sig (Elt F) Λ₀ .tc) α) (Q : α → sProp 𝕄) :
    gPt c (slotS s) f
      ⊢ iprop((gPt c (slotS s) f -∗ run c (k fun x => f (ixS s ⟨(x 1).val, (x 1).isLt⟩ ⟨(x 2).val, (x 2).isLt⟩)) Q)
        -∗ run c (Prog.lift (.load gM (Rect.unit (s := S2x256x2048) off S1x256x2048.size inb).toLoadRect hl) >>= k) Q) := by
  have hS : (gM.access (Rect.unit (s := S2x256x2048) off S1x256x2048.size inb)).set ⊆ slotS s := fun y hy => by
    rw [View.set, Finset.mem_map] at hy
    obtain ⟨z, -, rfl⟩ := hy
    rw [mem_slotS]
    show ((Rect.unit (s := S2x256x2048) off S1x256x2048.size inb).emb z 0).val = _
    rw [emb_slot s h inb z]; rfl
  iintro H Hk
  iapply (wp_load_rect (defs := defs₀ (F := F)) Variants.none (c : Thread nD τ) none Set.univ (m := gM) (r := Rect.unit (s := S2x256x2048) off S1x256x2048.size inb) (hl := hl)
    (k := k) (S := slotS s) (q := fullShare) (f := f) hS) $$ H
  iintro H
  have e : (gM.access (Rect.unit (s := S2x256x2048) off S1x256x2048.size inb)).read (Elt F) f = fun x => f (ixS s ⟨(x 1).val, (x 1).isLt⟩ ⟨(x 2).val, (x 2).isLt⟩) := by
    funext x
    show f ((Rect.unit (s := S2x256x2048) off S1x256x2048.size inb).emb x) = _
    rw [emb_slot s h inb]
  rw [e]
  iapply Hk
  iexact H

/-- A slot of the scatter buffer read, whatever it holds. -/
theorem load_slot_o (c : Dev nD) (s : Fin 2) (f : S2x256x2048.Idx → Elt F .f32) {off : Fin 3 → Nat} (h : off = ![s.val, 0, 0])
    (inb : ∀ a, off a + S1x256x2048.size a ≤ S2x256x2048.size a)
    (hl : oM.view.LoadsAt (Rect.unit (s := S2x256x2048) off S1x256x2048.size inb).toLoadRect) {α : Type}
    (k : Prog (TpuEff nD τ sig (Elt F) Λ₀ .tc) α) (Q : α → sProp 𝕄) :
    oPt c (slotS s) f
      ⊢ iprop((oPt c (slotS s) f -∗ run c k Q)
        -∗ run c (Prog.lift (.load oM (Rect.unit (s := S2x256x2048) off S1x256x2048.size inb).toLoadRect hl) >>= fun _ => k) Q) := by
  have hS : (oM.access (Rect.unit (s := S2x256x2048) off S1x256x2048.size inb)).set ⊆ slotS s := fun y hy => by
    rw [View.set, Finset.mem_map] at hy
    obtain ⟨z, -, rfl⟩ := hy
    rw [mem_slotS]
    show ((Rect.unit (s := S2x256x2048) off S1x256x2048.size inb).emb z 0).val = _
    rw [emb_slot s h inb z]; rfl
  iintro H Hk
  iapply (wp_load_rect (defs := defs₀ (F := F)) Variants.none (c : Thread nD τ) none Set.univ (m := oM) (r := Rect.unit (s := S2x256x2048) off S1x256x2048.size inb) (hl := hl)
    (k := fun _ => k) (S := slotS s) (q := fullShare) (f := f) hS) $$ H
  iintro H
  iapply Hk
  iexact H

/-- A slot of the scatter buffer stored. -/
theorem store_slot_o (c : Dev nD) (s : Fin 2) (f : S2x256x2048.Idx → Elt F .f32) (w : S1x256x2048.Idx → Elt F .f32) {off : Fin 3 → Nat} (h : off = ![s.val, 0, 0])
    (inb : ∀ a, off a + S1x256x2048.size a ≤ S2x256x2048.size a)
    (hx : (oM.access (Rect.unit (s := S2x256x2048) off S1x256x2048.size inb)).Stores Finset.univ)
    (hm : (Finset.univ : Finset S1x256x2048.Idx) = Finset.univ ∨ ∀ a, (Rect.unit (s := S2x256x2048) off S1x256x2048.size inb).stride a = 1) {α : Type}
    (k : PUnit → Prog (TpuEff nD τ sig (Elt F) Λ₀ .tc) α) (Q : α → sProp 𝕄) :
    oPt c (slotS s) f
      ⊢ iprop((oPt c (slotS s) (fun y => w (ixB y)) -∗ run c (k ⟨⟩) Q)
        -∗ run c (Prog.lift (.store oM (Rect.unit (s := S2x256x2048) off S1x256x2048.size inb) w Finset.univ hx hm) >>= k) Q) := by
  have hS : (oM.access (Rect.unit (s := S2x256x2048) off S1x256x2048.size inb)).setOn Finset.univ ⊆ slotS s := fun y hy => by
    rw [View.setOn, Finset.mem_map] at hy
    obtain ⟨z, -, rfl⟩ := hy
    rw [mem_slotS]
    show ((Rect.unit (s := S2x256x2048) off S1x256x2048.size inb).emb z 0).val = _
    rw [emb_slot s h inb z]; rfl
  iintro H Hk
  iapply (wp_store (defs := defs₀ (F := F)) Variants.none (c : Thread nD τ) none Set.univ (m := oM) (r := Rect.unit (s := S2x256x2048) off S1x256x2048.size inb) (w := w) (Mk := Finset.univ) (hx := hx) (hm := hm)
    (k := k) (S := slotS s) (f := f) hS) $$ H
  iintro H
  iapply Hk
  have e : (oPt c (slotS s) ((oM.access (Rect.unit (s := S2x256x2048) off S1x256x2048.size inb)).write (Elt F) f w Finset.univ) : sProp 𝕄)
      = oPt c (slotS s) (fun y => w (ixB y)) := pointsTo_congr fun y hy => by
    have hy' : y = (oM.access (Rect.unit (s := S2x256x2048) off S1x256x2048.size inb)).emb (ixB y) := by
      show y = (Rect.unit (s := S2x256x2048) off S1x256x2048.size inb).emb (ixB y)
      rw [emb_slot s h inb]; exact (ixS_ixB (mem_slotS.1 hy)).symm
    conv_lhs => rw [hy']
    exact View.write_emb_of_mem _ _ (Finset.mem_univ (ixB y))
  rw [← e]
  iexact H

end Cert.Kernel4Ideal.Ex
end
-- ==== Proof.ExBody.lean ====
/-
  The experts' call, one tile: what the core holds before a tile and after it, and the body's run from one to the other.
-/
module

public import proofs.«01_k».proof.Proof.ExSteps

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch: the pipeline's beside the transfers' counters. -/
local notation "𝕄" => MT nD τ sig Unit (Elt F) ℕ (Pipeline.UD sig nD τ) ℕ

/-! ## The job -/

/-- What a run of the call is about: the tokens `H`, the result `G` and what its array held before (`V`), the tokens `src` and the result rows `dst`
    of each tile, the tile's rounded weights, and the table of the tiles' experts. -/
structure Job (F : FTy → Type) where
  H : S49152x2048.Idx → Elt F .f32
  G : S106496x2048.Idx → Elt F .f32
  V : S106496x2048.Idx → Elt F .f32
  src : Nat → Fin 256 → Fin 49152
  dst : Nat → Fin 256 → Fin 106496
  wg : Nat → S2048x512.Idx → Elt F .bf16
  wu : Nat → S2048x512.Idx → Elt F .bf16
  wd : Nat → S512x2048.Idx → Elt F .bf16
  te : Nat → BitVec 32

/-- Tile `n`'s tokens, as one block. -/
def Job.slab (J : Job F) (n : Nat) : S1x256x2048.Idx → Elt F .f32 := fun x => J.H (ixH (J.src n ⟨(x 1).val, (x 1).isLt⟩) ⟨(x 2).val, (x 2).isLt⟩)
/-- Tile `n`'s rows of the result, as one block. -/
def Job.out (J : Job F) (n : Nat) : S1x256x2048.Idx → Elt F .f32 := k0_pay1 (k0_pay5 (J.slab n)) (J.wg n) (J.wu n) (J.wd n)
/-- The table of the tiles' experts. -/
def Job.tab (J : Job F) : S416.Idx → BitVec 32 := fun x => J.te (x 0).val

/-- Each tile's rows of the result are where the result has them, and tiles of one expert in a row have the same weights. -/
structure Job.Ok (J : Job F) : Prop where
  land : ∀ n, n < 416 → ∀ k, ∀ y ∈ rowY (J.dst n k), J.out n (ValueIdx.ix3 (n0 := 1) (n1 := 256) (n2 := 2048) ⟨0, Nat.one_pos⟩ k ⟨(y 1).val, (y 1).isLt⟩) = J.G y
  same : ∀ n, 0 < n → n < 416 → J.te n = J.te (n - 1) → J.wg n = J.wg (n - 1) ∧ J.wu n = J.wu (n - 1) ∧ J.wd n = J.wd (n - 1)

/-! ## What the core holds before tile `n` -/

/-- How far tile `m`'s rows of the result are before tile `n`: not begun, on their way, arrived. -/
def yst (n m : Nat) : Nat := if n ≤ m then 0 else if n ≤ m + 2 ∧ n ≠ 416 then 1 else 2

section Core
variable (c : Dev nD) (J : Job F) (tq : Fin 2 → Fin 256 → PosShare TreeShare)

/-- Tile `m`'s rows of the result at stage `x`. -/
def YP (m x : Nat) : sProp 𝕄 :=
  if x = 0 then bigSep Finset.univ fun k : Fin 256 => yPt c (rowY (J.dst m k)) J.V
  else if x = 1 then iprop(emp)
  else bigSep Finset.univ fun k : Fin 256 => yPt c (rowY (J.dst m k)) J.G

/-- The rows of all tiles, each at its stage. -/
def Ys (st : Nat → Nat) : sProp 𝕄 := bigSep Finset.univ fun m : Fin 416 => YP c J m.val (st m.val)

/-- The gather slot of tile `n`. -/
def GNow (n : Nat) : sProp 𝕄 := if 0 < n ∧ n < 416 then GFly c J.H tq (par n) (J.src n) else GIdle c J.H tq (par n)
/-- The scatter slot of tile `n`. -/
def SNow (n : Nat) : sProp 𝕄 := if 2 ≤ n ∧ n < 416 then SFly c J.G (par n) (J.dst (n - 2)) else SIdle (F := F) c (par n)
/-- The other scatter slot. -/
def SOther (n : Nat) : sProp 𝕄 := if 1 ≤ n ∧ n < 416 then SFly c J.G (par (n + 1)) (J.dst (n - 1)) else SIdle (F := F) c (par (n + 1))
/-- The rounded weights: those of the tile before. -/
def Wts (n : Nat) : sProp 𝕄 :=
  iprop(∃ fa fb fd, ⌜0 < n → fa = J.wg (n - 1) ∧ fb = J.wu (n - 1) ∧ fd = J.wd (n - 1)⌝
    ∗ owns (c : Thread nD τ) aM fullShare fa ∗ owns (c : Thread nD τ) bM fullShare fb ∗ owns (c : Thread nD τ) dM fullShare fd)

/-- Everything the core carries from tile to tile. -/
def Core (n : Nat) : sProp 𝕄 :=
  iprop(GNow c J tq n ∗ GIdle c J.H tq (par (n + 1)) ∗ SNow c J n ∗ SOther c J n ∗ Ys c J (yst n) ∗ Wts c J n)

theorem Ys_take (m : Fin 416) (st st' : Nat → Nat) (h : ∀ j : Fin 416, j ≠ m → st' j.val = st j.val) :
    Ys c J st ⊢ iprop(YP c J m.val (st m.val) ∗ (YP c J m.val (st' m.val) -∗ Ys c J st')) :=
  bigSep_univ_update (M := 𝕄) (Φ := fun m : Fin 416 => YP c J m.val (st m.val)) (Ψ := fun m : Fin 416 => YP c J m.val (st' m.val)) m
    fun j hj => by rw [h j hj]

theorem Ys_congr (st st' : Nat → Nat) (h : ∀ j : Fin 416, st' j.val = st j.val) : Ys c J st ⊢ Ys c J st' := by
  have e : Ys c J st' = Ys c J st := by
    unfold Ys; congr 1; funext m; rw [h m]
  rw [e]

/-! ## Slots whole and in rows -/

theorem gdone_open (s : Fin 2) (r : Fin 256 → Fin 49152) :
    GDone c J.H tq s r ⊢ iprop(gPt c (slotS s) (fun y => J.H (ixH (r ⟨(y 1).val, (y 1).isLt⟩) ⟨(y 2).val, (y 2).isLt⟩))
      ∗ bigSep Finset.univ fun k : Fin 256 => iprop(hPt c (tq s k) Finset.univ J.H ∗ semVal ((c : Thread nD τ), SemLoc.dma (cellG s k)) 0)) := by
  unfold GDone
  rw [bigSep_sep', g_rows]
  refine sep_mono_left (bigSep_mono fun k _ => ?_)
  have e : (gPt c (rowS s k) (tokRow J.H (r k)) : sProp 𝕄) = gPt c (rowS s k) (fun y => J.H (ixH (r ⟨(y 1).val, (y 1).isLt⟩) ⟨(y 2).val, (y 2).isLt⟩)) :=
    pointsTo_congr fun y hy => by
      have hk : k = ⟨(y 1).val, (y 1).isLt⟩ := Fin.ext (mem_rowS.1 hy).2.symm
      show J.H (ixH (r k) _) = _
      rw [← hk]
  rw [e]
  exact Idealize.SL.BI.Entails.refl _

theorem gidle_close (s : Fin 2) (f : S2x256x2048.Idx → Elt F .f32) :
    iprop(gPt c (slotS s) f ∗ bigSep Finset.univ fun k : Fin 256 => iprop(hPt c (tq s k) Finset.univ J.H ∗ semVal ((c : Thread nD τ), SemLoc.dma (cellG s k)) 0))
      ⊢ GIdle c J.H tq s := by
  have e : GIdle c J.H tq s = iprop((bigSep Finset.univ fun k : Fin 256 => iprop(∃ f, gPt c (rowS s k) f))
      ∗ bigSep Finset.univ fun k : Fin 256 => iprop(hPt c (tq s k) Finset.univ J.H ∗ semVal ((c : Thread nD τ), SemLoc.dma (cellG s k)) 0)) := bigSep_sep' _ _ _
  have hk : ∀ k : Fin 256, (gPt c (rowS s k) f : sProp 𝕄) ⊢ iprop(∃ f, gPt c (rowS s k) f) := fun k => by
    iintro H
    iexists f
    iexact H
  rw [e, g_rows]
  exact sep_mono_left (bigSep_mono fun k _ => hk k)

theorem sidle_open (s : Fin 2) :
    SIdle (F := F) c s ⊢ iprop((∃ f, oPt (F := F) c (slotS s) f) ∗ bigSep Finset.univ fun k : Fin 256 => semVal ((c : Thread nD τ), SemLoc.dma (cellS s k)) 0) := by
  unfold SIdle
  rw [bigSep_sep']
  exact sep_mono_left (o_join c s)

theorem sready_close (s : Fin 2) (O : S2x256x2048.Idx → Elt F .f32) (f : S106496x2048.Idx → Elt F .f32) (d : Fin 256 → Fin 106496) :
    iprop(oPt c (slotS s) O ∗ (bigSep Finset.univ fun k : Fin 256 => semVal ((c : Thread nD τ), SemLoc.dma (cellS s k)) 0)
      ∗ bigSep Finset.univ fun k : Fin 256 => yPt c (rowY (d k)) f) ⊢ SReady c O f s d := by
  unfold SReady
  rw [bigSep_sep', bigSep_sep', o_rows]
  iintro ⟨Ho, Hv, Hy⟩
  isplitl [Ho]; · iexact Ho
  isplitl [Hy] <;> iassumption

theorem sdone_open (s : Fin 2) (d : Fin 256 → Fin 106496) :
    SDone c J.G s d ⊢ iprop((bigSep Finset.univ fun k : Fin 256 => yPt c (rowY (d k)) J.G) ∗ SIdle (F := F) c s) := by
  unfold SDone SIdle
  rw [bigSep_sep']
end Core

/-! ## The body's first part: the gathers, the weights, and the tile's tokens -/

section Run
variable (c : Dev nD) (J : Job F) (tq : Fin 2 → Fin 256 → PosShare TreeShare) (i : grid0.Coords) (arg1 : Memref sig .tc .smem S416 .i32) (harg1 : arg1.IsWhole) (arg2 : Memref sig .tc .smem S1x1x256 .i32) (harg2 : arg2.IsWhole) (arg3 : Memref sig .tc .smem S1x1x256 .i32) (harg3 : arg3.IsWhole) (arg4 : Memref sig .tc .smem S1x1x256 .i32) (harg4 : arg4.IsWhole) (arg6 : Memref sig .tc .vmem S1x2048x512 .f32) (harg6 : arg6.IsWhole) (arg7 : Memref sig .tc .vmem S1x2048x512 .f32) (harg7 : arg7.IsWhole) (arg8 : Memref sig .tc .vmem S1x512x2048 .f32) (harg8 : arg8.IsWhole)

/-- The wait for the tile's tokens and their reading. -/
theorem part1_tail {α : Type} (K : (S1x256x2048.Idx → Elt F .f32) → Prog (TpuEff nD τ sig (Elt F) Λ₀ .tc) α) (Q : α → sProp 𝕄) :
    iprop(GFly c J.H tq (par (tl i)) (J.src (tl i)) ∗ owesAny c)
      ⊢ iprop((iprop(GIdle c J.H tq (par (tl i)) ∗ owesAny c) -∗ run c (K (J.slab (tl i))) Q)
        -∗ run c (Scf.Loop.for k0_t3_loop k0_t3_ok ⟨⟩ (k0_t3_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6) >>= fun _ =>
            Prog.lift (.load gM (Rect.unit (s := S2x256x2048) (k0_off13 i) S1x256x2048.size (k0_off13_inb i)).toLoadRect (View.loadsAt_vmem h_S1x256x2048)) >>= K) Q) := by
  iintro HP Hk
  iapply (run_bind _ _ _ (fun _ => iprop(GDone c J.H tq (par (tl i)) (J.src (tl i)) ∗ owesAny c)) (phase3 c J.H tq i arg1 harg1 arg2 harg2 arg3 harg3 arg4 harg4 arg6 harg6 arg7 harg7 arg8 harg8 (J.src (tl i))) Q) $$ HP
  iintro %a ⟨HG, HO⟩
  ihave HG' := (gdone_open c J tq (par (tl i)) (J.src (tl i))) $$ HG
  icases HG' with ⟨HG, HR⟩
  iapply (load_slot_g c (par (tl i)) _ (off13 i) (k0_off13_inb i) (View.loadsAt_vmem h_S1x256x2048) K Q) $$ HG
  iintro HG
  iapply Hk
  isplitr [HO]
  · iapply (gidle_close c J tq (par (tl i)) _)
    isplitl [HG] <;> iassumption
  · iexact HO

/-- Nothing changes the expert between two tiles of which the second is not the first and their table entries agree. -/
theorem reload_not {n : Nat} (hn : n < 416) (a b : BitVec 32)
    (h : ¬ Scalar.cmpi .ne (Scalar.extui (Scalar.ori (Scalar.cmpi .eq (BitVec.ofNat 32 n) 0#32) (Scalar.cmpi .ne a b)) : BitVec 32) 0#32 = 1#1) : 0 < n ∧ a = b := by
  have hw : ∀ u : BitVec 1, (¬ Scalar.cmpi .ne (Scalar.extui u : BitVec 32) 0#32 = 1#1) → u = 0#1 := by decide
  have h0 := hw _ h
  by_cases hab : a = b
  · refine ⟨?_, hab⟩
    rcases Nat.eq_zero_or_pos n with rfl | hp
    · exfalso; subst hab; revert h0
      have : (Scalar.cmpi .ne a a) = 0#1 := by simp [Scalar.cmpi, IntOp.cmpi]
      rw [this]; decide
    · exact hp
  · exfalso; revert h0
    have : (Scalar.cmpi .ne a b) = 1#1 := by simp [Scalar.cmpi, IntOp.cmpi, bne_iff_ne.2 hab]
    rw [this]
    have h2 : ∀ u : BitVec 1, Scalar.ori u 1#1 ≠ 0#1 := by decide
    exact h2 _

/-- The windows of one tile hold the tile's entries of the tables and its expert's weights. -/
structure Wins (n : Nat) (X2 X3 X4 : S1x1x256.Idx → BitVec 32) (X6 X7 : S1x2048x512.Idx → Elt F .f32) (X8 : S1x512x2048.Idx → Elt F .f32) : Prop where
  s2 : ∀ k, (X2 (ixW k)).toNat = (J.src n k).val
  s3 : n + 1 < 416 → ∀ k, (X3 (ixW k)).toNat = (J.src (n + 1) k).val
  s4 : ∀ k, (X4 (ixW k)).toNat = (J.dst n k).val
  s6 : k0_pay2 X6 = J.wg n
  s7 : k0_pay3 X7 = J.wu n
  s8 : k0_pay4 X8 = J.wd n

variable (q1 q2 q3 q4 q6 q7 q8 : PosShare TreeShare) (X2 X3 X4 : S1x1x256.Idx → BitVec 32) (X6 X7 : S1x2048x512.Idx → Elt F .f32) (X8 : S1x512x2048.Idx → Elt F .f32)

theorem emb_tab (n : Nat) (hn : n < 416) {off : Fin 1 → Nat} (inb : ∀ a, off a + S1.size a ≤ S416.size a) (h : off = ![n]) (x : S1.Idx) :
    (Rect.unit (s := S416) off S1.size inb).emb x = ValueIdx.ix1 (n := 416) ⟨n, hn⟩ := by
  subst h
  funext a; apply Fin.ext
  rw [ValueKit.rect_emb_unit_val]
  match a with
  | 0 => have := (x 0).isLt; change (x 0).val < 1 at this; show n + (x 0).val = n; omega

theorem part1 (hJ : J.Ok) (hX : Wins J (tl i) X2 X3 X4 X6 X7 X8) :
    iprop(GNow c J tq (tl i) ∗ GIdle c J.H tq (par (tl i + 1)) ∗ Wts c J (tl i) ∗ owesAny c ∗ owns (c : Thread nD τ) arg1 q1 J.tab
        ∗ owns (c : Thread nD τ) arg2 q2 X2 ∗ owns (c : Thread nD τ) arg3 q3 X3
        ∗ owns (c : Thread nD τ) arg6 q6 X6 ∗ owns (c : Thread nD τ) arg7 q7 X7 ∗ owns (c : Thread nD τ) arg8 q8 X8)
      ⊢ run c (k0_part1 (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6) fun v => iprop(⌜v.2.2 = k0_pay5 (J.slab (tl i))⌝
          ∗ GIdle c J.H tq (par (tl i)) ∗ GNow c J tq (tl i + 1) ∗ Wts c J (tl i + 1) ∗ owesAny c ∗ owns (c : Thread nD τ) arg1 q1 J.tab
        ∗ owns (c : Thread nD τ) arg2 q2 X2 ∗ owns (c : Thread nD τ) arg3 q3 X3
        ∗ owns (c : Thread nD τ) arg6 q6 X6 ∗ owns (c : Thread nD τ) arg7 q7 X7 ∗ owns (c : Thread nD τ) arg8 q8 X8) := by
  have hn := tl_lt i
  rw [k0_part1_eq_skeleton]
  unfold k0_part1_skel
  dsimp only
  iintro ⟨HG, HI, HW, HO, H1, H2, H3, H6, H7, H8⟩
  iapply (run_if (c := c) (fun h1 : k0_cond1 i = 1#1 => Scf.Loop.for k0_t1_loop (k0_t1_ok i h1) ⟨⟩ (k0_t1_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h1)) _
    iprop(GNow c J tq (tl i) ∗ owns (c : Thread nD τ) arg2 q2 X2) iprop(GFly c J.H tq (par (tl i)) (J.src (tl i)) ∗ owns (c : Thread nD τ) arg2 q2 X2)
    (fun h1 => by
      unfold GNow
      rw [if_neg (by rw [(cond1 i).1 h1]; omega)]
      exact phase1 c J.H tq i arg1 harg1 arg2 harg2 arg3 harg3 arg4 harg4 arg6 harg6 arg7 harg7 arg8 harg8 h1 q2 X2 (J.src (tl i)) hX.s2)
    (fun h1 => by
      unfold GNow
      rw [if_pos ⟨Nat.pos_of_ne_zero fun h => h1 ((cond1 i).2 h), hn⟩]) _) $$ [HG H2]
  · isplitl [HG] <;> iassumption
  iintro ⟨HG, H2⟩
  iapply (run_if (c := c) (fun h2 : k0_cond2 i = 1#1 => Scf.Loop.for k0_t2_loop (k0_t2_ok i h2) ⟨⟩ (k0_t2_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h2)) _
    iprop(GIdle c J.H tq (par (tl i + 1)) ∗ owns (c : Thread nD τ) arg3 q3 X3) iprop(GNow c J tq (tl i + 1) ∗ owns (c : Thread nD τ) arg3 q3 X3)
    (fun h2 => by
      have h2' := (cond2 i).1 h2
      unfold GNow
      rw [if_pos ⟨Nat.succ_pos _, h2'⟩]
      exact phase2 c J.H tq i arg1 harg1 arg2 harg2 arg3 harg3 arg4 harg4 arg6 harg6 arg7 harg7 arg8 harg8 h2 q3 X3 (J.src (tl i + 1)) (hX.s3 h2'))
    (fun h2 => by
      unfold GNow
      rw [if_neg (fun h => h2 ((cond2 i).2 h.2))]) _) $$ [HI H3]
  · isplitl [HI] <;> iassumption
  iintro ⟨HN, H3⟩
  iapply (load_word c arg1 q1 J.tab _ numel1_S1 rfl (ValueIdx.ix1 (n := 416) ⟨tl i, hn⟩) (emb_tab (tl i) hn _ (off1 i) _)) $$ H1
  iintro H1
  iapply (load_word c arg1 q1 J.tab _ numel1_S1 rfl (ValueIdx.ix1 (n := 416) ⟨tl i - 1, by omega⟩) (emb_tab (tl i - 1) (by omega) _ (off10 i) _)) $$ H1
  iintro H1
  unfold Wts
  icases HW with ⟨%fa, %fb, %fd, %hW, Ha, Hb, Hd⟩
  split
  · iapply (load_win c arg6 q6 X6 (by funext a; match a with | 0 => rfl | 1 => rfl | 2 => rfl) _ _) $$ H6
    iintro H6
    iapply (load_win c aM fullShare fa (by funext a; match a with | 0 => rfl | 1 => rfl) _ _) $$ Ha
    iintro Ha
    iapply (store_win c aM fa (k0_pay2 X6) (by funext a; match a with | 0 => rfl | 1 => rfl) _ _ _) $$ Ha
    iintro Ha
    iapply (load_win c arg7 q7 X7 (by funext a; match a with | 0 => rfl | 1 => rfl | 2 => rfl) _ _) $$ H7
    iintro H7
    iapply (load_win c bM fullShare fb (by funext a; match a with | 0 => rfl | 1 => rfl) _ _) $$ Hb
    iintro Hb
    iapply (store_win c bM fb (k0_pay3 X7) (by funext a; match a with | 0 => rfl | 1 => rfl) _ _ _) $$ Hb
    iintro Hb
    iapply (load_win c arg8 q8 X8 (by funext a; match a with | 0 => rfl | 1 => rfl | 2 => rfl) _ _) $$ H8
    iintro H8
    iapply (load_win c dM fullShare fd (by funext a; match a with | 0 => rfl | 1 => rfl) _ _) $$ Hd
    iintro Hd
    iapply (store_win c dM fd (k0_pay4 X8) (by funext a; match a with | 0 => rfl | 1 => rfl) _ _ _) $$ Hd
    iintro Hd
    iapply (part1_tail c J tq i arg1 harg1 arg2 harg2 arg3 harg3 arg4 harg4 arg6 harg6 arg7 harg7 arg8 harg8 _ _) $$ [HG HO]
    · isplitl [HG] <;> iassumption
    iintro ⟨HG, HO⟩
    simp only [wp_pure, run]
    imodintro
    isplitr
    · ipureintro; trivial
    isplitl [HG]; · iexact HG
    isplitl [HN]; · iexact HN
    isplitl [Ha Hb Hd]
    · iexists (k0_pay2 X6), (k0_pay3 X7), (k0_pay4 X8)
      isplitr
      · ipureintro; intro _; exact ⟨hX.s6, hX.s7, hX.s8⟩
      isplitl [Ha]; · iexact Ha
      isplitl [Hb] <;> iassumption
    isplitl [HO]; · iexact HO
    isplitl [H1]; · iexact H1
    isplitl [H2]; · iexact H2
    isplitl [H3]; · iexact H3
    isplitl [H6]; · iexact H6
    isplitl [H7] <;> iassumption
  · rename_i hsame
    obtain ⟨h0, hte⟩ := reload_not hn _ _ hsame
    obtain ⟨ea, eb, ed⟩ := hW h0
    obtain ⟨sa, sb, sd⟩ := hJ.same (tl i) h0 hn hte
    iapply (part1_tail c J tq i arg1 harg1 arg2 harg2 arg3 harg3 arg4 harg4 arg6 harg6 arg7 harg7 arg8 harg8 _ _) $$ [HG HO]
    · isplitl [HG] <;> iassumption
    iintro ⟨HG, HO⟩
    simp only [wp_pure, run]
    imodintro
    isplitr
    · ipureintro; trivial
    isplitl [HG]; · iexact HG
    isplitl [HN]; · iexact HN
    isplitl [Ha Hb Hd]
    · iexists fa, fb, fd
      isplitr
      · ipureintro; intro _; exact ⟨ea.trans sa.symm, eb.trans sb.symm, ed.trans sd.symm⟩
      isplitl [Ha]; · iexact Ha
      isplitl [Hb] <;> iassumption
    isplitl [HO]; · iexact HO
    isplitl [H1]; · iexact H1
    isplitl [H2]; · iexact H2
    isplitl [H3]; · iexact H3
    isplitl [H6]; · iexact H6
    isplitl [H7] <;> iassumption

/-! ## The whole body -/

theorem part4 (h4 : k0_cond4 i = 1#1) (m : Fin 416) (hm : m.val + 2 = tl i) (st' : Nat → Nat) (h1 : st' m.val = 2) (h2 : ∀ j : Fin 416, j ≠ m → st' j.val = yst (tl i) j.val) :
    iprop(SNow c J (tl i) ∗ Ys c J (yst (tl i)) ∗ owesAny c)
      ⊢ run c (Scf.Loop.for k0_t4_loop (k0_t4_ok i h4) ⟨⟩ (k0_t4_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h4)) fun _ => iprop(SIdle (F := F) c (par (tl i)) ∗ Ys c J st' ∗ owesAny c) := by
  have hn := tl_lt i
  have e2 : tl i - 2 = m.val := by omega
  unfold SNow
  rw [if_pos ⟨by omega, hn⟩, e2]
  iintro ⟨HS, HY, HO⟩
  ihave HY' := (Ys_take c J m (yst (tl i)) st' h2) $$ HY
  icases HY' with ⟨-, HY⟩
  ihave Hw := (phase4 c J.G i arg1 harg1 arg2 harg2 arg3 harg3 arg4 harg4 arg6 harg6 arg7 harg7 arg8 harg8 h4 (J.dst m.val)) $$ [HS HO]
  · isplitl [HS] <;> iassumption
  iapply (wp_wand frame (wpE (defs₀ (F := F)) Variants.none (c : Thread nD τ) none) Set.univ) $$ Hw
  iintro %a ⟨HD, HO⟩
  ihave HD' := (sdone_open c J (par (tl i)) (J.dst m.val)) $$ HD
  icases HD' with ⟨Hy, HS⟩
  isplitl [HS]; · iexact HS
  isplitl [HY Hy]
  · iapply HY
    unfold YP
    rw [h1, if_neg (by decide), if_neg (by decide)]
    iexact Hy
  · iexact HO

/-- The stages once the slot's last use has arrived. -/
def yst4 (n m : Nat) : Nat := if m + 2 = n then 2 else yst n m
/-- The stages once this tile's rows are under way. -/
def yst5 (n m : Nat) : Nat := if m = n then 1 else yst4 n m

theorem yst_next (n : Nat) (hn : n + 1 < 416) (m : Nat) : yst (n + 1) m = yst5 n m := by
  unfold yst5 yst4 yst; split_ifs <;> omega
theorem yst_last (m : Nat) (hm : m < 416) : yst 416 m = if m = 414 then 2 else if m = 415 then 2 else yst5 415 m := by
  unfold yst5 yst4 yst; split_ifs <;> omega

/-- One tile: from what the core holds before it to what it holds after. -/
theorem body (hJ : J.Ok) (hX : Wins J (tl i) X2 X3 X4 X6 X7 X8) :
    iprop(Core c J tq (tl i) ∗ owesAny c ∗ owns (c : Thread nD τ) arg1 q1 J.tab
        ∗ owns (c : Thread nD τ) arg2 q2 X2 ∗ owns (c : Thread nD τ) arg3 q3 X3 ∗ owns (c : Thread nD τ) arg4 q4 X4
        ∗ owns (c : Thread nD τ) arg6 q6 X6 ∗ owns (c : Thread nD τ) arg7 q7 X7 ∗ owns (c : Thread nD τ) arg8 q8 X8)
      ⊢ run c (cc0_experts (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6) fun _ => iprop(Core c J tq (tl i + 1) ∗ owesAny c ∗ owns (c : Thread nD τ) arg1 q1 J.tab
        ∗ owns (c : Thread nD τ) arg2 q2 X2 ∗ owns (c : Thread nD τ) arg3 q3 X3 ∗ owns (c : Thread nD τ) arg4 q4 X4
        ∗ owns (c : Thread nD τ) arg6 q6 X6 ∗ owns (c : Thread nD τ) arg7 q7 X7 ∗ owns (c : Thread nD τ) arg8 q8 X8) := by
  have hn := tl_lt i
  rw [cc0_experts_eq_skeleton]
  unfold cc0_experts_skel Core
  iintro ⟨⟨HG, HI, HS, HT, HY, HW⟩, HO, H1, H2, H3, H4, H6, H7, H8⟩
  iapply (run_bind _ _ _ _ (part1 c J tq i arg1 harg1 arg2 harg2 arg3 harg3 arg4 harg4 arg6 harg6 arg7 harg7 arg8 harg8 q1 q2 q3 q6 q7 q8 X2 X3 X4 X6 X7 X8 hJ hX) _) $$ [HG HI HW HO H1 H2 H3 H6 H7 H8]
  · isplitl [HG]; · iexact HG
    isplitl [HI]; · iexact HI
    isplitl [HW]; · iexact HW
    isplitl [HO]; · iexact HO
    isplitl [H1]; · iexact H1
    isplitl [H2]; · iexact H2
    isplitl [H3]; · iexact H3
    isplitl [H6]; · iexact H6
    isplitl [H7] <;> iassumption
  iintro %a ⟨%ha, HI, HG, HW, HO, H1, H2, H3, H6, H7, H8⟩
  obtain ⟨a0, a9, v32⟩ := a
  dsimp only at ha ⊢
  subst ha
  unfold Wts
  icases HW with ⟨%fa, %fb, %fd, %hW, Ha, Hb, Hd⟩
  iapply (load_win c aM fullShare fa (by funext a; match a with | 0 => rfl | 1 => rfl) _ _) $$ Ha
  iintro Ha
  iapply (load_win c bM fullShare fb (by funext a; match a with | 0 => rfl | 1 => rfl) _ _) $$ Hb
  iintro Hb
  iapply (load_win c dM fullShare fd (by funext a; match a with | 0 => rfl | 1 => rfl) _ _) $$ Hd
  iintro Hd
  have hout : k0_pay1 (k0_pay5 (J.slab (tl i))) fa fb fd = J.out (tl i) := by
    obtain ⟨ea, eb, ed⟩ := hW (Nat.succ_pos _)
    rw [ea, eb, ed]; rfl
  rw [hout]
  -- the slot's last use
  iapply (run_if (c := c) (fun h4 : k0_cond4 i = 1#1 => Scf.Loop.for k0_t4_loop (k0_t4_ok i h4) ⟨⟩ (k0_t4_body (F := F) i arg1 harg1 arg2 harg2 arg3 harg3 arg4 harg4 hM (Memref.isWhole_whole _) arg6 harg6 arg7 harg7 arg8 harg8 yM (Memref.isWhole_whole _) gM (Memref.isWhole_whole _) oM (Memref.isWhole_whole _) aM (Memref.isWhole_whole _) bM (Memref.isWhole_whole _) dM (Memref.isWhole_whole _) cc0_scratch5 cc0_scratch6 h4)) _
    iprop(SNow c J (tl i) ∗ Ys c J (yst (tl i)) ∗ owesAny c) iprop(SIdle (F := F) c (par (tl i)) ∗ Ys c J (yst4 (tl i)) ∗ owesAny c)
    (fun h4 => by
      have h4' := (cond4 i).1 h4
      refine part4 c J i arg1 harg1 arg2 harg2 arg3 harg3 arg4 harg4 arg6 harg6 arg7 harg7 arg8 harg8 h4 ⟨tl i - 2, by omega⟩ (by show tl i - 2 + 2 = tl i; omega) (yst4 (tl i)) ?_ ?_
      · show (if tl i - 2 + 2 = tl i then 2 else _) = 2
        rw [if_pos (by omega)]
      · intro j hj
        have : j.val ≠ tl i - 2 := fun h => hj (Fin.ext h)
        show (if j.val + 2 = tl i then 2 else _) = _
        rw [if_neg (by omega)])
    (fun h4 => by
      have h4' : ¬ 2 ≤ tl i := fun h => h4 ((cond4 i).2 h)
      unfold SNow
      rw [if_neg (fun h => h4' h.1)]
      refine sep_mono_right (sep_mono_left (Ys_congr c J _ _ fun j => ?_))
      show (if j.val + 2 = tl i then 2 else _) = _
      rw [if_neg (by omega)]) _) $$ [HS HY HO]
  · isplitl [HS]; · iexact HS
    isplitl [HY] <;> iassumption
  iintro ⟨HS, HY, HO⟩
  ihave HS' := (sidle_open c (par (tl i))) $$ HS
  icases HS' with ⟨⟨%f, Ho⟩, Hv⟩
  iapply (load_slot_o c (par (tl i)) f (off13 i) (k0_off13_inb i) _ _ _) $$ Ho
  iintro Ho
  iapply (store_slot_o c (par (tl i)) f (J.out (tl i)) (off13 i) (k0_off13_inb i) _ _ _ _) $$ Ho
  iintro Ho
  have ey : YP c J (tl i) (yst4 (tl i) (tl i)) = bigSep Finset.univ fun k : Fin 256 => yPt c (rowY (J.dst (tl i) k)) J.V := by
    have : yst4 (tl i) (tl i) = 0 := by unfold yst4 yst; split_ifs <;> omega
    unfold YP
    rw [this, if_pos rfl]
  have ey5 : YP c J (tl i) (yst5 (tl i) (tl i)) = iprop(emp) := by
    have : yst5 (tl i) (tl i) = 1 := by unfold yst5; rw [if_pos rfl]
    unfold YP
    rw [this, if_neg (by decide), if_pos rfl]
  have hyt : Ys c J (yst4 (tl i)) ⊢ iprop(YP c J (tl i) (yst4 (tl i) (tl i)) ∗ (YP c J (tl i) (yst5 (tl i) (tl i)) -∗ Ys c J (yst5 (tl i)))) :=
    Ys_take c J ⟨tl i, hn⟩ (yst4 (tl i)) (yst5 (tl i)) (fun j hj => by
      have : j.val ≠ tl i := fun h => hj (Fin.ext h)
      show (if j.val = tl i then 1 else _) = _
      rw [if_neg this])
  rw [ey, ey5] at hyt
  ihave HY' := hyt $$ HY
  icases HY' with ⟨Hy, HY⟩
  ihave HY := HY $$ []
  · iempintro
  ihave HR := (sready_close c (par (tl i)) (fun y => J.out (tl i) (ixB y)) J.V (J.dst (tl i))) $$ [Ho Hv Hy]
  · isplitl [Ho]; · iexact Ho
    isplitl [Hv] <;> iassumption
  iapply (run_bind _ _ _ _ (phase5 c J.G i arg1 harg1 arg2 harg2 arg3 harg3 arg4 harg4 arg6 harg6 arg7 harg7 arg8 harg8 q4 X4 (J.dst (tl i)) hX.s4 (fun y => J.out (tl i) (ixB y)) J.V (hJ.land (tl i) hn)) _) $$ [HR H4]
  · isplitl [HR] <;> iassumption
  iintro %a ⟨HF, H4⟩
  have h2p : par (tl i + 1 + 1) = par (tl i) := par_succ_succ (tl i)
  by_cases h5 : k0_cond5 i = 1#1
  · have h5' := (cond5 i).1 h5
    rw [dif_pos h5]
    iapply (run_bind _ _ _ _ (phase6 c J.G i arg1 harg1 arg2 harg2 arg3 harg3 arg4 harg4 arg6 harg6 arg7 harg7 arg8 harg8 h5 (J.dst (tl i))) _) $$ [HF HO]
    · isplitl [HF] <;> iassumption
    iintro %a ⟨HD, HO⟩
    have hso : SOther c J (tl i) ⊢ SFly c J.G (par (tl i + 1)) (J.dst (tl i - 1)) := by
      unfold SOther
      rw [if_pos (show 1 ≤ tl i ∧ tl i < 416 from ⟨by omega, hn⟩)]
    ihave HT := hso $$ HT
    iapply (run_bind _ _ _ _ (phase7 c J.G i arg1 harg1 arg2 harg2 arg3 harg3 arg4 harg4 arg6 harg6 arg7 harg7 arg8 harg8 h5 (J.dst (tl i - 1))) _) $$ [HT HO]
    · isplitl [HT] <;> iassumption
    iintro %a ⟨HE, HO⟩
    ihave HD' := (sdone_open c J (par (tl i)) (J.dst (tl i))) $$ HD
    icases HD' with ⟨Hy, HS⟩
    ihave HE' := (sdone_open c J (par (tl i + 1)) (J.dst (tl i - 1))) $$ HE
    icases HE' with ⟨Hz, HT⟩
    ihave HY' := (Ys_take c J ⟨415, by decide⟩ (yst5 (tl i)) (fun m => if m = 415 then 2 else yst5 (tl i) m) (fun j hj => by
      have : j.val ≠ 415 := fun h => hj (Fin.ext h)
      show (if j.val = 415 then 2 else _) = _
      rw [if_neg this])) $$ HY
    icases HY' with ⟨-, HY⟩
    ihave HY := HY $$ [Hy]
    · unfold YP
      rw [if_pos rfl, if_neg (by decide), if_neg (by decide)]
      rw [h5']
      iexact Hy
    ihave HY' := (Ys_take c J ⟨414, by decide⟩ _ (fun m => if m = 414 then 2 else if m = 415 then 2 else yst5 (tl i) m) (fun j hj => by
      have : j.val ≠ 414 := fun h => hj (Fin.ext h)
      show (if j.val = 414 then 2 else _) = _
      rw [if_neg this])) $$ HY
    icases HY' with ⟨-, HY⟩
    ihave HY := HY $$ [Hz]
    · unfold YP
      rw [if_pos rfl, if_neg (by decide), if_neg (by decide)]
      rw [h5']
      iexact Hz
    simp only [wp_pure, run]
    imodintro
    isplitr [HO H1 H2 H3 H4 H6 H7 H8]
    · isplitl [HG]; · iexact HG
      isplitl [HI]; · rw [h2p]; iexact HI
      isplitl [HT]
      · unfold SNow
        rw [if_neg (by omega)]
        iexact HT
      isplitl [HS]
      · unfold SOther
        rw [if_neg (by omega), h2p]
        iexact HS
      isplitl [HY]
      · iapply (Ys_congr c J _ _ (fun j => by
          rw [h5']
          exact yst_last j.val j.isLt)) $$ HY
      · iexists fa, fb, fd
        isplitr
        · ipureintro; exact hW
        isplitl [Ha]; · iexact Ha
        isplitl [Hb] <;> iassumption
    isplitl [HO]; · iexact HO
    isplitl [H1]; · iexact H1
    isplitl [H2]; · iexact H2
    isplitl [H3]; · iexact H3
    isplitl [H4]; · iexact H4
    isplitl [H6]; · iexact H6
    isplitl [H7] <;> iassumption
  · have h5' : tl i ≠ 415 := fun h => h5 ((cond5 i).2 h)
    rw [dif_neg h5]
    have hso : SOther c J (tl i) ⊢ SNow c J (tl i + 1) := by
      unfold SOther SNow
      by_cases h1 : 1 ≤ tl i
      · rw [if_pos ⟨h1, hn⟩, if_pos (show 2 ≤ tl i + 1 ∧ tl i + 1 < 416 from ⟨by omega, by omega⟩), show tl i + 1 - 2 = tl i - 1 from by omega]
      · rw [if_neg (fun h => h1 h.1), if_neg (show ¬ (2 ≤ tl i + 1 ∧ tl i + 1 < 416) from by omega)]
    simp only [wp_pure, run]
    imodintro
    isplitr [HO H1 H2 H3 H4 H6 H7 H8]
    · isplitl [HG]; · iexact HG
      isplitl [HI]; · rw [h2p]; iexact HI
      isplitl [HT]
      · iapply hso $$ HT
      isplitl [HF]
      · unfold SOther
        rw [if_pos (show 1 ≤ tl i + 1 ∧ tl i + 1 < 416 from ⟨by omega, by omega⟩), h2p, show tl i + 1 - 1 = tl i from rfl]
        iexact HF
      isplitl [HY]
      · iapply (Ys_congr c J _ _ (fun j => yst_next (tl i) (by omega) j.val)) $$ HY
      · iexists fa, fb, fd
        isplitr
        · ipureintro; exact hW
        isplitl [Ha]; · iexact Ha
        isplitl [Hb] <;> iassumption
    isplitl [HO]; · iexact HO
    isplitl [H1]; · iexact H1
    isplitl [H2]; · iexact H2
    isplitl [H3]; · iexact H3
    isplitl [H4]; · iexact H4
    isplitl [H6]; · iexact H6
    isplitl [H7] <;> iassumption
end Run

end Cert.Kernel4Ideal.Ex
end
-- ==== Proof.ExPre.lean ====
/-
  What the condition on the tables says: every token number, every result row and every expert is in its range, and the
  result rows run through all the rows of the result.
-/
module

public import proofs.«01_k».proof.Proof.Gen.Pre_tables
public import Idealize.ShloMosaic.Lib.Routing.Ops
public import Idealize.ShloMosaic.Lib.ReduceAll
public import Idealize.ShloMosaic.Lib.Affine

@[expose] public section

set_option maxRecDepth 16384

noncomputable section

namespace Cert.Kernel4Ideal.Ex

open Idealize.ShloMosaic

/-- The tables' ranges; the result rows of the tiles run through all rows. -/
structure Tables (src dst : (⟨3, ![416, 1, 256]⟩ : Shape).Idx → BitVec 32) (te : (⟨1, ![416]⟩ : Shape).Idx → BitVec 32) : Prop where
  src_lt : ∀ x, (src x).toNat < 49152
  dst_lt : ∀ x, (dst x).toNat < 106496
  te_lt : ∀ x, (te x).toNat < 32
  onto : ∀ r, r < 106496 → ∃ x, (dst x).toNat = r

/-- A word that is not negative and below a bound, read as signed, is below it as a natural number. -/
theorem lt_of_signed (n : Nat) (hn : n < 2 ^ 31) (w : BitVec 32) (h0 : (0#32).toInt ≤ w.toInt) (h1 : w.toInt < (BitVec.ofNat 32 n).toInt) : w.toNat < n := by
  have e0 : (0#32 : BitVec 32).toInt = 0 := by decide
  have e1 : (BitVec.ofNat 32 n).toInt = n := StableHlo.Predicate.toInt_ofNat_small _ hn
  rw [e0] at h0; rw [e1] at h1
  have := BitVec.toInt_eq_toNat_cond w
  have hw := w.isLt
  split at this <;> omega

theorem sub0 : Subsingleton Cert.Pre_tables.S_.Idx := ⟨fun a b => funext fun i => i.elim0⟩

theorem bound_of_all {s : Shape} {axes : List (Fin s.rank)} (n : Nat) (hn : n < 2 ^ 31) (x lo hi : s.Idx → BitVec 32) (hlo : ∀ i, lo i = 0#32) (hhi : ∀ i, hi i = BitVec.ofNat 32 n)
    (init : Cert.Pre_tables.S_.Idx → BitVec 1) (h : s.ReducesTo axes Cert.Pre_tables.S_) (hu : 0 < Cert.Pre_tables.S_.numel) (j : Cert.Pre_tables.S_.Idx)
    (e : Host.reduce IntOp.andi (andi (cmpi .sge x lo) (cmpi .slt x hi)) init h hu j = 1#1) (i : s.Idx) : (x i).toNat < n := by
  haveI := sub0
  have h1 : IntOp.andi (IntOp.cmpi .sge (x i) (lo i)) (IntOp.cmpi .slt (x i) (hi i)) = 1#1 := Host.reduce_andi_all _ init h hu j e i
  obtain ⟨ha, hb⟩ := IntOp.andi_eq_one.1 h1
  have ha := IntOp.cmpi_sge.1 ha
  have hb := IntOp.cmpi_slt.1 hb
  rw [hlo] at ha; rw [hhi] at hb
  exact lt_of_signed n hn _ ha hb

/-- A histogram of as many places as rows that has a one everywhere meets every row. -/
theorem onto_of_ones [Cert.Pre_tables.Facts] (d : IVec Cert.Pre_tables.S106496 32) (hd : ∀ i, (d i).toNat < 106496)
    (x0 : IVec Cert.Pre_tables.S106496 32) (hx0 : ∀ i, x0 i = 0#32) (idx : IVec Cert.Pre_tables.S106496x1 32)
    (hidx : ∀ i : Fin 106496, idx (ValueIdx.ix2 (n0 := 106496) (n1 := 1) i (0 : Fin 1)) = d (ValueIdx.ix1 (n := 106496) i))
    (upd : IVec Cert.Pre_tables.S106496 32) (hupd : ∀ i, upd i = 1#32) (one : IVec Cert.Pre_tables.S106496 32) (hone : ∀ i, one i = 1#32)
    (init : Cert.Pre_tables.S_.Idx → BitVec 1) (ht : Cert.Pre_tables.S106496.ReducesTo [0] Cert.Pre_tables.S_) (hu : 0 < Cert.Pre_tables.S_.numel) (j : Cert.Pre_tables.S_.Idx)
    (e : Host.reduce IntOp.andi (cmpi .eq (Host.scatter Cert.Pre_tables.scatter_S106496_S106496x1_S106496_n_0_0_1 IntOp.addi x0 idx upd) one) init ht hu j = 1#1)
    (r : Nat) (hr : r < 106496) :
    ∃ i, (d i).toNat = r := by
  haveI := sub0
  have h : Host.scatter Cert.Pre_tables.scatter_S106496_S106496x1_S106496_n_0_0_1 IntOp.addi x0 idx upd (ValueIdx.ix1 (n := 106496) ⟨r, hr⟩) = 1#32 :=
    (IntOp.cmpi_eq.1 (Host.reduce_andi_all _ init ht hu j e _)).trans (hone _)
  have hs := Routing.scatter_hist (N := 106496) Cert.Pre_tables.scatter_S106496_S106496x1_S106496_n_0_0_1 rfl rfl rfl x0 hx0 idx upd hupd
    (fun i => if hi : i < 106496 then (d (ValueIdx.ix1 (n := 106496) ⟨i, hi⟩)).toNat else 0)
    (fun i => by
      rw [hidx, dif_pos i.isLt, BitVec.ofNat_toNat, BitVec.setWidth_eq])
    (fun i => by
      rw [dif_pos i.isLt]; have := hd (ValueIdx.ix1 (n := 106496) ⟨i.val, i.isLt⟩); omega) ⟨r, hr⟩
  rw [h] at hs
  by_contra hc
  have h0 : Nat.count (fun i => (if hi : i < 106496 then (d (ValueIdx.ix1 (n := 106496) ⟨i, hi⟩)).toNat else 0) = r) 106496 = 0 := by
    rw [Nat.count_eq_card_filter_range, Finset.card_eq_zero, Finset.filter_eq_empty_iff]
    intro i hi
    have hi' := Finset.mem_range.1 hi
    rw [dif_pos hi']
    exact fun e => hc ⟨_, e⟩
  rw [h0] at hs
  exact absurd hs (by decide)

/-- A number that is not negative, as the index of a scatter. -/
theorem wrap_of_nonneg (n w z : BitVec 32) (hz : z = 0#32) (hw : w.toNat < 106496) :
    Scalar.select (IntOp.cmpi .slt w z) (IntOp.addi w n) w = w := by
  subst hz
  have : IntOp.cmpi .slt w 0#32 ≠ 1#1 := fun h => by
    have := IntOp.cmpi_slt.1 h
    have e0 : (0#32 : BitVec 32).toInt = 0 := by decide
    rw [e0] at this
    have h2 := BitVec.toInt_eq_toNat_cond w
    split at h2 <;> omega
  unfold Scalar.select
  exact if_neg this

theorem tables_of_pre [Cert.Pre_tables.Facts] {F : FTy → Type} [FloatOps F] (a0 : FVec F Cert.Pre_tables.S49152x2048 .f32) (src dst : IVec Cert.Pre_tables.S416x1x256 32)
    (te : IVec Cert.Pre_tables.S416 32) (a4 a5 : FVec F Cert.Pre_tables.S32x2048x512 .f32) (a6 : FVec F Cert.Pre_tables.S32x512x2048 .f32)
    (h : Cert.Pre_tables.fn (F := F) a0 src dst te a4 a5 a6 = fun _ => 1#1) : Tables src dst te := by
  have j : Cert.Pre_tables.S_.Idx := fun i => i.elim0
  have h0 := congrFun h j
  obtain ⟨h19, h32⟩ := IntOp.andi_eq_one.1 (show IntOp.andi _ _ = 1#1 from h0)
  obtain ⟨h12, h18⟩ := IntOp.andi_eq_one.1 (show IntOp.andi _ _ = 1#1 from h19)
  obtain ⟨h5, h11⟩ := IntOp.andi_eq_one.1 (show IntOp.andi _ _ = 1#1 from h12)
  have hsrc : ∀ x, (src x).toNat < 49152 := bound_of_all 49152 (by norm_num) src _ _ (fun _ => rfl) (fun _ => rfl) _ _ _ j h5
  have hdst : ∀ x, (dst x).toNat < 106496 := bound_of_all 106496 (by norm_num) dst _ _ (fun _ => rfl) (fun _ => rfl) _ _ _ j h11
  have hte : ∀ x, (te x).toNat < 32 := bound_of_all 32 (by norm_num) te _ _ (fun _ => rfl) (fun _ => rfl) _ _ _ j h18
  refine ⟨hsrc, hdst, hte, fun r hr => ?_⟩
  obtain ⟨i, hi⟩ := onto_of_ones (shapeCast Cert.Pre_tables.S106496 dst Cert.Pre_tables.Facts.shapeCasts_S416x1x256_S106496) (fun i => hdst _) _ (fun _ => rfl) _
    (fun i => wrap_of_nonneg _ _ _ rfl (hdst _)) _ (fun _ => rfl) _ (fun _ => rfl) _ _ _ j h32 r hr
  exact ⟨_, hi⟩

end Cert.Kernel4Ideal.Ex

end
-- ==== Proof.ExJob.lean ====
/-
  The experts' call, its job read off the arguments: which tokens, which rows, which weights, and the result.
-/
module

public import proofs.«01_k».proof.Proof.ExBody
public import proofs.«01_k».proof.Proof.ExPre

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: the pipeline's beside the transfers' counters. -/
local notation "𝕄" => MT nD τ sig Unit (Elt F) ℕ (Pipeline.UD sig nD τ) ℕ

/-! ## The job of a call's arguments -/

/-- The arguments of the call. -/
structure Args (F : FTy → Type) where
  h : S49152x2048.Idx → Elt F .f32
  src : S416x1x256.Idx → BitVec 32
  dst : S416x1x256.Idx → BitVec 32
  te : S416.Idx → BitVec 32
  wg : S32x2048x512.Idx → Elt F .f32
  wu : S32x2048x512.Idx → Elt F .f32
  wd : S32x512x2048.Idx → Elt F .f32
  v : S106496x2048.Idx → Elt F .f32

variable (a : Args F)

/-- Word `k` of tile `n` of a table of tiles. -/
def ixT (n : Fin 416) (k : Fin 256) : S416x1x256.Idx := ValueIdx.ix3 (n0 := 416) (n1 := 1) (n2 := 256) n ⟨0, Nat.one_pos⟩ k

/-- A tile's number, within the tables. -/
def tile (n : Nat) : Fin 416 := ⟨n % 416, Nat.mod_lt _ (by decide)⟩
theorem tile_val {n : Nat} (h : n < 416) : (tile n).val = n := Nat.mod_eq_of_lt h
theorem tile_fin (n : Fin 416) : tile n.val = n := Fin.ext (tile_val n.isLt)

/-- The token of row `k` of tile `n`. -/
def Args.tok (n : Nat) (k : Fin 256) : Fin 49152 := ⟨(a.src (ixT (tile n) k)).toNat % 49152, Nat.mod_lt _ (by decide)⟩
/-- The result row of row `k` of tile `n`. -/
def Args.row (n : Nat) (k : Fin 256) : Fin 106496 := ⟨(a.dst (ixT (tile n) k)).toNat % 106496, Nat.mod_lt _ (by decide)⟩
/-- Tile `n`'s expert, as the table has it. -/
def Args.word (n : Nat) : BitVec 32 := a.te (ValueIdx.ix1 (n := 416) (tile n))
/-- Tile `n`'s expert. -/
def Args.exp (n : Nat) : Fin 32 := ⟨(a.word n).toNat % 32, Nat.mod_lt _ (by decide)⟩
/-- An expert's block of a weight array. -/
def wBlk (w : S32x2048x512.Idx → Elt F .f32) (e : Fin 32) : S1x2048x512.Idx → Elt F .f32 :=
  fun y => w (ValueIdx.ix3 (n0 := 32) (n1 := 2048) (n2 := 512) e ⟨(y 1).val, (y 1).isLt⟩ ⟨(y 2).val, (y 2).isLt⟩)
def dBlk (w : S32x512x2048.Idx → Elt F .f32) (e : Fin 32) : S1x512x2048.Idx → Elt F .f32 :=
  fun y => w (ValueIdx.ix3 (n0 := 32) (n1 := 512) (n2 := 2048) e ⟨(y 1).val, (y 1).isLt⟩ ⟨(y 2).val, (y 2).isLt⟩)

/-- The job but for its result. -/
def Args.job0 : Job F where
  H := a.h
  G := a.v
  V := a.v
  src := a.tok
  dst := a.row
  wg n := k0_pay2 (wBlk a.wg (a.exp n))
  wu n := k0_pay3 (wBlk a.wu (a.exp n))
  wd n := k0_pay4 (dBlk a.wd (a.exp n))
  te := a.word

/-- Where a result row comes from: the tile and the row of the tile. -/
def Args.place (r : Fin 106496) : Fin 416 × Fin 256 :=
  haveI : Nonempty (Fin 416 × Fin 256) := ⟨(⟨0, by decide⟩, ⟨0, by decide⟩)⟩
  Function.invFun (fun p : Fin 416 × Fin 256 => a.row p.1.val p.2) r

/-- What the call leaves in its result: each row from its place. -/
def Args.res : S106496x2048.Idx → Elt F .f32 := fun y =>
  let p := a.place ⟨(y 0).val, (y 0).isLt⟩
  a.job0.out p.1.val (ValueIdx.ix3 (n0 := 1) (n1 := 256) (n2 := 2048) ⟨0, Nat.one_pos⟩ p.2 ⟨(y 1).val, (y 1).isLt⟩)

/-- The job. -/
def Args.job : Job F := { a.job0 with G := a.res }

variable (hT : Tables a.src a.dst a.te)
include hT

theorem tok_val (n : Fin 416) (k : Fin 256) : (a.src (ixT n k)).toNat = (a.tok n.val k).val := by
  show _ = (a.src (ixT (tile n.val) k)).toNat % 49152; rw [tile_fin]; exact (Nat.mod_eq_of_lt (hT.src_lt _)).symm
theorem row_val (n : Fin 416) (k : Fin 256) : (a.dst (ixT n k)).toNat = (a.row n.val k).val := by
  show _ = (a.dst (ixT (tile n.val) k)).toNat % 106496; rw [tile_fin]; exact (Nat.mod_eq_of_lt (hT.dst_lt _)).symm
theorem exp_val (n : Nat) : (a.exp n).val = (a.word n).toNat := Nat.mod_eq_of_lt (hT.te_lt _)

theorem ixT_eta (x : S416x1x256.Idx) : x = ixT ⟨(x 0).val, (x 0).isLt⟩ ⟨(x 2).val, (x 2).isLt⟩ := by
  funext i; apply Fin.ext
  match i with
  | 0 => rfl
  | 1 => have := (x 1).isLt; change (x 1).val < 1 at this; change (x 1).val = 0; omega
  | 2 => rfl

/-- Every result row is some tile's row, -/
theorem row_surj : Function.Surjective (fun p : Fin 416 × Fin 256 => a.row p.1.val p.2) := fun r => by
  obtain ⟨x, hx⟩ := hT.onto r.val r.isLt
  refine ⟨(⟨(x 0).val, (x 0).isLt⟩, ⟨(x 2).val, (x 2).isLt⟩), Fin.ext ?_⟩
  show (a.row _ _).val = _
  rw [← hx, ← row_val a hT ⟨(x 0).val, (x 0).isLt⟩ ⟨(x 2).val, (x 2).isLt⟩, ← ixT_eta a hT x]

/-- and of one tile only. -/
theorem row_inj : Function.Injective (fun p : Fin 416 × Fin 256 => a.row p.1.val p.2) :=
  ((Fintype.bijective_iff_surjective_and_card _).2 ⟨row_surj a hT, by simp⟩).1

theorem place_row (n : Fin 416) (k : Fin 256) : a.place (a.row n.val k) = (n, k) := by
  haveI : Nonempty (Fin 416 × Fin 256) := ⟨(⟨0, by decide⟩, ⟨0, by decide⟩)⟩
  exact Function.leftInverse_invFun (row_inj a hT) (n, k)

theorem job_ok : a.job.Ok := by
  refine ⟨fun n hn k y hy => ?_, fun n h0 hn he => ?_⟩
  · have e : (⟨(y 0).val, (y 0).isLt⟩ : Fin 106496) = a.row (⟨n, hn⟩ : Fin 416).val k := Fin.ext (mem_rowY.1 hy)
    have ep := place_row a hT ⟨n, hn⟩ k
    show a.job0.out n _ = a.res y
    unfold Args.res
    rw [e, ep]
  · have e : a.exp n = a.exp (n - 1) := by
      have he' : a.word n = a.word (n - 1) := he
      unfold Args.exp; simp only [he']
    show k0_pay2 (wBlk a.wg (a.exp n)) = k0_pay2 (wBlk a.wg (a.exp (n - 1))) ∧ k0_pay3 (wBlk a.wu (a.exp n)) = k0_pay3 (wBlk a.wu (a.exp (n - 1)))
      ∧ k0_pay4 (dBlk a.wd (a.exp n)) = k0_pay4 (dBlk a.wd (a.exp (n - 1)))
    rw [e]; exact ⟨rfl, rfl, rfl⟩

end Cert.Kernel4Ideal.Ex

end
-- ==== Proof.ExEnds.lean ====
/-
  The experts' call, its two ends: what the launch hands the first tile, and what the last tile hands back.
-/
module

public import proofs.«01_k».proof.Proof.ExJob

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: the pipeline's beside the transfers' counters. -/
local notation "𝕄" => MT nD τ sig Unit (Elt F) ℕ (Pipeline.UD sig nD τ) ℕ

/-! ## The cells -/

/-- The call's own cells: the gather's and the scatter's, by slot and row. -/
abbrev osem : Fin 2 × Fin 2 × Fin 256 → SemLoc sig := fun k => SemLoc.dma (if k.1 = 0 then cellG k.2.1 k.2.2 else cellS k.2.1 k.2.2)

theorem cellG_val : ∀ (s : Fin 2) (k : Fin 256), (cellG s k).val = 12 + 256 * s.val + k.val := by decide +kernel
theorem cellS_val : ∀ (s : Fin 2) (k : Fin 256), (cellS s k).val = 524 + 256 * s.val + k.val := by decide +kernel

theorem osem_inj : Function.Injective osem := by
  rintro ⟨t, s, k⟩ ⟨t', s', k'⟩ h
  have h' : (if t = 0 then cellG s k else cellS s k).val = (if t' = 0 then cellG s' k' else cellS s' k').val := congrArg Fin.val (SemLoc.dma.inj h)
  have hk := k.isLt; have hk' := k'.isLt; have hs := s.isLt; have hs' := s'.isLt; have ht := t.isLt; have ht' := t'.isLt
  have e0 : t = 0 ↔ t.val = 0 := Fin.ext_iff
  have e1 : t' = 0 ↔ t'.val = 0 := Fin.ext_iff
  have : t.val = t'.val ∧ s.val = s'.val ∧ k.val = k'.val := by
    by_cases h0 : t = 0 <;> by_cases h1 : t' = 0 <;> simp only [h0, h1, if_true, if_false, cellG_val, cellS_val] at h' <;> (try rw [e0] at h0) <;> (try rw [e1] at h1) <;> omega
  obtain ⟨ha, hb, hc⟩ := this
  rw [Fin.ext ha, Fin.ext hb, Fin.ext hc]

theorem osem_scoped : ∀ k, (osem k).isScoped .tc = true := by decide +kernel

theorem win_cells : ∀ (w : Fin 6) (s : Fin (spec0 w).nbuf), ((spec0 w).sem s).val < 12 := by decide

theorem osem_facts : Pipeline.OwnSemFacts spec0 osem where
  isScoped := osem_scoped
  inj := osem_inj
  disj := fun k w s h => by
    have h' : (if k.1 = 0 then cellG k.2.1 k.2.2 else cellS k.2.1 k.2.2).val = ((spec0 w).sem s).val := congrArg Fin.val (SemLoc.dma.inj h)
    have hw := win_cells w s
    split at h'
    · rw [cellG_val] at h'; omega
    · rw [cellS_val] at h'; omega

/-- The call's cells, gathered by slot. -/
theorem cells_eq (c : Dev nD) :
    (Pipeline.ownSems0 (Ix := Unit) (Name := ℕ) (U := Pipeline.UD sig nD τ) (Lvl := ℕ) (Val := Elt F) (τ := τ) osem c : sProp 𝕄)
      = iprop(((bigSep Finset.univ fun k : Fin 256 => semVal ((c : Thread nD τ), SemLoc.dma (cellG 0 k)) 0)
            ∗ bigSep Finset.univ fun k : Fin 256 => semVal ((c : Thread nD τ), SemLoc.dma (cellG 1 k)) 0)
          ∗ ((bigSep Finset.univ fun k : Fin 256 => semVal ((c : Thread nD τ), SemLoc.dma (cellS 0 k)) 0)
            ∗ bigSep Finset.univ fun k : Fin 256 => semVal ((c : Thread nD τ), SemLoc.dma (cellS 1 k)) 0)) := by
  unfold Pipeline.ownSems0
  rw [bigSep_univ_prod, bigSep_univ_two, bigSep_univ_prod, bigSep_univ_two, bigSep_univ_prod, bigSep_univ_two]
  rfl

/-! ## The scratch buffers, by slot -/

theorem other_slot : (Finset.univ : Finset S2x256x2048.Idx) \ slotS 0 = slotS 1 := by
  ext x
  have hx : (x 0).val < 2 := (x 0).isLt
  rw [Finset.mem_sdiff, mem_slotS, mem_slotS]
  show (_ ∧ ¬ (x 0).val = 0) ↔ (x 0).val = 1
  constructor
  · rintro ⟨-, h⟩; omega
  · intro h; exact ⟨Finset.mem_univ _, by omega⟩

theorem g_halves (c : Dev nD) (f : S2x256x2048.Idx → Elt F .f32) :
    (gPt c Finset.univ f : sProp 𝕄) = iprop(gPt c (slotS 0) f ∗ gPt c (slotS 1) f) := by
  have h : (gPt c Finset.univ f : sProp 𝕄) = iprop(gPt c (slotS 0) f ∗ gPt c (Finset.univ \ slotS 0) f) :=
    (fun h : _ ⊣⊢ _ => BI.equiv_iff.mp ⟨h.1, h.2⟩) (pointsTo_split_subset (Ix := Unit) (Val := Elt F) (Name := ℕ) (U := Pipeline.UD sig nD τ) (Lvl := ℕ) (ℓ := gM.view.loc (c : Thread nD τ)) (q := fullShare) (f := f) (Finset.subset_univ (slotS 0)))
  exact h.trans (congrArg (fun S => iprop(gPt c (slotS 0) f ∗ gPt c S f)) other_slot)
theorem o_halves (c : Dev nD) (f : S2x256x2048.Idx → Elt F .f32) :
    (oPt c Finset.univ f : sProp 𝕄) = iprop(oPt c (slotS 0) f ∗ oPt c (slotS 1) f) := by
  have h : (oPt c Finset.univ f : sProp 𝕄) = iprop(oPt c (slotS 0) f ∗ oPt c (Finset.univ \ slotS 0) f) :=
    (fun h : _ ⊣⊢ _ => BI.equiv_iff.mp ⟨h.1, h.2⟩) (pointsTo_split_subset (Ix := Unit) (Val := Elt F) (Name := ℕ) (U := Pipeline.UD sig nD τ) (Lvl := ℕ) (ℓ := oM.view.loc (c : Thread nD τ)) (q := fullShare) (f := f) (Finset.subset_univ (slotS 0)))
  exact h.trans (congrArg (fun S => iprop(oPt c (slotS 0) f ∗ oPt c S f)) other_slot)

/-- Two slots' contents in one buffer. -/
def two (f0 f1 : S2x256x2048.Idx → Elt F .f32) : S2x256x2048.Idx → Elt F .f32 := fun x => if (x 0).val = 0 then f0 x else f1 x
theorem two_0 (f0 f1 : S2x256x2048.Idx → Elt F .f32) : ∀ x ∈ slotS 0, two f0 f1 x = f0 x := fun x hx => if_pos (mem_slotS.1 hx)
theorem two_1 (f0 f1 : S2x256x2048.Idx → Elt F .f32) : ∀ x ∈ slotS 1, two f0 f1 x = f1 x := fun x hx => if_neg (by
  have h : (x 0).val = 1 := mem_slotS.1 hx
  omega)

theorem g_whole (c : Dev nD) (f0 f1 : S2x256x2048.Idx → Elt F .f32) :
    iprop(gPt c (slotS 0) f0 ∗ gPt c (slotS 1) f1) ⊢ (gPt c Finset.univ (two f0 f1) : sProp 𝕄) := by
  have e0 : (gPt c (slotS 0) f0 : sProp 𝕄) = gPt c (slotS 0) (two f0 f1) := (pointsTo_congr (two_0 f0 f1)).symm
  have e1 : (gPt c (slotS 1) f1 : sProp 𝕄) = gPt c (slotS 1) (two f0 f1) := (pointsTo_congr (two_1 f0 f1)).symm
  rw [e0, e1, g_halves]
theorem o_whole (c : Dev nD) (f0 f1 : S2x256x2048.Idx → Elt F .f32) :
    iprop(oPt c (slotS 0) f0 ∗ oPt c (slotS 1) f1) ⊢ (oPt c Finset.univ (two f0 f1) : sProp 𝕄) := by
  have e0 : (oPt c (slotS 0) f0 : sProp 𝕄) = oPt c (slotS 0) (two f0 f1) := (pointsTo_congr (two_0 f0 f1)).symm
  have e1 : (oPt c (slotS 1) f1 : sProp 𝕄) = oPt c (slotS 1) (two f0 f1) := (pointsTo_congr (two_1 f0 f1)).symm
  rw [e0, e1, o_halves]

/-- The rows of a gather slot, each at some contents, are the slot at some contents. -/
theorem g_join (c : Dev nD) (s : Fin 2) :
    (bigSep Finset.univ fun k : Fin 256 => iprop(∃ f, gPt (F := F) c (rowS s k) f)) ⊢ (iprop(∃ f, gPt (F := F) c (slotS s) f) : sProp 𝕄) := by
  haveI : Nonempty (S2x256x2048.Idx → Elt F .f32) := ⟨fun _ => (Scalar.ofBits .f32 0x00000000#32 : F .f32)⟩
  iintro H
  ihave H' := (bigSep_exists_pi (M := 𝕄) (Y := fun _ : Fin 256 => S2x256x2048.Idx → Elt F .f32) Finset.univ fun k f => gPt c (rowS s k) f) $$ H
  icases H' with ⟨%fs, H⟩
  ihave H' := (pointsTo_biUnion_join (ℓ := gM.view.loc (c : Thread nD τ)) (q := fullShare) Finset.univ (rowS s) fs (fs 0) (rows_disjoint s)) $$ H
  icases H' with ⟨%g, %hg, H⟩
  iexists g
  have e : ∀ S : Finset S2x256x2048.Idx, slotS s = S → ((gPt c S g : sProp 𝕄) ⊢ gPt c (slotS s) g) := by rintro _ rfl; exact .rfl
  iapply (e _ (slot_rows _ s)) $$ H

/-! ## The tokens' shares -/

/-- A row's share of the tokens. -/
def tq (s : Fin 2) (k : Fin 256) : PosShare TreeShare := Transfers.shareTok fullShare (2 * 256) (finProdFinEquiv (s, k))

theorem toks_eq (c : Dev nD) (H : S49152x2048.Idx → Elt F .f32) :
    (hPt c fullShare Finset.univ H : sProp 𝕄) = iprop(hPt c (Transfers.shareDrop fullShare (2 * 256)) Finset.univ H
      ∗ ((bigSep Finset.univ fun k : Fin 256 => hPt c (tq 0 k) Finset.univ H) ∗ bigSep Finset.univ fun k : Fin 256 => hPt c (tq 1 k) Finset.univ H)) := by
  have h : (hPt c fullShare Finset.univ H : sProp 𝕄) = iprop(hPt c (Transfers.shareDrop fullShare (2 * 256)) Finset.univ H
      ∗ bigSep Finset.univ fun i : Fin (2 * 256) => hPt c (Transfers.shareTok fullShare (2 * 256) i) Finset.univ H) :=
    (fun h : _ ⊣⊢ _ => BI.equiv_iff.mp ⟨h.1, h.2⟩) (Transfers.pointsTo_toks (Ix := Unit) (Val := Elt F) (Name := ℕ) (U := Pipeline.UD sig nD τ) (Lvl := ℕ) (ℓ := hM.view.loc (c : Thread nD τ)) (S := Finset.univ) (f := H) fullShare (2 * 256))
  have e : (bigSep Finset.univ fun i : Fin (2 * 256) => (hPt c (Transfers.shareTok fullShare (2 * 256) i) Finset.univ H : sProp 𝕄))
      = iprop((bigSep Finset.univ fun k : Fin 256 => hPt c (tq 0 k) Finset.univ H) ∗ bigSep Finset.univ fun k : Fin 256 => hPt c (tq 1 k) Finset.univ H) := by
    rw [bigSep_univ_equiv (finProdFinEquiv : Fin 2 × Fin 256 ≃ Fin (2 * 256)), bigSep_univ_prod, bigSep_univ_two]
    rfl
  rw [h, e]

/-! ## The result's rows -/

theorem y_rows (c : Dev nD) (a : Args F) (hT : Tables a.src a.dst a.te) (f : S106496x2048.Idx → Elt F .f32) :
    (yPt c Finset.univ f : sProp 𝕄) = bigSep Finset.univ fun m : Fin 416 => bigSep Finset.univ fun k : Fin 256 => yPt c (rowY (a.row m.val k)) f := by
  have hu : ∀ inst : DecidableEq S106496x2048.Idx, (Finset.univ : Finset S106496x2048.Idx)
      = @Finset.biUnion _ _ inst (Finset.univ : Finset (Fin 416 × Fin 256)) (fun p => rowY (a.row p.1.val p.2)) := by
    intro inst
    ext y
    rw [Finset.mem_biUnion]
    refine ⟨fun _ => ?_, fun _ => Finset.mem_univ _⟩
    obtain ⟨p, hp⟩ := row_surj a hT ⟨(y 0).val, (y 0).isLt⟩
    exact ⟨p, Finset.mem_univ _, mem_rowY.2 (congrArg Fin.val hp).symm⟩
  have hd : ∀ p ∈ (Finset.univ : Finset (Fin 416 × Fin 256)), ∀ p' ∈ (Finset.univ : Finset (Fin 416 × Fin 256)), p ≠ p' →
      Disjoint (rowY (a.row p.1.val p.2)) (rowY (a.row p'.1.val p'.2)) := by
    intro p _ p' _ hne
    rw [Finset.disjoint_left]
    intro y h h'
    exact hne (row_inj a hT (Fin.ext ((mem_rowY.1 h).symm.trans (mem_rowY.1 h'))))
  have h1 : (yPt c Finset.univ f : sProp 𝕄) = bigSep (Finset.univ : Finset (Fin 416 × Fin 256)) fun p => yPt c (rowY (a.row p.1.val p.2)) f :=
    (congrArg (fun S => (yM.view.loc (c : Thread nD τ) ↦[S]{fullShare} f : sProp 𝕄)) (hu _)).trans
      (pointsTo_biUnion (ℓ := yM.view.loc (c : Thread nD τ)) (q := fullShare) (f := f) Finset.univ (fun p : Fin 416 × Fin 256 => rowY (a.row p.1.val p.2)) hd)
  rw [h1, bigSep_univ_prod]

theorem ys_start (c : Dev nD) (a : Args F) (hT : Tables a.src a.dst a.te) : (yPt c Finset.univ a.v : sProp 𝕄) ⊢ Ys c a.job (yst 0) := by
  rw [y_rows c a hT]
  have e : Ys c a.job (yst 0) = bigSep Finset.univ fun m : Fin 416 => bigSep Finset.univ fun k : Fin 256 => yPt c (rowY (a.row m.val k)) a.v := by
    unfold Ys
    refine congrArg (bigSep Finset.univ) (funext fun m : Fin 416 => ?_)
    have : yst 0 m.val = 0 := if_pos (Nat.zero_le _)
    unfold YP
    rw [this]; rfl
  rw [e]
theorem ys_end (c : Dev nD) (a : Args F) (hT : Tables a.src a.dst a.te) : Ys c a.job (yst 416) ⊢ (yPt c Finset.univ a.res : sProp 𝕄) := by
  rw [y_rows c a hT]
  have e : Ys c a.job (yst 416) = bigSep Finset.univ fun m : Fin 416 => bigSep Finset.univ fun k : Fin 256 => yPt c (rowY (a.row m.val k)) a.res := by
    unfold Ys
    congr 1; funext m
    have : yst 416 m.val = 2 := by
      have := m.isLt
      unfold yst; rw [if_neg (by omega), if_neg (by omega)]
    unfold YP
    rw [this, if_neg (by decide), if_neg (by decide)]; rfl
  rw [e]

/-! ## Into the first tile and out of the last -/

theorem gidle_eq (c : Dev nD) (H : S49152x2048.Idx → Elt F .f32) (s : Fin 2) :
    GIdle c H tq s = iprop((bigSep Finset.univ fun k : Fin 256 => iprop(∃ f, gPt (F := F) c (rowS s k) f))
      ∗ (bigSep Finset.univ fun k : Fin 256 => hPt c (tq s k) Finset.univ H)
      ∗ bigSep Finset.univ fun k : Fin 256 => semVal ((c : Thread nD τ), SemLoc.dma (cellG s k)) 0) := by
  have e : GIdle c H tq s = iprop((bigSep Finset.univ fun k : Fin 256 => iprop(∃ f, gPt (F := F) c (rowS s k) f))
      ∗ bigSep Finset.univ fun k : Fin 256 => iprop(hPt c (tq s k) Finset.univ H ∗ semVal ((c : Thread nD τ), SemLoc.dma (cellG s k)) 0)) := bigSep_sep' _ _ _
  have e2 : (bigSep Finset.univ fun k : Fin 256 => iprop(hPt c (tq s k) Finset.univ H ∗ semVal ((c : Thread nD τ), SemLoc.dma (cellG s k)) 0) : sProp 𝕄)
      = iprop((bigSep Finset.univ fun k : Fin 256 => hPt c (tq s k) Finset.univ H)
      ∗ bigSep Finset.univ fun k : Fin 256 => semVal ((c : Thread nD τ), SemLoc.dma (cellG s k)) 0) := bigSep_sep' _ _ _
  rw [e, e2]
theorem sidle_eq (c : Dev nD) (s : Fin 2) :
    SIdle (F := F) c s = iprop((bigSep Finset.univ fun k : Fin 256 => iprop(∃ f, oPt (F := F) c (rowS s k) f))
      ∗ bigSep Finset.univ fun k : Fin 256 => semVal ((c : Thread nD τ), SemLoc.dma (cellS s k)) 0) := bigSep_sep' _ _ _
theorem g_some (c : Dev nD) (s : Fin 2) (f : S2x256x2048.Idx → Elt F .f32) :
    (gPt c (slotS s) f : sProp 𝕄) ⊢ bigSep Finset.univ fun k : Fin 256 => iprop(∃ f, gPt (F := F) c (rowS s k) f) := by
  have hk : ∀ k : Fin 256, (gPt c (rowS s k) f : sProp 𝕄) ⊢ iprop(∃ f, gPt c (rowS s k) f) := fun k => by
    iintro H
    iexists f
    iexact H
  rw [g_rows]
  exact bigSep_mono fun k _ => hk k
theorem o_some (c : Dev nD) (s : Fin 2) (f : S2x256x2048.Idx → Elt F .f32) :
    (oPt c (slotS s) f : sProp 𝕄) ⊢ bigSep Finset.univ fun k : Fin 256 => iprop(∃ f, oPt (F := F) c (rowS s k) f) := by
  have hk : ∀ k : Fin 256, (oPt c (rowS s k) f : sProp 𝕄) ⊢ iprop(∃ f, oPt c (rowS s k) f) := fun k => by
    iintro H
    iexists f
    iexact H
  rw [o_rows]
  exact bigSep_mono fun k _ => hk k

/-- What the launch gives the body, besides the windows: the two slot buffers, the rounded weights, the cells, the tokens and the result. -/
def Held (c : Dev nD) (a : Args F) (y : S106496x2048.Idx → Elt F .f32) : sProp 𝕄 :=
  iprop(((∃ f, gPt (F := F) c Finset.univ f) ∗ (∃ f, oPt (F := F) c Finset.univ f)
      ∗ (∃ f : S2048x512.Idx → Elt F .bf16, owns (c : Thread nD τ) aM fullShare f) ∗ (∃ f : S2048x512.Idx → Elt F .bf16, owns (c : Thread nD τ) bM fullShare f)
      ∗ (∃ f : S512x2048.Idx → Elt F .bf16, owns (c : Thread nD τ) dM fullShare f))
    ∗ (((bigSep Finset.univ fun k : Fin 256 => semVal ((c : Thread nD τ), SemLoc.dma (cellG 0 k)) 0)
            ∗ bigSep Finset.univ fun k : Fin 256 => semVal ((c : Thread nD τ), SemLoc.dma (cellG 1 k)) 0)
          ∗ ((bigSep Finset.univ fun k : Fin 256 => semVal ((c : Thread nD τ), SemLoc.dma (cellS 0 k)) 0)
            ∗ bigSep Finset.univ fun k : Fin 256 => semVal ((c : Thread nD τ), SemLoc.dma (cellS 1 k)) 0))
    ∗ hPt c fullShare Finset.univ a.h ∗ yPt c Finset.univ y)

theorem core_first (c : Dev nD) (a : Args F) :
    Core c a.job tq 0 = iprop(GIdle c a.h tq 0 ∗ GIdle c a.h tq 1 ∗ SIdle (F := F) c 0 ∗ SIdle (F := F) c 1 ∗ Ys c a.job (yst 0) ∗ Wts c a.job 0) := by
  unfold Core GNow SNow SOther
  rw [if_neg (by omega), if_neg (by omega), if_neg (by omega)]; rfl
theorem core_last (c : Dev nD) (a : Args F) :
    Core c a.job tq 416 = iprop(GIdle c a.h tq 0 ∗ GIdle c a.h tq 1 ∗ SIdle (F := F) c 0 ∗ SIdle (F := F) c 1 ∗ Ys c a.job (yst 416) ∗ Wts c a.job 416) := by
  unfold Core GNow SNow SOther
  rw [if_neg (by omega), if_neg (by omega), if_neg (by omega)]; rfl

theorem of_eq' {A B : sProp 𝕄} (h : A = B) : A ⊢ B := by rw [h]

theorem enter (c : Dev nD) (a : Args F) (hT : Tables a.src a.dst a.te) :
    Held c a a.v ⊢ iprop(Core c a.job tq 0 ∗ hPt c (Transfers.shareDrop fullShare (2 * 256)) Finset.univ a.h) := by
  rw [core_first, gidle_eq, gidle_eq, sidle_eq, sidle_eq]
  unfold Held Wts
  iintro ⟨⟨⟨%g, Hg⟩, ⟨%o, Ho⟩, ⟨%fa, Ha⟩, ⟨%fb, Hb⟩, ⟨%fd, Hd⟩⟩, ⟨⟨G0, G1⟩, ⟨S0, S1⟩⟩, Hh, Hy⟩
  ihave Hg := (of_eq' (g_halves c g)) $$ Hg
  icases Hg with ⟨Hg0, Hg1⟩
  ihave Hg0 := (g_some c 0 g) $$ Hg0
  ihave Hg1 := (g_some c 1 g) $$ Hg1
  ihave Ho := (of_eq' (o_halves c o)) $$ Ho
  icases Ho with ⟨Ho0, Ho1⟩
  ihave Ho0 := (o_some c 0 o) $$ Ho0
  ihave Ho1 := (o_some c 1 o) $$ Ho1
  ihave Hh := (of_eq' (toks_eq c a.h)) $$ Hh
  icases Hh with ⟨Hr, Ht0, Ht1⟩
  ihave Hy := (ys_start c a hT) $$ Hy
  isplitr [Hr]
  · isplitl [Hg0 Ht0 G0]
    · isplitl [Hg0]
      · iexact Hg0
      · isplitl [Ht0]
        · iexact Ht0
        · iexact G0
    · isplitl [Hg1 Ht1 G1]
      · isplitl [Hg1]
        · iexact Hg1
        · isplitl [Ht1]
          · iexact Ht1
          · iexact G1
      · isplitl [Ho0 S0]
        · isplitl [Ho0]
          · iexact Ho0
          · iexact S0
        · isplitl [Ho1 S1]
          · isplitl [Ho1]
            · iexact Ho1
            · iexact S1
          · isplitl [Hy]
            · iexact Hy
            · iexists fa, fb, fd
              isplitr
              · ipureintro; exact fun h => absurd h (by omega)
              · isplitl [Ha]
                · iexact Ha
                · isplitl [Hb]
                  · iexact Hb
                  · iexact Hd
  · iexact Hr

theorem leave (c : Dev nD) (a : Args F) (hT : Tables a.src a.dst a.te) :
    iprop(Core c a.job tq 416 ∗ hPt c (Transfers.shareDrop fullShare (2 * 256)) Finset.univ a.h) ⊢ Held c a a.res := by
  rw [core_last, gidle_eq, gidle_eq, sidle_eq, sidle_eq]
  unfold Held Wts
  iintro ⟨⟨⟨Hg0, Ht0, G0⟩, ⟨Hg1, Ht1, G1⟩, ⟨Ho0, S0⟩, ⟨Ho1, S1⟩, Hy, ⟨%fa, %fb, %fd, -, Ha, Hb, Hd⟩⟩, Hr⟩
  ihave Hg0 := (g_join c 0) $$ Hg0
  ihave Hg1 := (g_join c 1) $$ Hg1
  ihave Ho0 := (o_join c 0) $$ Ho0
  ihave Ho1 := (o_join c 1) $$ Ho1
  icases Hg0 with ⟨%g0, Hg0⟩
  icases Hg1 with ⟨%g1, Hg1⟩
  icases Ho0 with ⟨%o0, Ho0⟩
  icases Ho1 with ⟨%o1, Ho1⟩
  isplitl [Hg0 Hg1 Ho0 Ho1 Ha Hb Hd]
  · isplitl [Hg0 Hg1]
    · iexists (two g0 g1)
      iapply (g_whole c g0 g1)
      isplitl [Hg0]
      · iexact Hg0
      · iexact Hg1
    · isplitl [Ho0 Ho1]
      · iexists (two o0 o1)
        iapply (o_whole c o0 o1)
        isplitl [Ho0]
        · iexact Ho0
        · iexact Ho1
      · isplitl [Ha]
        · iexists fa
          iexact Ha
        · isplitl [Hb]
          · iexists fb
            iexact Hb
          · iexists fd
            iexact Hd
  · isplitl [G0 G1 S0 S1]
    · isplitl [G0 G1]
      · isplitl [G0]
        · iexact G0
        · iexact G1
      · isplitl [S0]
        · iexact S0
        · iexact S1
    · isplitr [Hy]
      · have e : iprop(hPt c (Transfers.shareDrop fullShare (2 * 256)) Finset.univ a.h
          ∗ ((bigSep Finset.univ fun k : Fin 256 => hPt c (tq 0 k) Finset.univ a.h) ∗ bigSep Finset.univ fun k : Fin 256 => hPt c (tq 1 k) Finset.univ a.h))
          ⊢ (hPt c fullShare Finset.univ a.h : sProp 𝕄) := by rw [toks_eq c a.h]
        iapply e
        isplitl [Hr]
        · iexact Hr
        · isplitl [Ht0]
          · iexact Ht0
          · iexact Ht1
      · iapply (ys_end c a hT) $$ Hy

end Cert.Kernel4Ideal.Ex

end
-- ==== Proof.ExWin.lean ====
/- The blocks of the experts' windows: what a tile finds in its tables' and its weights' staging buffers. -/
module

public import proofs.«01_k».proof.Proof.ExEnds
public import Idealize.ShloMosaic.Lib.Pipeline.FrameBody
public import Idealize.ShloMosaic.Lib.Pipeline.FrameValue

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: the pipeline's beside the transfers' counters. -/
local notation "𝕄" => MT nD τ sig Unit (Elt F) ℕ (Pipeline.UD sig nD τ) ℕ

variable (m : (ℓ : Loc nD τ sig) → Buf (Elt F) ℓ)

/-- The arrays as the launch finds them. -/
abbrev V (c : Dev nD) (b : Ref sig .tc) : Buf (Elt F) ((c.tc : Thread nD τ).loc b) := m ((c.tc : Thread nD τ).loc b)

/-- The arrays of a core, named. -/
def args (c : Dev nD) : Args F where
  h := V m c main_arg0
  src := V m c main_arg1
  dst := V m c main_arg2
  te := V m c main_arg3
  wg := V m c main_arg4
  wu := V m c main_arg5
  wd := V m c main_arg6
  v := V m c main_v0

/-- The table of the tiles' experts, as the launch finds it. -/
def tabs : pre0.Contents (Elt F) := fun | 0 => V m (0 : Dev nD) main_arg3 | ⟨_ + 1, h⟩ => absurd h (Nat.not_lt.2 (Nat.le_add_left _ _))

theorem dev_eq (c : Dev nD) : c = 0 := Subsingleton.elim (α := Fin 1) c 0

/-! ## The index maps -/

theorem tr0 : ∀ t : Fin grid0.N, cc0_transform_0 (grid0.coords t) = ![t.val, 0, 0] := by decide +kernel
theorem tr1 : ∀ t : Fin grid0.N, cc0_transform_1 (grid0.coords t) = ![min (t.val + 1) 415, 0, 0] := by decide +kernel
theorem tr2 : ∀ t : Fin grid0.N, cc0_transform_2 (grid0.coords t) = ![t.val, 0, 0] := by decide +kernel
theorem tl_coords : ∀ t : Fin grid0.N, tl (grid0.coords t) = t.val := by decide +kernel

theorem emb_one (n : Nat) (hn : n < 416) (h : ∀ a, (![n] : Fin 1 → Nat) a + S1.size a ≤ S416.size a) (x : S1.Idx) :
    (Rect.unit (s := S416) ![n] S1.size h).emb x = ValueIdx.ix1 (n := 416) ⟨n, hn⟩ := by
  funext a; apply Fin.ext
  rw [ValueKit.rect_emb_unit_val]
  match a with
  | 0 => exact (congrArg (n + ·) (Nat.lt_one_iff.1 (x 0).isLt)).trans (Nat.add_zero _)

theorem word_at (pf : pre0.Contents (Elt F)) (i : grid0.Coords) (off : Fin 1 → Nat) (hoff : off = ![tl i]) (h : ∀ a, off a + S1.size a ≤ S416.size a) (h1 : S1.numel = 1) :
    pf.at 0 (Rect.unit (s := S416) off S1.size h) h1 = (pf 0 : S416.Idx → BitVec 32) (ValueIdx.ix1 (n := 416) ⟨tl i, tl_lt i⟩) := by
  subst hoff
  exact congrArg (pf 0 : S416.Idx → BitVec 32) (emb_one (tl i) (tl_lt i) h _)

theorem idx_word : ∀ i : grid0.Coords, (Scalar.indexCast (BitVec.ofNat 32 (i 0).val) : Index).toNat = tl i := by
  intro i
  have := tl_lt i
  show (BitVec.ofNat 32 (tl i)).toNat = tl i
  rw [BitVec.toNat_ofNat]; exact Nat.mod_eq_of_lt (by omega)

theorem tr4 (h : ∀ i : grid0.Coords, ∀ a, (k0_off1 i) a + S1.size a ≤ S416.size a) (h1 : S1.numel = 1) (pf : pre0.Contents (Elt F)) (i : grid0.Coords) :
    cc0_transform_4 h h1 pf i = ![((pf 0 : S416.Idx → BitVec 32) (ValueIdx.ix1 (n := 416) ⟨tl i, tl_lt i⟩)).toNat, 0, 0] :=
  congrArg (fun w : BitVec 32 => ![w.toNat, 0, 0]) (word_at pf i _ (congrArg (fun n => ![n]) (idx_word i)) _ _)
theorem tr5 (h : ∀ i : grid0.Coords, ∀ a, (k0_off1 i) a + S1.size a ≤ S416.size a) (h1 : S1.numel = 1) (pf : pre0.Contents (Elt F)) (i : grid0.Coords) :
    cc0_transform_5 h h1 pf i = ![((pf 0 : S416.Idx → BitVec 32) (ValueIdx.ix1 (n := 416) ⟨tl i, tl_lt i⟩)).toNat, 0, 0] :=
  congrArg (fun w : BitVec 32 => ![w.toNat, 0, 0]) (word_at pf i _ (congrArg (fun n => ![n]) (idx_word i)) _ _)
theorem tr6 (h : ∀ i : grid0.Coords, ∀ a, (k0_off1 i) a + S1.size a ≤ S416.size a) (h1 : S1.numel = 1) (pf : pre0.Contents (Elt F)) (i : grid0.Coords) :
    cc0_transform_6 h h1 pf i = ![((pf 0 : S416.Idx → BitVec 32) (ValueIdx.ix1 (n := 416) ⟨tl i, tl_lt i⟩)).toNat, 0, 0] :=
  congrArg (fun w : BitVec 32 => ![w.toNat, 0, 0]) (word_at pf i _ (congrArg (fun n => ![n]) (idx_word i)) _ _)

/-! ## The tables are admissible -/

theorem in_wide (w : BitVec 32) (hw : w.toNat < 32) : ∀ a, (![w.toNat, 0, 0] a + 1) * S1x2048x512.size a ≤ S32x2048x512.size a := by
  intro a
  match a with
  | 0 => show (w.toNat + 1) * 1 ≤ 32; omega
  | 1 => show (0 + 1) * 2048 ≤ 2048; omega
  | 2 => show (0 + 1) * 512 ≤ 512; omega
theorem in_down (w : BitVec 32) (hw : w.toNat < 32) : ∀ a, (![w.toNat, 0, 0] a + 1) * S1x512x2048.size a ≤ S32x512x2048.size a := by
  intro a
  match a with
  | 0 => show (w.toNat + 1) * 1 ≤ 32; omega
  | 1 => show (0 + 1) * 512 ≤ 512; omega
  | 2 => show (0 + 1) * 2048 ≤ 2048; omega

theorem ok_of (pf : pre0.Contents (Elt F)) (h : ∀ x, ((pf 0 : S416.Idx → BitVec 32) x).toNat < 32) : ok0 pf :=
  ⟨fun i => ⟨by rw [tr4]; exact in_wide _ (h _), Or.inl rfl⟩, fun i => ⟨by rw [tr5]; exact in_wide _ (h _), Or.inl rfl⟩,
   fun i => ⟨by rw [tr6]; exact in_down _ (h _), Or.inl rfl⟩⟩

/-- The tables hold what the kernel needs, of every core. -/
abbrev Good : Prop := ∀ c : Dev nD, Tables (args m c).src (args m c).dst (args m c).te

/-- The tables' contents as the launch is pinned at them. -/
def adm (hT : Good m) : (p : Fin 1) → (pcfgs (F := F) p).Adm := fun _ => ⟨tabs m, ok_of _ fun x => (hT 0).te_lt x⟩

/-! ## The blocks -/

variable (hT : Good m)

abbrev cfgA : Cfg sig Λ₀ := cfg0 (F := F) (adm m hT 0)

/-- Window `w`'s block at point `t`. -/
def blkA (c : Dev nD) (w : Fin 6) (t : Fin (cfgA m hT).N) : ((cfgA m hT).win w).block.Idx → Elt F ((cfgA m hT).win w).elt :=
  (((cfgA m hT).win w).blk t).view.read (Elt F) (V m c (Pipeline.arrRef spec0 w))

end Cert.Kernel4Ideal.Ex

end
-- ==== Proof.ExRun.lean ====
/- The run of the experts: the proof data of its pipeline, the body's obligation, the launch. -/
module

public import proofs.«01_k».proof.Proof.ExWin

@[expose] public section

set_option maxRecDepth 16384

noncomputable section

namespace Cert.Kernel4Ideal.Ex

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: the pipeline's beside the transfers' counters. -/
local notation "𝕄" => MT nD τ sig Unit (Elt F) ℕ (Pipeline.UD sig nD τ) ℕ

variable (m : (ℓ : Loc nD τ sig) → Buf (Elt F) ℓ) (hT : Good m)

/-! ## The blocks -/

theorem ix_0 (t : Fin (cfgA m hT).N) : ((cfgA m hT).win 0).index t = ![t.val, 0, 0] := tr0 t
theorem ix_1 (t : Fin (cfgA m hT).N) : ((cfgA m hT).win 1).index t = ![min (t.val + 1) 415, 0, 0] := tr1 t
theorem ix_2 (t : Fin (cfgA m hT).N) : ((cfgA m hT).win 2).index t = ![t.val, 0, 0] := tr2 t
include hT in
theorem exp_at (t : Fin grid0.N) : ((tabs m 0 : S416.Idx → BitVec 32) (ValueIdx.ix1 (n := 416) ⟨tl (grid0.coords t), tl_lt _⟩)).toNat = ((args m 0).exp t.val).val := by
  rw [exp_val (args m 0) (hT 0)]
  show (V m 0 main_arg3 _).toNat = (V m 0 main_arg3 _).toNat
  have ht : t.val < 416 := t.isLt
  have e : (⟨tl (grid0.coords t), tl_lt _⟩ : Fin 416) = tile t.val := Fin.ext ((tl_coords t).trans (tile_val ht).symm)
  rw [e]
theorem ix_3 (t : Fin (cfgA m hT).N) : ((cfgA m hT).win 3).index t = ![((args m 0).exp t.val).val, 0, 0] :=
  (tr4 _ _ (tabs m) (grid0.coords t)).trans (congrArg (fun n : Nat => ![n, 0, 0]) (exp_at m hT t))
theorem ix_4 (t : Fin (cfgA m hT).N) : ((cfgA m hT).win 4).index t = ![((args m 0).exp t.val).val, 0, 0] :=
  (tr5 _ _ (tabs m) (grid0.coords t)).trans (congrArg (fun n : Nat => ![n, 0, 0]) (exp_at m hT t))
theorem ix_5 (t : Fin (cfgA m hT).N) : ((cfgA m hT).win 5).index t = ![((args m 0).exp t.val).val, 0, 0] :=
  (tr6 _ _ (tabs m) (grid0.coords t)).trans (congrArg (fun n : Nat => ![n, 0, 0]) (exp_at m hT t))

theorem tab_block (f : S416x1x256.Idx → BitVec 32) (I : Fin 3 → Nat) (n : Fin 416) (hI : I = ![n.val, 0, 0])
    (inb : ∀ a, I a * S1x1x256.size a + S1x1x256.size a ≤ S416x1x256.size a) (k : Fin 256) :
    f ((Rect.unit (s := S416x1x256) (fun a => I a * S1x1x256.size a) S1x1x256.size inb).emb (ixW k)) = f (ixT n k) := by
  subst hI
  refine congrArg f ?_
  funext a; apply Fin.ext
  rw [ValueKit.rect_emb_unit_val]
  match a with
  | 0 => show n.val * 1 + 0 = n.val; omega
  | 1 => rfl
  | 2 => show 0 * 256 + k.val = k.val; omega
theorem wide_block (w : S32x2048x512.Idx → Elt F .f32) (I : Fin 3 → Nat) (e : Fin 32) (hI : I = ![e.val, 0, 0])
    (inb : ∀ a, I a * S1x2048x512.size a + S1x2048x512.size a ≤ S32x2048x512.size a) (y : S1x2048x512.Idx) :
    w ((Rect.unit (s := S32x2048x512) (fun a => I a * S1x2048x512.size a) S1x2048x512.size inb).emb y) = wBlk w e y := by
  subst hI
  refine congrArg w ?_
  funext a; apply Fin.ext
  rw [ValueKit.rect_emb_unit_val]
  have h0 : (y 0).val = 0 := Nat.lt_one_iff.1 (y 0).isLt
  match a with
  | 0 => show e.val * 1 + (y 0).val = e.val; omega
  | 1 => show 0 * 2048 + (y 1).val = (y 1).val; omega
  | 2 => show 0 * 512 + (y 2).val = (y 2).val; omega
theorem down_block (w : S32x512x2048.Idx → Elt F .f32) (I : Fin 3 → Nat) (e : Fin 32) (hI : I = ![e.val, 0, 0])
    (inb : ∀ a, I a * S1x512x2048.size a + S1x512x2048.size a ≤ S32x512x2048.size a) (y : S1x512x2048.Idx) :
    w ((Rect.unit (s := S32x512x2048) (fun a => I a * S1x512x2048.size a) S1x512x2048.size inb).emb y) = dBlk w e y := by
  subst hI
  refine congrArg w ?_
  funext a; apply Fin.ext
  rw [ValueKit.rect_emb_unit_val]
  have h0 : (y 0).val = 0 := Nat.lt_one_iff.1 (y 0).isLt
  match a with
  | 0 => show e.val * 1 + (y 0).val = e.val; omega
  | 1 => show 0 * 512 + (y 1).val = (y 1).val; omega
  | 2 => show 0 * 2048 + (y 2).val = (y 2).val; omega

theorem blk_0 (c : Dev nD) (t : Fin (cfgA m hT).N) (k : Fin 256) :
    (blkA m hT c 0 t : S1x1x256.Idx → BitVec 32) (ixW k) = (args m c).src (ixT (tile t.val) k) :=
  have ht : t.val < 416 := t.isLt
  tab_block (V m c main_arg1) (((cfgA m hT).win 0).index t) (tile t.val) ((ix_0 m hT t).trans (by rw [tile_val ht])) _ k
theorem blk_1 (c : Dev nD) (t : Fin (cfgA m hT).N) (h1 : t.val + 1 < 416) (k : Fin 256) :
    (blkA m hT c 1 t : S1x1x256.Idx → BitVec 32) (ixW k) = (args m c).src (ixT (tile (t.val + 1)) k) :=
  tab_block (V m c main_arg1) (((cfgA m hT).win 1).index t) (tile (t.val + 1)) ((ix_1 m hT t).trans (by rw [tile_val h1, Nat.min_eq_left (by omega)])) _ k
theorem blk_2 (c : Dev nD) (t : Fin (cfgA m hT).N) (k : Fin 256) :
    (blkA m hT c 2 t : S1x1x256.Idx → BitVec 32) (ixW k) = (args m c).dst (ixT (tile t.val) k) :=
  have ht : t.val < 416 := t.isLt
  tab_block (V m c main_arg2) (((cfgA m hT).win 2).index t) (tile t.val) ((ix_2 m hT t).trans (by rw [tile_val ht])) _ k
theorem exp_dev (c : Dev nD) (n : Nat) : (args m 0).exp n = (args m c).exp n := by rw [dev_eq c]
theorem blk_3 (c : Dev nD) (t : Fin (cfgA m hT).N) : (blkA m hT c 3 t : S1x2048x512.Idx → Elt F .f32) = wBlk (args m c).wg ((args m c).exp t.val) :=
  funext fun y => wide_block (V m c main_arg4) (((cfgA m hT).win 3).index t) ((args m c).exp t.val) ((ix_3 m hT t).trans (by rw [exp_dev m c])) _ y
theorem blk_4 (c : Dev nD) (t : Fin (cfgA m hT).N) : (blkA m hT c 4 t : S1x2048x512.Idx → Elt F .f32) = wBlk (args m c).wu ((args m c).exp t.val) :=
  funext fun y => wide_block (V m c main_arg5) (((cfgA m hT).win 4).index t) ((args m c).exp t.val) ((ix_4 m hT t).trans (by rw [exp_dev m c])) _ y
theorem blk_5 (c : Dev nD) (t : Fin (cfgA m hT).N) : (blkA m hT c 5 t : S1x512x2048.Idx → Elt F .f32) = dBlk (args m c).wd ((args m c).exp t.val) :=
  funext fun y => down_block (V m c main_arg6) (((cfgA m hT).win 5).index t) ((args m c).exp t.val) ((ix_5 m hT t).trans (by rw [exp_dev m c])) _ y

theorem wins (c : Dev nD) (t : Fin (cfgA m hT).N) :
    Wins (args m c).job (tl (grid0.coords t)) (blkA m hT c 0 t) (blkA m hT c 1 t) (blkA m hT c 2 t) (blkA m hT c 3 t) (blkA m hT c 4 t) (blkA m hT c 5 t) := by
  have ht : t.val < 416 := t.isLt
  have et : tl (grid0.coords t) = t.val := tl_coords t
  rw [et]
  refine ⟨fun k => ?_, fun h1 k => ?_, fun k => ?_, ?_, ?_, ?_⟩
  · rw [blk_0, tok_val (args m c) (hT c) (tile t.val) k, tile_val ht]; rfl
  · rw [blk_1 m hT c t h1, tok_val (args m c) (hT c) (tile (t.val + 1)) k, tile_val h1]; rfl
  · rw [blk_2, row_val (args m c) (hT c) (tile t.val) k, tile_val ht]; rfl
  · exact congrArg k0_pay2 (blk_3 m hT c t)
  · exact congrArg k0_pay3 (blk_4 m hT c t)
  · exact congrArg k0_pay4 (blk_5 m hT c t)

/-! ## The proof data -/

/-- Between tiles the core holds the tiles' state, what is left of the tokens' share, the generator and half the table. -/
def Phi (c : Dev nD) (a : Args F) (n : Nat) : sProp 𝕄 :=
  iprop(Core c a.job tq n ∗ hPt c (Transfers.shareDrop fullShare (2 * 256)) Finset.univ a.h ∗ (∃ r, prngReg c r)
    ∗ owns (c : Thread nD τ) (Memref.whole main_arg3) fullShare.right a.job.tab)

def dats (p : Fin 1) (c : Dev nD) : Dat τ (Elt F) Unit ℕ (Pipeline.UD sig nD τ) ℕ (Pipeline.pin (pcfgs (F := F)) (adm m hT) p) c where
  A w := V m c (Pipeline.arrRef spec0 w)
  after w t := blkA m hT c w t
  Φ n := Phi c (args m c) n.val
  q w := Pipeline.shareOf spec0 w
  owed _ := 0

theorem A_eq (c : Dev nD) (w : Fin (cfgA m hT).W) : (dats m hT 0 c).A w = V m c (Pipeline.arrRef spec0 w) := by dsimp only [dats]
theorem after_eq (c : Dev nD) (w : Fin (cfgA m hT).W) (t : Fin (cfgA m hT).N) : (dats m hT 0 c).after w t = blkA m hT c w t := by dsimp only [dats]

theorem all_in : ∀ w : Fin (cfgA m hT).W, ((cfgA m hT).win w).isOut = false
  | 0 => rfl | 1 => rfl | 2 => rfl | 3 => rfl | 4 => rfl | 5 => rfl | ⟨_ + 6, h⟩ => absurd h (Nat.not_lt.2 (Nat.le_add_left _ _))

theorem before_0 (c : Dev nD) (t : Fin (cfgA m hT).N) (d) : (dats m hT 0 c).before (0 : Fin 6) t d = blkA m hT c 0 t :=
  ((dats m hT 0 c).before_in_eq_fetched (0 : Fin 6) rfl (fun _ => rfl) (fun _ _ _ => rfl)
    (fun t => by rw [after_eq]; unfold Dat.blockOf blkA; rw [A_eq]; try rfl) t d).trans
    (by unfold Dat.fetched Dat.blockOf blkA; rw [A_eq]; try rfl)
theorem before_1 (c : Dev nD) (t : Fin (cfgA m hT).N) (d) : (dats m hT 0 c).before (1 : Fin 6) t d = blkA m hT c 1 t :=
  ((dats m hT 0 c).before_in_eq_fetched (1 : Fin 6) rfl (fun _ => rfl) (fun _ _ _ => rfl)
    (fun t => by rw [after_eq]; unfold Dat.blockOf blkA; rw [A_eq]; try rfl) t d).trans
    (by unfold Dat.fetched Dat.blockOf blkA; rw [A_eq]; try rfl)
theorem before_2 (c : Dev nD) (t : Fin (cfgA m hT).N) (d) : (dats m hT 0 c).before (2 : Fin 6) t d = blkA m hT c 2 t :=
  ((dats m hT 0 c).before_in_eq_fetched (2 : Fin 6) rfl (fun _ => rfl) (fun _ _ _ => rfl)
    (fun t => by rw [after_eq]; unfold Dat.blockOf blkA; rw [A_eq]; try rfl) t d).trans
    (by unfold Dat.fetched Dat.blockOf blkA; rw [A_eq]; try rfl)
theorem before_3 (c : Dev nD) (t : Fin (cfgA m hT).N) (d) : (dats m hT 0 c).before (3 : Fin 6) t d = blkA m hT c 3 t :=
  ((dats m hT 0 c).before_in_eq_fetched (3 : Fin 6) rfl (fun _ => rfl) (fun _ _ _ => rfl)
    (fun t => by rw [after_eq]; unfold Dat.blockOf blkA; rw [A_eq]; try rfl) t d).trans
    (by unfold Dat.fetched Dat.blockOf blkA; rw [A_eq]; try rfl)
theorem before_4 (c : Dev nD) (t : Fin (cfgA m hT).N) (d) : (dats m hT 0 c).before (4 : Fin 6) t d = blkA m hT c 4 t :=
  ((dats m hT 0 c).before_in_eq_fetched (4 : Fin 6) rfl (fun _ => rfl) (fun _ _ _ => rfl)
    (fun t => by rw [after_eq]; unfold Dat.blockOf blkA; rw [A_eq]; try rfl) t d).trans
    (by unfold Dat.fetched Dat.blockOf blkA; rw [A_eq]; try rfl)
theorem before_5 (c : Dev nD) (t : Fin (cfgA m hT).N) (d) : (dats m hT 0 c).before (5 : Fin 6) t d = blkA m hT c 5 t :=
  ((dats m hT 0 c).before_in_eq_fetched (5 : Fin 6) rfl (fun _ => rfl) (fun _ _ _ => rfl)
    (fun t => by rw [after_eq]; unfold Dat.blockOf blkA; rw [A_eq]; try rfl) t d).trans
    (by unfold Dat.fetched Dat.blockOf blkA; rw [A_eq]; try rfl)

/-! ## The body -/

/-- Window `w`'s buffer at point `t`. -/
abbrev stg (w : Fin 6) (t : Fin (cfgA m hT).N) : Memref sig .tc (.core ((cfgA m hT).win w).stageSpace) ((cfgA m hT).win w).block ((cfgA m hT).win w).elt :=
  ((cfgA m hT).win w).stage ((cfgA m hT).slots t w)

def bodyAt (t : Fin (cfgA m hT).N) : Prog (TpuEff nD τ sig (Elt F) Λ₀ .tc) PUnit :=
  cc0_experts (grid0.coords t) (Memref.whole main_arg3) (Memref.isWhole_whole _)
    (spec0_0.stage ((cfgA m hT).slots t 0)) (hstage0_0 (((cfgA m hT).slots t 0).cast nbuf0_0))
    (spec0_1.stage ((cfgA m hT).slots t 1)) (hstage0_1 (((cfgA m hT).slots t 1).cast nbuf0_1))
    (spec0_2.stage ((cfgA m hT).slots t 2)) (hstage0_2 (((cfgA m hT).slots t 2).cast nbuf0_2))
    (Memref.whole main_arg0) (Memref.isWhole_whole _)
    (spec0_3.stage ((cfgA m hT).slots t 3)) (hstage0_3 (((cfgA m hT).slots t 3).cast nbuf0_3))
    (spec0_4.stage ((cfgA m hT).slots t 4)) (hstage0_4 (((cfgA m hT).slots t 4).cast nbuf0_4))
    (spec0_5.stage ((cfgA m hT).slots t 5)) (hstage0_5 (((cfgA m hT).slots t 5).cast nbuf0_5))
    (Memref.whole main_v0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6

theorem defs₀_row (t : Fin (cfgA m hT).N) :
    defs₀ (F := F) .tc (cfgA m hT).body ((cfgA m hT).bodyArgs t ((cfgA m hT).slots t)) = bodyAt m hT t := by
  unfold defs₀; rw [Defs.onTc_tc]; rfl

def bodyPre (c : Dev nD) (t : Fin (cfgA m hT).N) : sProp 𝕄 :=
  iprop((dats m hT 0 c).Φ t.castSucc ∗ (dats m hT 0 c).owesAt () t.castSucc
    ∗ (∃ d, owns (c : Thread nD τ) (stg m hT 0 t) fullShare ((dats m hT 0 c).before (0 : Fin 6) t d))
    ∗ (∃ d, owns (c : Thread nD τ) (stg m hT 1 t) fullShare ((dats m hT 0 c).before (1 : Fin 6) t d))
    ∗ (∃ d, owns (c : Thread nD τ) (stg m hT 2 t) fullShare ((dats m hT 0 c).before (2 : Fin 6) t d))
    ∗ (∃ d, owns (c : Thread nD τ) (stg m hT 3 t) fullShare ((dats m hT 0 c).before (3 : Fin 6) t d))
    ∗ (∃ d, owns (c : Thread nD τ) (stg m hT 4 t) fullShare ((dats m hT 0 c).before (4 : Fin 6) t d))
    ∗ (∃ d, owns (c : Thread nD τ) (stg m hT 5 t) fullShare ((dats m hT 0 c).before (5 : Fin 6) t d)))
def bodyPost (c : Dev nD) (t : Fin (cfgA m hT).N) : sProp 𝕄 :=
  iprop((dats m hT 0 c).Φ t.succ ∗ (dats m hT 0 c).owesAt () t.succ
    ∗ owns (c : Thread nD τ) (stg m hT 0 t) fullShare ((dats m hT 0 c).after (0 : Fin 6) t)
    ∗ owns (c : Thread nD τ) (stg m hT 1 t) fullShare ((dats m hT 0 c).after (1 : Fin 6) t)
    ∗ owns (c : Thread nD τ) (stg m hT 2 t) fullShare ((dats m hT 0 c).after (2 : Fin 6) t)
    ∗ owns (c : Thread nD τ) (stg m hT 3 t) fullShare ((dats m hT 0 c).after (3 : Fin 6) t)
    ∗ owns (c : Thread nD τ) (stg m hT 4 t) fullShare ((dats m hT 0 c).after (4 : Fin 6) t)
    ∗ owns (c : Thread nD τ) (stg m hT 5 t) fullShare ((dats m hT 0 c).after (5 : Fin 6) t))

theorem sound_body (c : Dev nD) (t : Fin (cfgA m hT).N) :
    bodyPre m hT c t ⊢ run c (bodyAt m hT t) (fun _ => bodyPost m hT c t) := by
  have key := body c (args m c).job tq (grid0.coords t) (Memref.whole main_arg3) (Memref.isWhole_whole _)
    (spec0_0.stage ((cfgA m hT).slots t 0)) (hstage0_0 (((cfgA m hT).slots t 0).cast nbuf0_0))
    (spec0_1.stage ((cfgA m hT).slots t 1)) (hstage0_1 (((cfgA m hT).slots t 1).cast nbuf0_1))
    (spec0_2.stage ((cfgA m hT).slots t 2)) (hstage0_2 (((cfgA m hT).slots t 2).cast nbuf0_2))
    (spec0_3.stage ((cfgA m hT).slots t 3)) (hstage0_3 (((cfgA m hT).slots t 3).cast nbuf0_3))
    (spec0_4.stage ((cfgA m hT).slots t 4)) (hstage0_4 (((cfgA m hT).slots t 4).cast nbuf0_4))
    (spec0_5.stage ((cfgA m hT).slots t 5)) (hstage0_5 (((cfgA m hT).slots t 5).cast nbuf0_5))
    fullShare.right fullShare fullShare fullShare fullShare fullShare fullShare
    (blkA m hT c 0 t) (blkA m hT c 1 t) (blkA m hT c 2 t) (blkA m hT c 3 t) (blkA m hT c 4 t) (blkA m hT c 5 t)
    (job_ok (args m c) (hT c)) (wins m hT c t)
  have et : tl (grid0.coords t) = t.val := tl_coords t
  rw [et] at key
  unfold bodyPre bodyPost bodyAt
  simp only [before_0, before_1, before_2, before_3, before_4, before_5, after_eq]
  rw [show (dats m hT 0 c).Φ t.castSucc = Phi c (args m c) t.val from rfl, show (dats m hT 0 c).Φ t.succ = Phi c (args m c) (t.val + 1) from rfl]
  unfold Phi Dat.owesAt Pipeline.owesWithin
  rw [show (dats m hT 0 c).owed t.castSucc = 0 from rfl, show (dats m hT 0 c).owed t.succ = 0 from rfl]
  refine .trans ?_ (((sep_mono_left (Q := iprop(hPt c (Transfers.shareDrop fullShare (2 * 256)) Finset.univ (args m c).h ∗ (∃ r, prngReg c r))) key).trans (wp_frame_r _ _ _)).trans (wp_mono _ _ _ fun _ => ?_))
  · iintro ⟨⟨HC, Hr, Hg, Ht⟩, ⟨%W, -, HW⟩, ⟨%d0, H0⟩, ⟨%d1, H1⟩, ⟨%d2, H2⟩, ⟨%d3, H3⟩, ⟨%d4, H4⟩, ⟨%d5, H5⟩⟩
    isplitr [Hr Hg]
    · isplitl [HC]; · iexact HC
      isplitl [HW]; · iexists W; iexact HW
      isplitl [Ht]; · iexact Ht
      isplitl [H0]; · iexact H0
      isplitl [H1]; · iexact H1
      isplitl [H2]; · iexact H2
      isplitl [H3]; · iexact H3
      isplitl [H4]; · iexact H4
      iexact H5
    · isplitl [Hr]; · iexact Hr
      iexact Hg
  · iintro ⟨⟨HC, ⟨%W, HW⟩, Ht, H0, H1, H2, H3, H4, H5⟩, Hr, Hg⟩
    isplitl [HC Hr Hg Ht]
    · isplitl [HC]; · iexact HC
      isplitl [Hr]; · iexact Hr
      isplitl [Hg]; · iexact Hg
      iexact Ht
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

set_option backward.isDefEq.respectTransparency.types false in
theorem body_obligation (c : Dev nD) : BodyObligation (dats (F := F) m hT 0 c) (defs₀ (F := F)) Variants.none () Set.univ := fun t => by
  rw [bigSep_W0, bigSep_W0, defs₀_row]
  exact triple_restated (sound_body m hT c t) rfl .rfl fun _ => .rfl

/-! ## The launch -/

theorem tab_eq (a : Args F) : a.job.tab = a.te := by
  funext x
  show a.te (ValueIdx.ix1 (n := 416) (tile (x 0).val)) = a.te x
  refine congrArg a.te ?_
  funext i; apply Fin.ext
  match i with
  | 0 => exact tile_val (x 0).isLt

/-- What the launch hands over, in the kernel's own terms. -/
theorem launch_eq (c : Dev nD) (G : (c : Dev nD) → (b : Ref sig .tc) → Buf (Elt F) ((c.tc : Thread nD τ).loc b)) :
    (Pipeline.ΦDRG (nD := nD) (τ := τ) (Val := Elt F) osem spec0 {main_arg0} {main_v0} (V m) G c : sProp 𝕄)
      ⊢ iprop(Held c (args m c) (G c main_v0) ∗ ∃ r, prngReg c r) := by
  rw [Pipeline.ΦDRG_eq, scopedRest0_eq, cells_eq]
  unfold Pipeline.routed
  rw [bigSep_singleton, bigSep_singleton]
  unfold Held
  simp only [owns_whole]
  iintro ⟨⟨⟨%f0, H0⟩, ⟨%f1, H1⟩, ⟨%f2, H2⟩, ⟨%f3, H3⟩, ⟨%f4, H4⟩⟩, Hg, Hc, Hh, Hy⟩
  isplitr [Hg]
  · isplitl [H0 H1 H2 H3 H4]
    · isplitl [H0]; · iexists f0; iexact H0
      isplitl [H1]; · iexists f1; iexact H1
      isplitl [H2]; · iexists f2; iexact H2
      isplitl [H3]; · iexists f3; iexact H3
      iexists f4; iexact H4
    isplitl [Hc]; · iexact Hc
    isplitl [Hh]; · iexact Hh
    iexact Hy
  · iexact Hg
theorem launch_eq' (c : Dev nD) (G : (c : Dev nD) → (b : Ref sig .tc) → Buf (Elt F) ((c.tc : Thread nD τ).loc b)) :
    iprop(Held c (args m c) (G c main_v0) ∗ ∃ r, prngReg c r)
      ⊢ (Pipeline.ΦDRG (nD := nD) (τ := τ) (Val := Elt F) osem spec0 {main_arg0} {main_v0} (V m) G c : sProp 𝕄) := by
  rw [Pipeline.ΦDRG_eq, scopedRest0_eq, cells_eq]
  unfold Pipeline.routed
  rw [bigSep_singleton, bigSep_singleton]
  unfold Held
  simp only [owns_whole]
  iintro ⟨⟨⟨⟨%f0, H0⟩, ⟨%f1, H1⟩, ⟨%f2, H2⟩, ⟨%f3, H3⟩, ⟨%f4, H4⟩⟩, Hc, Hh, Hy⟩, Hg⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  isplitl [Hg]; · iexact Hg
  isplitl [Hc]; · iexact Hc
  isplitl [Hh]; · iexact Hh
  iexact Hy

/-- The result the kernel leaves. -/
def res (c : Dev nD) (b : Ref sig .tc) : Buf (Elt F) ((c.tc : Thread nD τ).loc b) :=
  if h : b = main_v0 then h ▸ ((args m c).res : Buf (Elt F) ((c.tc : Thread nD τ).loc main_v0)) else V m c b
theorem res_y (c : Dev nD) : res m c main_v0 = (args m c).res := rfl

theorem start (c : Dev nD) :
    iprop(Pipeline.ΦDRG (nD := nD) (τ := τ) (Val := Elt F) osem spec0 {main_arg0} {main_v0} (V m) (V m) c ∗ Pipeline.ΦT pre0 (adm m hT 0).1 c)
      ⊢ (dats m hT 0 c).Φ 0 := by
  have hu : (Finset.univ : Finset (Fin pre0.K)) = {(0 : Fin 1)} := rfl
  have ht : (Pipeline.ΦT pre0 (adm m hT 0).1 c : sProp 𝕄) ⊢ owns (c : Thread nD τ) (Memref.whole main_arg3) fullShare.right (args m c).job.tab := by
    unfold Pipeline.ΦT Pipeline.prefHeld
    rw [hu, bigSep_singleton, owns_whole, tab_eq]
    obtain rfl := dev_eq c
    exact .rfl
  have hl : (Pipeline.ΦDRG (nD := nD) (τ := τ) (Val := Elt F) osem spec0 {main_arg0} {main_v0} (V m) (V m) c : sProp 𝕄)
      ⊢ iprop(Held c (args m c) (args m c).v ∗ ∃ r, prngReg c r) := launch_eq m c (V m)
  show _ ⊢ Phi c (args m c) 0
  unfold Phi
  iintro ⟨HD, HT⟩
  ihave HD := hl $$ HD
  icases HD with ⟨HH, Hg⟩
  ihave HH := (enter c (args m c) (hT c)) $$ HH
  icases HH with ⟨HC, Hr⟩
  ihave HT := ht $$ HT
  isplitl [HC]; · iexact HC
  isplitl [Hr]; · iexact Hr
  isplitl [Hg]; · iexact Hg
  iexact HT

theorem finish (c : Dev nD) :
    (dats m hT 0 c).Φ (Fin.last (cfgA m hT).N) ⊢ Pipeline.ΦDRG (nD := nD) (τ := τ) (Val := Elt F) osem spec0 {main_arg0} {main_v0} (V m) (res m) c := by
  have hN : (Fin.last (cfgA m hT).N).val = 416 := N_0
  show Phi c (args m c) (Fin.last (cfgA m hT).N).val ⊢ _
  rw [hN]
  refine .trans ?_ (launch_eq' m c (res m))
  unfold Phi
  iintro ⟨HC, Hr, Hg, -⟩
  isplitl [HC Hr]
  · iapply (leave c (args m c) (hT c))
    isplitl [HC]; · iexact HC
    iexact Hr
  · iexact Hg

theorem held_rest : ({main_arg0} : Finset (Ref sig .tc)) ⊆ Pipeline.restRefsP sig pre0 spec0 := by decide
theorem routed_rest : ({main_v0} : Finset (Ref sig .tc)) ⊆ Pipeline.restRefsP sig pre0 spec0 \ {main_arg0} := by decide

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_region (pcfgs (F := F)) 0 defs₀ 𝒱₀ m (main (F := F)) fun c => (main_chain c).trans rfl

set_option backward.isDefEq.respectTransparency.types false in
theorem run_main (ρ : Dev nD → PrngReg) : θ_run defs (onTc (τ := τ) (main (F := F))) ⟨m, fun _ => 0, ρ⟩
    (fun r => Pipeline.FramePostRG (Pipeline.pin (pcfgs (F := F)) (adm m hT)) (dats m hT) 0 {main_v0} (V m) (res m) r ∧ r.2.sem = fun _ => 0) :=
  Pipeline.θ_run_frameP_dmaRG_shared (Q' := _) (pcfgs (F := F)) (adm m hT) (dats m hT) (0 : Fin 1) launch₀0 osem defs₀ Variants.none osem_facts {main_arg0} {main_v0}
    held_rest routed_rest m ρ main
    (hbody := fun c => (body_obligation m hT c).loose) (hq := fun _ _ _ => rfl)
    (howed := fun _ _ => rfl) (V := V m) (hmain := hmain m Variants.none) (hA := A_eq m hT)
    (hpf := fun c k => by obtain rfl := dev_eq c; match k with | 0 => rfl) (G := res m)
    (hin := start m hT) (hout := finish m hT)

include hT in
/-- The run of the experts: the result's array at `res`, the arguments as they were, every semaphore at zero. -/
theorem run_end (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v0) = (args m c).res)
      ∧ r.2.sem = fun _ => 0) := by
  refine (θ_run defs _ _).mono (fun r h => ?_) (run_main m hT ρ)
  obtain ⟨⟨hw, hg⟩, hs⟩ := h
  have hin : ∀ (c : Dev nD) (w : Fin (cfgA m hT).W), r.2.mem ((c.tc : Thread nD τ).loc (Pipeline.arrRef spec0 w)) = V m c (Pipeline.arrRef spec0 w) := fun c w =>
    ((hw c).1 w).trans (((dats m hT 0 c).arrAt_in w (all_in m hT w) _).trans (A_eq m hT c w))
  have hrest : ∀ c : Dev nD, ∀ b ∈ Pipeline.restRefs sig spec0 \ {main_v0}, r.2.mem ((c.tc : Thread nD τ).loc b) = V m c b := fun c => (hw c).2
  exact ⟨fun c => ⟨hrest c main_arg0 (by decide), hin c (0 : Fin 6), hin c (2 : Fin 6), hrest c main_arg3 (by decide), hin c (3 : Fin 6), hin c (4 : Fin 6), hin c (5 : Fin 6),
    (hg c main_v0 (Finset.mem_singleton_self _)).trans (res_y m c)⟩, hs⟩

end Cert.Kernel4Ideal.Ex

end
-- ==== Proof.ExSpec.lean ====
/-
  A row through an expert, as a plain function: the gate by silu, times the other projection, projected back.
-/
module

public import Idealize.ShloMosaic.Lib.Pipeline.Value
public import Idealize.ShloMosaic.Lib.Pointwise
public import Idealize.ShloMosaic.PureOps.Ideal

@[expose] public section

noncomputable section

namespace Cert.ExSpec

open Idealize.ShloMosaic

/-- `silu(x·g) · (x·u)` at a hidden column. -/
def act (x : Fin 2048 → EReal) (g u : Fin 2048 → Fin 512 → EReal) (f : Fin 512) : EReal :=
  (∑ d, x d * g d f) * Ideal.div 1 (1 + Ideal.exp (-(∑ d, x d * g d f))) * ∑ d, x d * u d f

/-- The expert's output at a column. -/
def out (x : Fin 2048 → EReal) (g u : Fin 2048 → Fin 512 → EReal) (w : Fin 512 → Fin 2048 → EReal) (j : Fin 2048) : EReal :=
  ∑ f, act x g u f * w f j

end Cert.ExSpec

end
-- ==== Proof.ExVal.lean ====
/-
  What the experts' call computes for a row, at the ideal values: the row's token through the tile's expert.
-/
module

public import proofs.«01_k».proof.Proof.ExJob
public import proofs.«01_k».proof.Proof.ExSpec

@[expose] public section

set_option maxRecDepth 16384

noncomputable section

namespace Cert.Kernel4Ideal.Ex

open Cert.Kernel4Ideal Cert.Kernel4Ideal.Gen
open Idealize.ShloMosaic

/-- A tile's output block at a row and a column. -/
theorem block_apply (x : Vec Ideal S1x256x2048 .f32) (g u : Vec Ideal S1x2048x512 .f32) (w : Vec Ideal S1x512x2048 .f32) (k : Fin 256) (j : Fin 2048) :
    (k0_pay1 (F := Ideal) (k0_pay5 x) (k0_pay2 g) (k0_pay3 u) (k0_pay4 w)) (ValueIdx.ix3 (n0 := 1) (n1 := 256) (n2 := 2048) ⟨0, Nat.one_pos⟩ k j)
      = ExSpec.out (fun d => x (ix3 ⟨0, Nat.one_pos⟩ k d)) (fun d f => g (ix3 ⟨0, Nat.one_pos⟩ d f)) (fun d f => u (ix3 ⟨0, Nat.one_pos⟩ d f))
          (fun f j => w (ix3 ⟨0, Nat.one_pos⟩ f j)) j := by
  unfold ExSpec.out ExSpec.act k0_pay1 k0_pay2 k0_pay3 k0_pay4 k0_pay5
  pointwise
  simp only [zero_sub]

variable (a : Args Ideal) (hT : Tables a.src a.dst a.te)

/-- The result's row that tile `n` writes for its row `k`: the row's token through the tile's expert. -/
theorem res_row (n : Fin 416) (k : Fin 256) (j : Fin 2048) (hT : Tables a.src a.dst a.te) :
    a.res (ValueIdx.ix2 (n0 := 106496) (n1 := 2048) (a.row n.val k) j)
      = ExSpec.out (fun d => a.h (ValueIdx.ix2 (n0 := 49152) (n1 := 2048) (a.tok n.val k) d)) (fun d f => a.wg (ValueIdx.ix3 (n0 := 32) (n1 := 2048) (n2 := 512) (a.exp n.val) d f))
          (fun d f => a.wu (ValueIdx.ix3 (n0 := 32) (n1 := 2048) (n2 := 512) (a.exp n.val) d f)) (fun f j => a.wd (ValueIdx.ix3 (n0 := 32) (n1 := 512) (n2 := 2048) (a.exp n.val) f j)) j := by
  have e := place_row a hT n k
  have h1 : a.res (ValueIdx.ix2 (n0 := 106496) (n1 := 2048) (a.row n.val k) j)
      = a.job0.out (a.place (a.row n.val k)).1.val (ValueIdx.ix3 (n0 := 1) (n1 := 256) (n2 := 2048) ⟨0, Nat.one_pos⟩ (a.place (a.row n.val k)).2 j) := rfl
  rw [h1, e]
  exact block_apply (a.job0.slab n.val) (wBlk a.wg (a.exp n.val)) (wBlk a.wu (a.exp n.val)) (dBlk a.wd (a.exp n.val)) k j

end Cert.Kernel4Ideal.Ex

end
-- ==== Proof.ExBits.lean ====
/- The experts' call on bit patterns: its text is that of its idealization, so the run proved for any reading of the floats is its
   run too. -/
module

public import proofs.«01_k».proof.Defs
public import proofs.«01_k».proof.Proof.Gen.Kernel4
public import proofs.«01_k».proof.Proof.Gen.Kernel4Ideal
public import proofs.«01_k».proof.Proof.Gen.Pre_tables
public import proofs.«01_k».proof.Proof.ExRun

@[expose] public section

set_option maxRecDepth 65536
set_option maxHeartbeats 4000000

noncomputable section

namespace Cert.Kernel4.Ex

open Idealize.ShloMosaic Idealize.SL.Sem

/-- At every grid point the body that the call runs is the idealization's. -/
theorem body_eq : ∀ (l : Cert.Kernel4Ideal.Λ₀.Label) (x : Cert.Kernel4Ideal.Λ₀.Args l),
    Cert.Kernel4.defs₀ (F := Bits) .tc l x = Cert.Kernel4Ideal.defs₀ (F := Bits) .tc l x
  | 0, (t, s) => rfl
  | ⟨_ + 1, h⟩, _ => absurd h (Nat.not_lt.2 (Nat.le_add_left _ _))

/-- So are the bodies of every processor. -/
theorem bodies_eq : Cert.Kernel4.defs₀ (F := Bits) = Cert.Kernel4Ideal.defs₀ (F := Bits) := by
  funext (p : Proc Cert.Kernel4Ideal.τ) (l : Cert.Kernel4Ideal.Λ₀.Label) (x : Cert.Kernel4Ideal.Λ₀.Args l)
  match p with
  | .tc => exact body_eq l x
  | .scScalar _ => rfl
  | .scVector _ _ => rfl

/-- So is the whole table, with the pipeline's own bodies. -/
theorem table_eq : Cert.Kernel4.defs (F := Bits) = Cert.Kernel4Ideal.defs (F := Bits) :=
  congrArg (Pipeline.defs (Cert.Kernel4Ideal.pcfgs (F := Bits))) bodies_eq

/-- On tables that are in range the call on bit patterns runs to its end without a fault and leaves its arguments alone. -/
theorem frame : Cert.quiescent_Kernel4 := fun m ρ h => by
  have hq := (θ_run (Cert.Kernel4Ideal.defs (F := Bits)) _ _).mono
    (fun _ r => And.intro (fun c => And.intro (r.1 c).1 (And.intro (r.1 c).2.1 (And.intro (r.1 c).2.2.1 (And.intro (r.1 c).2.2.2.1
      (And.intro (r.1 c).2.2.2.2.1 (And.intro (r.1 c).2.2.2.2.2.1 (r.1 c).2.2.2.2.2.2.1)))))) r.2)
    (Cert.Kernel4Ideal.Ex.run_end (F := Bits) m (fun c => Cert.Kernel4Ideal.Ex.tables_of_pre _ _ _ _ _ _ _ (h c)) ρ)
  rw [table_eq]
  exact hq

end Cert.Kernel4.Ex

end
-- ==== Proof.ExHost.lean ====
/-
  Three host operations on rows, read at an index: a table's blocks taken by a list of numbers, the product of every row with a
  matrix of its own, and rows written at the places a list names.
-/
module

public import Idealize.ShloMosaic.Lib.Routing.OpsPair
public import Idealize.ShloMosaic.Lib.Routing.OpsSet
public import Idealize.ShloMosaic.Lib.Routing.Ops
public import Idealize.ShloMosaic.Lib.StackMember

@[expose] public section

set_option maxRecDepth 16384

noncomputable section

namespace Cert.ExHost

open Idealize.ShloMosaic Idealize.ShloMosaic.ValueIdx

variable {α : Type}

/-- A list of block numbers taken from a stack of blocks: block `r` of the result is the stack's block of number `idx r`. -/
theorem gather_block {N A B n : Nat} (hN : N < 2 ^ 31) (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (r : Fin n) (p : Fin A) (q : Fin B) (e : Fin N)
    (he : (idx (ix2 r (0 : Fin 1))).toNat = e.val) :
    Host.gather (⟨[1, 2], [0], [], [], [0], 1, ![1, A, B], wf⟩ : GatherDims _ _ _) x idx (ix3 r p q) = x (ix3 e p q) := by
  unfold Host.gather
  refine congrArg x (funext fun a => Fin.ext ?_)
  have hi : (idx (ix2 r (0 : Fin 1))).toInt = (e.val : Int) := by
    have h := BitVec.toInt_eq_toNat_cond (idx (ix2 r (0 : Fin 1)))
    have := e.isLt
    rw [if_pos (by omega)] at h
    rw [h, he]
  set d : GatherDims ⟨3, ![N, A, B]⟩ ⟨2, ![n, 1]⟩ ⟨3, ![n, A, B]⟩ := ⟨[1, 2], [0], [], [], [0], 1, ![1, A, B], wf⟩ with hd
  show d.start (ix3 r p q) idx a + d.batchCoord (ix3 r p q) a + d.offCoord (ix3 r p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ d.startIndexMap from List.mem_singleton.mpr rfl)]
    have hsi : d.siIdx (ix3 r p q) ⟨List.idxOf (0 : Fin 3) d.startIndexMap, List.idxOf_lt_length_iff.2 (List.mem_singleton.mpr rfl)⟩
        = ix2 r (0 : Fin 1) := by
      funext b; refine Fin.ext ?_
      match b with
      | ⟨0, _⟩ => rfl
      | ⟨1, _⟩ => rfl
    refine (congrArg (fun z => min (idx z).toInt.toNat (N - 1)) hsi).trans ?_
    show min (idx (ix2 r (0 : Fin 1))).toInt.toNat (N - 1) = e.val
    rw [hi]
    have := e.isLt
    rw [Int.toNat_natCast]; omega
  | ⟨1, _⟩ =>
    unfold GatherDims.start
    rw [dif_neg (show (⟨1, by decide⟩ : Fin 3) ∉ d.startIndexMap from by simp [hd]), Nat.zero_add]
    rfl
  | ⟨2, _⟩ =>
    unfold GatherDims.start
    rw [dif_neg (show (⟨2, by decide⟩ : Fin 3) ∉ d.startIndexMap from by simp [hd]), Nat.zero_add]
    rfl

/-- Every row times a matrix of its own. -/
theorem dot_rows {G k n : Nat} {φ₁ φ₂ : FTy} (w : DotDims.WF ⟨2, ![G, k]⟩ ⟨3, ![G, k, n]⟩ ⟨2, ![G, n]⟩ [1] [1] [] [2] [0] [0])
    (prec : Option ContractPrecision) (A : FVec Ideal ⟨2, ![G, k]⟩ φ₁) (B : FVec Ideal ⟨3, ![G, k, n]⟩ φ₂) (g : Fin G) (b : Fin n) :
    Host.dotGeneral (⟨[1], [1], [], [2], [0], [0], w⟩ : DotDims _ _ _) prec A B (ix2 g b) = ∑ c : Fin k, A (ix2 g c) * B (ix3 g c b) := by
  set D : DotDims ⟨2, ![G, k]⟩ ⟨3, ![G, k, n]⟩ ⟨2, ![G, n]⟩ := ⟨[1], [1], [], [2], [0], [0], w⟩ with hD
  show FloatOps.dotGeneral _ prec _ A B (ix2 g b) = _
  rw [Ideal.dotGeneral_apply, ← Equiv.sum_comp (contrEquiv1 D k rfl rfl).symm]
  refine Finset.sum_congr rfl fun c _ => ?_
  have hc := contrEquiv1_symm_val D k rfl rfl c
  have hl : D.lhsIdx (ix2 g b) ((contrEquiv1 D k rfl rfl).symm c) = ix2 g c := by
    funext ax; apply Fin.ext
    match ax with
    | ⟨0, _⟩ => rfl
    | ⟨1, _⟩ => exact hc
  have hr : D.rhsIdx (ix2 g b) ((contrEquiv1 D k rfl rfl).symm c) = ix3 g c b := by
    funext ax; apply Fin.ext
    match ax with
    | ⟨0, _⟩ => rfl
    | ⟨1, _⟩ => exact hc
    | ⟨2, _⟩ => rfl
  rw [hl, hr]

/-- Where row `r`'s element `c` is written: at the row its word names, at its own column. -/
theorem lands_row {N C n : Nat} (wf : ScatterDims.WF ⟨2, ![N, C]⟩ ⟨2, ![n, 1]⟩ ⟨2, ![n, C]⟩ [1] [0] [0] 1)
    (idx : IVec ⟨2, ![n, 1]⟩ 32) (r : Fin n) (c : Fin C) (y : Fin N) (j : Fin C) :
    (⟨[1], [0], [0], 1, wf⟩ : ScatterDims _ _ _).resultIdx? (ix2 r c) idx = some (ix2 y j)
      ↔ (idx (ix2 r (0 : Fin 1))).toInt = (y.val : Int) ∧ c = j := by
  set d : ScatterDims ⟨2, ![N, C]⟩ ⟨2, ![n, 1]⟩ ⟨2, ![n, C]⟩ := ⟨[1], [0], [0], 1, wf⟩ with hd
  have s0 : d.start (ix2 r c) idx 0 = (idx (ix2 r (0 : Fin 1))).toInt := by
    unfold ScatterDims.start
    rw [dif_pos (show (0 : Fin 2) ∈ d.scatterDimsToOperandDims from List.mem_singleton.mpr rfl)]
    refine congrArg (fun z => (idx z).toInt) (funext fun b => Fin.ext ?_)
    match b with
    | ⟨0, _⟩ => rfl
    | ⟨1, _⟩ => rfl
  have s1 : d.start (ix2 r c) idx 1 = 0 := by
    unfold ScatterDims.start
    rw [dif_neg (show (1 : Fin 2) ∉ d.scatterDimsToOperandDims from by simp [hd])]
  have w0 : d.window (ix2 r c) 0 = 0 := by
    unfold ScatterDims.window
    rw [dif_neg (fun h => (of_decide_eq_true (List.mem_filter.1 h).2) (List.mem_singleton.mpr rfl))]
  have w1 : d.window (ix2 r c) 1 = c.val := rfl
  refine (Routing.resultIdx?_ix2 d (ix2 r c) idx y j).trans ?_
  rw [s0, s1, w0, w1]
  refine ⟨fun h => ⟨by have := h.1; omega, Fin.ext (by have := h.2; omega)⟩, fun h => ⟨by have := h.1; omega, by rw [h.2]; omega⟩⟩

end Cert.ExHost

end
-- ==== Proof.ExRef.lean ====
/-
  The reference for the experts, read at a row and a column: the row some tile names there is that row's token through its
  expert.
-/
module

public import proofs.«01_k».proof.Proof.Gen.Reference4Ideal.Run
public import proofs.«01_k».proof.Proof.ExSpec
public import proofs.«01_k».proof.Proof.ExHost
public import proofs.«01_k».proof.Proof.ExPre

@[expose] public section

set_option maxRecDepth 16384

noncomputable section

namespace Cert.Reference4Ideal.Ex

open Idealize.ShloMosaic Idealize.ShloMosaic.TcCoe Idealize.SL.Sem
open Cert.Reference4Ideal Cert.Reference4Ideal.Gen

variable (h : Vec Ideal S49152x2048 .f32) (src dst : Vec Ideal S416x1x256 .i32) (te : Vec Ideal S416 .i32)
  (wg wu : Vec Ideal S32x2048x512 .f32) (wd : Vec Ideal S32x512x2048 .f32)

/-- A list of numbers as a column of indices, a negative one counted from the end. -/
abbrev col (x : IVec S106496 32) (N : BitVec 32) : IVec S106496x1 32 :=
  broadcastInDim S106496x1 ![0] bcast_S106496_S106496x1_0 (select (cmpi .slt x (broadcastInDim S106496 ![] bcast_S_S106496 (constantI S_ 32 0#32)))
    (addi x (broadcastInDim S106496 ![] bcast_S_S106496 (constantI S_ 32 N))) x)

theorem col_at (z : IVec S106496 32) (r : Fin 106496) :
    broadcastInDim S106496x1 ![0] bcast_S106496_S106496x1_0 z (ValueIdx.ix2 (n0 := 106496) (n1 := 1) r (0 : Fin 1)) = z (ValueIdx.ix1 (n := 106496) r) :=
  congrArg z (by funext a; match a with | ⟨0, _⟩ => rfl)

/-- Of a number that is not negative it is the number. -/
theorem col_apply (x : IVec S106496 32) (N : BitVec 32) (r : Fin 106496) (hx : (x (ValueIdx.ix1 (n := 106496) r)).toNat < 106496) :
    col x N (ValueIdx.ix2 (n0 := 106496) (n1 := 1) r (0 : Fin 1)) = x (ValueIdx.ix1 (n := 106496) r) :=
  have e : col x N (ValueIdx.ix2 (n0 := 106496) (n1 := 1) r (0 : Fin 1)) = Scalar.select (IntOp.cmpi .slt (x (ValueIdx.ix1 (n := 106496) r)) 0#32)
      (IntOp.addi (x (ValueIdx.ix1 (n := 106496) r)) N) (x (ValueIdx.ix1 (n := 106496) r)) := by
    unfold col select cmpi addi
    have ei : ∀ z : IVec S106496 32, broadcastInDim S106496x1 ![0] bcast_S106496_S106496x1_0 z (ValueIdx.ix2 (n0 := 106496) (n1 := 1) r (0 : Fin 1)) = z (ValueIdx.ix1 (n := 106496) r) :=
      fun z => col_at z r
    rw [ei]; rfl
  e.trans (Cert.Kernel4Ideal.Ex.wrap_of_nonneg N (x (ValueIdx.ix1 (n := 106496) r)) _ rfl hx)

/-- A table of tiles as one list. -/
abbrev flat (t : IVec S416x1x256 32) : IVec S106496 32 := shapeCast S106496 t shapeCasts_S416x1x256_S106496
/-- Each row's expert: its tile's. -/
abbrev exps : IVec S106496 32 := shapeCast S106496 (broadcastInDim S416x256 ![0] bcast_S416_S416x256_0 te) shapeCasts_S416x256_S106496

/-- Row `k` of tile `n` in the list. -/
def at' (n : Fin 416) (k : Fin 256) : Fin 106496 := ⟨n.val * 256 + k.val, by have := n.isLt; have := k.isLt; omega⟩

theorem flat_apply (t : IVec S416x1x256 32) (n : Fin 416) (k : Fin 256) :
    flat t (ValueIdx.ix1 (n := 106496) (at' n k)) = t (ValueIdx.ix3 (n0 := 416) (n1 := 1) (n2 := 256) n ⟨0, Nat.one_pos⟩ k) :=
  shapeCast_apply t shapeCasts_S416x1x256_S106496 _ _ (by
    rw [Shape.rowMajor_val_three, Shape.rowMajor_val_one]
    show (n.val * 1 + 0) * 256 + k.val = n.val * 256 + k.val
    omega)

theorem exps_apply (n : Fin 416) (k : Fin 256) : exps te (ValueIdx.ix1 (n := 106496) (at' n k)) = te (ValueIdx.ix1 (n := 416) n) :=
  (shapeCast_apply (broadcastInDim S416x256 ![0] bcast_S416_S416x256_0 te) shapeCasts_S416x256_S106496 (ValueIdx.ix1 (n := 106496) (at' n k)) (ValueIdx.ix2 (n0 := 416) (n1 := 256) n k) (by
    rw [Shape.rowMajor_val_two, Shape.rowMajor_val_one]
    show n.val * 256 + k.val = n.val * 256 + k.val
    rfl)).trans (congrArg te (by funext a; match a with | ⟨0, _⟩ => rfl))

/-- The rows' tokens. -/
abbrev rows : FVec Ideal S106496x2048 .f32 := Host.gather gather_S49152x2048_S106496x1_S106496x2048_1_0_n_n_0_1_12048 h (col (flat src) 49152#32)
/-- The rows' blocks of a weight. -/
abbrev wide (w : Vec Ideal S32x2048x512 .f32) : FVec Ideal S106496x2048x512 .f32 :=
  Host.gather gather_S32x2048x512_S106496x1_S106496x2048x512_12_0_n_n_0_1_12048512 w (col (exps te) 32#32)
abbrev tall : FVec Ideal S106496x512x2048 .f32 :=
  Host.gather gather_S32x512x2048_S106496x1_S106496x512x2048_12_0_n_n_0_1_15122048 wd (col (exps te) 32#32)
/-- The rows' products with them. -/
abbrev proj (w : Vec Ideal S32x2048x512 .f32) : FVec Ideal S106496x512 .f32 :=
  Host.dotGeneral (φ₁ := .f32) (φ₂ := .f32) dot_S106496x2048_S106496x2048x512_S106496x512_1_1_n_2_0_0 none (rows h src) (wide te w)
/-- The gate by silu, times the other product. -/
abbrev acts (G U : FVec Ideal S106496x512 .f32) : FVec Ideal S106496x512 .f32 :=
  mulf (mulf G (Host.divf (broadcastInDim S106496x512 ![] bcast_S_S106496x512 (constant S_ .f32 0x3F800000#32))
    (addf (broadcastInDim S106496x512 ![] bcast_S_S106496x512 (constant S_ .f32 0x3F800000#32)) (Host.exp (Host.negf G))))) U
/-- The rows' outputs, in the tiles' order. -/
abbrev outs : FVec Ideal S106496x2048 .f32 :=
  Host.dotGeneral (φ₁ := .f32) (φ₂ := .f32) dot_S106496x512_S106496x512x2048_S106496x2048_1_1_n_2_0_0 none
    (acts (proj h src te wg) (proj h src te wu)) (tall te wd)

theorem rows_apply (n : Fin 416) (k : Fin 256) (t : Fin 49152) (ht : (src (ValueIdx.ix3 (n0 := 416) (n1 := 1) (n2 := 256) n ⟨0, Nat.one_pos⟩ k)).toNat = t.val) (d : Fin 2048) :
    rows h src (ValueIdx.ix2 (n0 := 106496) (n1 := 2048) (at' n k) d) = h (ValueIdx.ix2 (n0 := 49152) (n1 := 2048) t d) := by
  have e := flat_apply src n k
  have hw : (flat src (ValueIdx.ix1 (n := 106496) (at' n k))).toNat = t.val := (congrArg BitVec.toNat e).trans ht
  refine Routing.gather_row (nb := 49152) (B := 2048) (n := 106496) gather_S49152x2048_S106496x1_S106496x2048_1_0_n_n_0_1_12048 rfl rfl rfl rfl rfl h _ (at' n k) d t ?_ (by norm_num)
  rw [col_apply _ _ _ (by have := t.isLt; omega)]
  rw [← hw, BitVec.ofNat_toNat, BitVec.setWidth_eq]

theorem exps_num (n : Fin 416) (k : Fin 256) (x : Fin 32) (hx : (te (ValueIdx.ix1 (n := 416) n)).toNat = x.val) :
    (col (exps te) 32#32 (ValueIdx.ix2 (n0 := 106496) (n1 := 1) (at' n k) (0 : Fin 1))).toNat = x.val := by
  have hw : (exps te (ValueIdx.ix1 (n := 106496) (at' n k))).toNat = x.val := (congrArg BitVec.toNat (exps_apply te n k)).trans hx
  rw [col_apply _ _ _ (by have := x.isLt; omega)]
  exact hw

theorem wide_apply (w : Vec Ideal S32x2048x512 .f32) (n : Fin 416) (k : Fin 256) (x : Fin 32) (hx : (te (ValueIdx.ix1 (n := 416) n)).toNat = x.val) (d : Fin 2048) (f : Fin 512) :
    wide te w (ValueIdx.ix3 (n0 := 106496) (n1 := 2048) (n2 := 512) (at' n k) d f) = w (ValueIdx.ix3 (n0 := 32) (n1 := 2048) (n2 := 512) x d f) :=
  ExHost.gather_block (by norm_num) _ w _ (at' n k) d f x (exps_num te n k x hx)

theorem tall_apply (n : Fin 416) (k : Fin 256) (x : Fin 32) (hx : (te (ValueIdx.ix1 (n := 416) n)).toNat = x.val) (f : Fin 512) (d : Fin 2048) :
    tall te wd (ValueIdx.ix3 (n0 := 106496) (n1 := 512) (n2 := 2048) (at' n k) f d) = wd (ValueIdx.ix3 (n0 := 32) (n1 := 512) (n2 := 2048) x f d) :=
  ExHost.gather_block (by norm_num) _ wd _ (at' n k) f d x (exps_num te n k x hx)

theorem proj_apply (w : Vec Ideal S32x2048x512 .f32) (n : Fin 416) (k : Fin 256) (t : Fin 49152) (x : Fin 32)
    (ht : (src (ValueIdx.ix3 (n0 := 416) (n1 := 1) (n2 := 256) n ⟨0, Nat.one_pos⟩ k)).toNat = t.val) (hx : (te (ValueIdx.ix1 (n := 416) n)).toNat = x.val) (f : Fin 512) :
    proj h src te w (ValueIdx.ix2 (n0 := 106496) (n1 := 512) (at' n k) f)
      = ∑ d : Fin 2048, h (ValueIdx.ix2 (n0 := 49152) (n1 := 2048) t d) * w (ValueIdx.ix3 (n0 := 32) (n1 := 2048) (n2 := 512) x d f) :=
  (ExHost.dot_rows _ none (rows h src) (wide te w) (at' n k) f).trans
    (Finset.sum_congr rfl fun d _ => by rw [rows_apply h src n k t ht d, wide_apply te w n k x hx d f])

theorem acts_apply (G U : FVec Ideal S106496x512 .f32) (r : Fin 106496) (f : Fin 512) :
    acts G U (ValueIdx.ix2 (n0 := 106496) (n1 := 512) r f) = G (ValueIdx.ix2 (n0 := 106496) (n1 := 512) r f)
      * Ideal.div 1 (1 + Ideal.exp (-(G (ValueIdx.ix2 (n0 := 106496) (n1 := 512) r f)))) * U (ValueIdx.ix2 (n0 := 106496) (n1 := 512) r f) := by
  unfold acts
  pointwise

/-- A row's output. -/
theorem outs_apply (n : Fin 416) (k : Fin 256) (t : Fin 49152) (x : Fin 32)
    (ht : (src (ValueIdx.ix3 (n0 := 416) (n1 := 1) (n2 := 256) n ⟨0, Nat.one_pos⟩ k)).toNat = t.val) (hx : (te (ValueIdx.ix1 (n := 416) n)).toNat = x.val) (j : Fin 2048) :
    outs h src te wg wu wd (ValueIdx.ix2 (n0 := 106496) (n1 := 2048) (at' n k) j)
      = ExSpec.out (fun d => h (ValueIdx.ix2 (n0 := 49152) (n1 := 2048) t d)) (fun d f => wg (ValueIdx.ix3 (n0 := 32) (n1 := 2048) (n2 := 512) x d f))
          (fun d f => wu (ValueIdx.ix3 (n0 := 32) (n1 := 2048) (n2 := 512) x d f)) (fun f j => wd (ValueIdx.ix3 (n0 := 32) (n1 := 512) (n2 := 2048) x f j)) j :=
  (ExHost.dot_rows _ none (acts (proj h src te wg) (proj h src te wu)) (tall te wd) (at' n k) j).trans
    (Finset.sum_congr rfl fun f _ => by
      rw [acts_apply, proj_apply h src te wg n k t x ht hx f, proj_apply h src te wu n k t x ht hx f, tall_apply te wd n k x hx f j]; rfl)

/-- The result: every row written at its place. -/
abbrev result : FVec Ideal S106496x2048 .f32 :=
  Host.scatter scatter_S106496x2048_S106496x1_S106496x2048_1_0_0_1 (fun _ b => b) (broadcastInDim S106496x2048 ![] bcast_S_S106496x2048 (constant S_ .f32 0x00000000#32))
    (col (flat dst) 106496#32) (outs h src te wg wu wd)

theorem result_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_out0 Value.res_main_v44
  rfl

/-- Where the numbers of the places are those of `q`, each row once, the result at row `q n k` is the output of row `k` of tile `n`. -/
theorem result_apply (q : Fin 416 → Fin 256 → Fin 106496)
    (hq : ∀ n k, (dst (ValueIdx.ix3 (n0 := 416) (n1 := 1) (n2 := 256) n ⟨0, Nat.one_pos⟩ k)).toNat = (q n k).val)
    (inj : ∀ n k n' k', q n k = q n' k' → n = n' ∧ k = k') (n : Fin 416) (k : Fin 256) (j : Fin 2048) :
    result h src dst te wg wu wd (ValueIdx.ix2 (n0 := 106496) (n1 := 2048) (q n k) j) = outs h src te wg wu wd (ValueIdx.ix2 (n0 := 106496) (n1 := 2048) (at' n k) j) := by
  have word : ∀ n k, (col (flat dst) 106496#32 (ValueIdx.ix2 (n0 := 106496) (n1 := 1) (at' n k) (0 : Fin 1))).toInt = ((q n k).val : Int) := fun n k => by
    have hw : (flat dst (ValueIdx.ix1 (n := 106496) (at' n k))).toNat = (q n k).val := (congrArg BitVec.toNat (flat_apply dst n k)).trans (hq n k)
    have hl := (q n k).isLt
    rw [col_apply _ _ _ (by omega)]
    have hb := BitVec.toInt_eq_toNat_cond (flat dst (ValueIdx.ix1 (n := 106496) (at' n k)))
    rw [if_pos (by omega), hw] at hb
    exact hb
  refine Routing.scatter_set_hit _ _ _ _ _ _ (fun z hz => ?_) (ValueIdx.ix2 (n0 := 106496) (n1 := 2048) (at' n k) j)
    ((ExHost.lands_row _ _ _ _ _ _).2 ⟨word n k, rfl⟩)
  have ez : z = ValueIdx.ix2 (n0 := 106496) (n1 := 2048) (z 0) (z 1) := by
    funext a; match a with | ⟨0, _⟩ => rfl | ⟨1, _⟩ => rfl
  have e0 : (z 0 : Fin 106496) = at' ⟨(z 0).val / 256, by have : (z 0).val < 106496 := (z 0).isLt; omega⟩ ⟨(z 0).val % 256, Nat.mod_lt _ (by norm_num)⟩ :=
    Fin.ext (by show (z 0).val = (z 0).val / 256 * 256 + (z 0).val % 256; omega)
  rw [ez] at hz
  obtain ⟨h1, h2⟩ := (ExHost.lands_row _ _ _ _ _ _).1 hz
  rw [e0, word] at h1
  obtain ⟨a1, a2⟩ := inj _ _ _ _ (Fin.ext (by exact_mod_cast h1))
  rw [ez, h2, e0, a1, a2]

end Cert.Reference4Ideal.Ex

end
-- ==== Proof.lean ====
/- The claims of this directory, assembled: every program's frame, and each kernel's value against its reference. -/
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Defs
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.FinalPrompt
public import proofs.«01_k».proof.Proof.FinalSample
public import proofs.«01_k».proof.Proof.FinalRef
public import proofs.«01_k».proof.Proof.InGrid
public import proofs.«01_k».proof.Proof.InRef
public import proofs.«01_k».proof.Proof.ExRun
public import proofs.«01_k».proof.Proof.ExVal
public import proofs.«01_k».proof.Proof.ExBits
public import proofs.«01_k».proof.Proof.ExRef
public import proofs.«01_k».proof.Proof.Gen.Kernel4
public import proofs.«01_k».proof.Proof.Gen.Kernel4Ideal
public import proofs.«01_k».proof.Proof.Gen.Reference4Ideal
public import proofs.«01_k».proof.Proof.Gen.Pre_tables
public import proofs.«01_k».proof.Proof.Gen.Reference4Ideal.Run
public import Idealize.ShloMosaic.Lib.Quiescent
public import Idealize.ShloMosaic.Adequacy
public import Idealize.ShloMosaic.Init

@[expose] public section

noncomputable section

namespace Cert.Proof

open Idealize.ShloMosaic Idealize.SL.Sem

/-! ## The layer's last step: two expert rows added by their weights, and the norm -/

/-- The prompt's call runs to its end without a fault and leaves its arguments alone. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- The prompt's reference is a straight line of host operations and has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The sampled tokens' call runs to its end without a fault and leaves its arguments alone. -/
theorem frame_kernel2 : Cert.quiescent_Kernel2 := fun m ρ _ => Cert.Kernel2.Gen.frame m ρ

/-- So does its idealization. -/
theorem frame_kernel2Ideal : Cert.quiescent_Kernel2Ideal := fun m ρ _ => Cert.Kernel2Ideal.Gen.frame m ρ

/-- The sampled tokens' reference is a straight line of host operations and has no semaphore. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- On the prompt's tokens the kernel's result is the reference's: both are the specification of every token. -/
theorem value_prompt : Cert.algebraic_KernelIdeal_ReferenceIdeal := fun m ρ m' ρ' _ hag =>
  ⟨fun c => Cert.KernelIdeal.Final.result m c, Cert.KernelIdeal.Final.run m ρ,
    (θ_run Cert.ReferenceIdeal.defs _ _).mono (fun _ h c => ⟨(h c).1.trans (by
      funext (i : Cert.ReferenceIdeal.S32768x2048.Idx)
      have hi : i = ix2 (n0 := 32768) (n1 := 2048) (i 0) (i 1) := by
        funext a; match a with | ⟨0, _⟩ => rfl | ⟨1, _⟩ => rfl
      rw [hi]
      refine (Cert.FinalSpec.prompt_apply m' c (i 0) (i 1)).trans ?_
      obtain ⟨h0, h1, h2, h3⟩ := hag c
      rw [h0, h1, h2, h3]
      exact congrArg (fun R => Cert.FinalSpec.tokenOut _ _ _ _ R (i 1)) (Fin.ext (Nat.zero_add _).symm)), (h c).2⟩)
    (Cert.ReferenceIdeal.Value.run (F := Ideal) m' ρ')⟩

/-- On the sampled tokens the kernel's result is the reference's: both are the specification of every token. -/
theorem value_sample : Cert.algebraic_Kernel2Ideal_Reference2Ideal := fun m ρ m' ρ' _ hag =>
  ⟨fun c => Cert.Kernel2Ideal.Final.result m c, Cert.Kernel2Ideal.Final.run m ρ,
    (θ_run Cert.Reference2Ideal.defs _ _).mono (fun _ h c => ⟨(h c).1.trans (by
      funext (i : Cert.Reference2Ideal.S16384x2048.Idx)
      have hi : i = ix2 (n0 := 16384) (n1 := 2048) (i 0) (i 1) := by
        funext a; match a with | ⟨0, _⟩ => rfl | ⟨1, _⟩ => rfl
      rw [hi]
      refine (Cert.FinalSpec.sample_apply m' c (i 0) (i 1)).trans ?_
      obtain ⟨h0, h1, h2, h3⟩ := hag c
      rw [h0, h1, h2, h3]
      rfl), (h c).2⟩)
    (Cert.Reference2Ideal.Value.run (F := Ideal) m' ρ')⟩

/-! ## The layer's first step: the norm and the projection -/

/-- The projection's call runs to its end without a fault and leaves its arguments alone. -/
theorem frame_kernel3 : Cert.quiescent_Kernel3 := fun m ρ _ => Cert.Kernel3.Gen.frame m ρ

/-- So does its idealization. -/
theorem frame_kernel3Ideal : Cert.quiescent_Kernel3Ideal := fun m ρ _ => Cert.Kernel3Ideal.Gen.frame m ρ

/-- The projection's reference is a straight line of host operations and has no semaphore. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The projection's slabs are the reference's: both are the specification of every slab, token and lane. -/
theorem value_projection : Cert.algebraic_Kernel3Ideal_Reference3Ideal := fun m ρ m' ρ' _ hag =>
  ⟨fun c => Cert.Kernel3Ideal.In.result m c, Cert.Kernel3Ideal.In.run m ρ,
    (θ_run Cert.Reference3Ideal.defs _ _).mono (fun _ h c => ⟨(h c).1.trans (by
      funext (i : Cert.Reference3Ideal.S52x49152x128.Idx)
      have hi : i = ix3 (n0 := 52) (n1 := 49152) (n2 := 128) (i 0) (i 1) (i 2) := by
        funext a; match a with | ⟨0, _⟩ => rfl | ⟨1, _⟩ => rfl | ⟨2, _⟩ => rfl
      rw [hi]
      refine (Cert.Reference3Ideal.In.slab_apply _ _ _ _ (i 0) (i 1) (i 2)).trans ?_
      obtain ⟨h0, h1, h2, h3⟩ := hag c
      rw [h0, h1, h2, h3]
      rfl), (h c).2⟩)
    (Cert.Reference3Ideal.Value.run (F := Ideal) m' ρ')⟩

/-! ## The experts -/

/-- On tables that are in range the experts' call runs to its end without a fault and leaves its arguments alone. -/
theorem frame_kernel4Ideal : Cert.quiescent_Kernel4Ideal := fun m ρ h =>
  (θ_run Cert.Kernel4Ideal.defs _ _).mono (fun _ r => ⟨fun c => ⟨(r.1 c).1, (r.1 c).2.1, (r.1 c).2.2.1, (r.1 c).2.2.2.1, (r.1 c).2.2.2.2.1, (r.1 c).2.2.2.2.2.1, (r.1 c).2.2.2.2.2.2.1⟩, r.2⟩)
    (Cert.Kernel4Ideal.Ex.run_end (F := Ideal) m (fun c => Cert.Kernel4Ideal.Ex.tables_of_pre _ _ _ _ _ _ _ (h c)) ρ)

/-- So does the call on bit patterns. -/
theorem frame_kernel4 : Cert.quiescent_Kernel4 := Cert.Kernel4.Ex.frame

/-- The experts' reference is a straight line of host operations and has no semaphore. -/
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Kernel4Ideal.Ex in
/-- The reference's result is the call's. -/
theorem rows_eq (m : (ℓ : Loc Cert.Kernel4Ideal.nD Cert.Kernel4Ideal.τ Cert.Kernel4Ideal.sig) → Buf (Elt Ideal) ℓ) (c : Dev Cert.Kernel4Ideal.nD)
    (hT : Tables (args m c).src (args m c).dst (args m c).te) :
    Cert.Reference4Ideal.Ex.result (args m c).h (args m c).src (args m c).dst (args m c).te (args m c).wg (args m c).wu (args m c).wd = (args m c).res := by
  funext (i : Cert.Reference4Ideal.S106496x2048.Idx)
  obtain ⟨⟨n, k⟩, hn⟩ := row_surj (args m c) hT (i 0)
  have hi : i = ValueIdx.ix2 (n0 := 106496) (n1 := 2048) ((args m c).row n.val k) (i 1) := by
    funext a; match a with | ⟨0, _⟩ => exact hn.symm | ⟨1, _⟩ => rfl
  rw [hi]
  refine (Cert.Reference4Ideal.Ex.result_apply (args m c).h (args m c).src (args m c).dst (args m c).te (args m c).wg (args m c).wu (args m c).wd
    (fun n k => (args m c).row n.val k) (fun n k => row_val (args m c) hT n k) (fun n k n' k' e => ?_) n k (i 1)).trans ?_
  · have := row_inj (args m c) hT (a₁ := (n, k)) (a₂ := (n', k')) e
    exact ⟨congrArg Prod.fst this, congrArg Prod.snd this⟩
  · refine (Cert.Reference4Ideal.Ex.outs_apply (args m c).h (args m c).src (args m c).te (args m c).wg (args m c).wu (args m c).wd n k
      ((args m c).tok n.val k) ((args m c).exp n.val) (tok_val (args m c) hT n k) ?_ (i 1)).trans (res_row (args m c) n k (i 1) hT).symm
    refine Eq.trans ?_ (exp_val (args m c) hT n.val).symm
    show _ = ((args m c).te (ValueIdx.ix1 (n := 416) (tile n.val))).toNat
    rw [tile_fin]

/-- On tables that are in range the call's result is the reference's. -/
theorem value_experts : Cert.algebraic_Kernel4Ideal_Reference4Ideal := fun m ρ m' ρ' hp hag =>
  have hT : Cert.Kernel4Ideal.Ex.Good m := fun c => Cert.Kernel4Ideal.Ex.tables_of_pre _ _ _ _ _ _ _ (hp c)
  ⟨fun c => (Cert.Kernel4Ideal.Ex.args m c).res,
    (θ_run Cert.Kernel4Ideal.defs _ _).mono (fun _ r c => ⟨(r.1 c).2.2.2.2.2.2.2, (r.1 c).1, (r.1 c).2.1, (r.1 c).2.2.1, (r.1 c).2.2.2.1, (r.1 c).2.2.2.2.1, (r.1 c).2.2.2.2.2.1, (r.1 c).2.2.2.2.2.2.1⟩)
      (Cert.Kernel4Ideal.Ex.run_end (F := Ideal) m hT ρ),
    (θ_run Cert.Reference4Ideal.defs _ _).mono (fun _ h c => ⟨(h c).1.trans ((Cert.Reference4Ideal.Ex.result_eq m' c).trans (by
      obtain ⟨h0, h1, h2, h3, h4, h5, h6⟩ := hag c
      rw [h0, h1, h2, h3, h4, h5, h6]
      exact rows_eq m c (hT c))), (h c).2⟩)
    (Cert.Reference4Ideal.Value.run (F := Ideal) m' ρ')⟩

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_tables.Gen.facts,
  frame_kernel, frame_kernelIdeal, frame_referenceIdeal, frame_kernel2, frame_kernel2Ideal, frame_reference2Ideal,
  frame_kernel3, frame_kernel3Ideal, frame_reference3Ideal, frame_kernel4, frame_kernel4Ideal, frame_reference4Ideal,
  trivial, value_prompt, trivial, value_sample, trivial, value_projection, trivial, value_experts⟩

end Cert.Proof

end
